-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_inputs [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18))).1 = (fun _ => 1#1)
    ∧ (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18))).2.1 = (fun _ => 1#1)
    ∧ (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18))).2.2.1 = (fun _ => 1#1)
    ∧ (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18))).2.2.2.1 = (fun _ => 1#1)
    ∧ (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18))).2.2.2.2.1 = (fun _ => 1#1)
    ∧ (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18))).2.2.2.2.2.1 = (fun _ => 1#1)
    ∧ (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18))).2.2.2.2.2.2.1 = (fun _ => 1#1)
    ∧ (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18))).2.2.2.2.2.2.2.1 = (fun _ => 1#1)
    ∧ (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18))).2.2.2.2.2.2.2.2.1 = (fun _ => 1#1)
    ∧ (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18))).2.2.2.2.2.2.2.2.2.1 = (fun _ => 1#1)
    ∧ (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18))).2.2.2.2.2.2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_inputs [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18))).1 = (fun _ => 1#1)
    ∧ (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18))).2.1 = (fun _ => 1#1)
    ∧ (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18))).2.2.1 = (fun _ => 1#1)
    ∧ (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18))).2.2.2.1 = (fun _ => 1#1)
    ∧ (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18))).2.2.2.2.1 = (fun _ => 1#1)
    ∧ (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18))).2.2.2.2.2.1 = (fun _ => 1#1)
    ∧ (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18))).2.2.2.2.2.2.1 = (fun _ => 1#1)
    ∧ (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18))).2.2.2.2.2.2.2.1 = (fun _ => 1#1)
    ∧ (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18))).2.2.2.2.2.2.2.2.1 = (fun _ => 1#1)
    ∧ (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18))).2.2.2.2.2.2.2.2.2.1 = (fun _ => 1#1)
    ∧ (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18))).2.2.2.2.2.2.2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))
      ∧ r.2.sem = fun _ => 0)

def quiescent_KernelIdeal_pre_finite_inputs [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_inputs m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18))
      ∧ r.2.sem = fun _ => 0)

def quiescent_ReferenceIdeal_pre_finite_inputs [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_inputs m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18))
      ∧ r.2.sem = fun _ => 0)

def preserves_Kernel_KernelIdeal : Prop :=
  True

def algebraic_KernelIdeal_ReferenceIdeal_on_all_but_losses [hKernelIdeal : Cert.KernelIdeal.Facts] [hReferenceIdeal : Cert.ReferenceIdeal.Facts] [hOn_all_but_losses : Cert.On_all_but_losses.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)) →
    ∃ (v0 : (c : Dev Cert.KernelIdeal.nD) → Buf (Elt Ideal) ((c.tc : Thread Cert.KernelIdeal.nD Cert.KernelIdeal.τ).loc Cert.KernelIdeal.main_v12_0)) (v1 : (c : Dev Cert.KernelIdeal.nD) → Buf (Elt Ideal) ((c.tc : Thread Cert.KernelIdeal.nD Cert.KernelIdeal.τ).loc Cert.KernelIdeal.main_v12_1)) (v2 : (c : Dev Cert.KernelIdeal.nD) → Buf (Elt Ideal) ((c.tc : Thread Cert.KernelIdeal.nD Cert.KernelIdeal.τ).loc Cert.KernelIdeal.main_v12_2)) (v3 : (c : Dev Cert.KernelIdeal.nD) → Buf (Elt Ideal) ((c.tc : Thread Cert.KernelIdeal.nD Cert.KernelIdeal.τ).loc Cert.KernelIdeal.main_v12_3)) (v4 : (c : Dev Cert.KernelIdeal.nD) → Buf (Elt Ideal) ((c.tc : Thread Cert.KernelIdeal.nD Cert.KernelIdeal.τ).loc Cert.KernelIdeal.main_v12_4)) (v5 : (c : Dev Cert.KernelIdeal.nD) → Buf (Elt Ideal) ((c.tc : Thread Cert.KernelIdeal.nD Cert.KernelIdeal.τ).loc Cert.KernelIdeal.main_v12_5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          (∀ i : (⟨2, ![16384, 256]⟩ : Shape).Idx, (Cert.On_all_but_losses.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18))).1 i = 1#1 → r.2.mem ((c.tc : Thread Cert.KernelIdeal.nD Cert.KernelIdeal.τ).loc Cert.KernelIdeal.main_v12_0) i = v0 c i)
          ∧ (∀ i : (⟨2, ![16384, 256]⟩ : Shape).Idx, (Cert.On_all_but_losses.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18))).2.1 i = 1#1 → r.2.mem ((c.tc : Thread Cert.KernelIdeal.nD Cert.KernelIdeal.τ).loc Cert.KernelIdeal.main_v12_1) i = v1 c i)
          ∧ (∀ i : (⟨2, ![16384, 1]⟩ : Shape).Idx, (Cert.On_all_but_losses.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18))).2.2.1 i = 1#1 → r.2.mem ((c.tc : Thread Cert.KernelIdeal.nD Cert.KernelIdeal.τ).loc Cert.KernelIdeal.main_v12_2) i = v2 c i)
          ∧ (∀ i : (⟨2, ![16384, 1]⟩ : Shape).Idx, (Cert.On_all_but_losses.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18))).2.2.2.1 i = 1#1 → r.2.mem ((c.tc : Thread Cert.KernelIdeal.nD Cert.KernelIdeal.τ).loc Cert.KernelIdeal.main_v12_3) i = v3 c i)
          ∧ (∀ i : (⟨2, ![1, 1]⟩ : Shape).Idx, (Cert.On_all_but_losses.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18))).2.2.2.2.1 i = 1#1 → r.2.mem ((c.tc : Thread Cert.KernelIdeal.nD Cert.KernelIdeal.τ).loc Cert.KernelIdeal.main_v12_4) i = v4 c i)
          ∧ (∀ i : (⟨2, ![1, 1]⟩ : Shape).Idx, (Cert.On_all_but_losses.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18))).2.2.2.2.2 i = 1#1 → r.2.mem ((c.tc : Thread Cert.KernelIdeal.nD Cert.KernelIdeal.τ).loc Cert.KernelIdeal.main_v12_5) i = v5 c i)
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          (∀ i : (⟨2, ![16384, 256]⟩ : Shape).Idx, (Cert.On_all_but_losses.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18))).1 i = 1#1 → r.2.mem ((c.tc : Thread Cert.ReferenceIdeal.nD Cert.ReferenceIdeal.τ).loc Cert.ReferenceIdeal.main_v26) i = v0 c i)
          ∧ (∀ i : (⟨2, ![16384, 256]⟩ : Shape).Idx, (Cert.On_all_but_losses.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18))).2.1 i = 1#1 → r.2.mem ((c.tc : Thread Cert.ReferenceIdeal.nD Cert.ReferenceIdeal.τ).loc Cert.ReferenceIdeal.main_v42) i = v1 c i)
          ∧ (∀ i : (⟨2, ![16384, 1]⟩ : Shape).Idx, (Cert.On_all_but_losses.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18))).2.2.1 i = 1#1 → r.2.mem ((c.tc : Thread Cert.ReferenceIdeal.nD Cert.ReferenceIdeal.τ).loc Cert.ReferenceIdeal.main_v113) i = v2 c i)
          ∧ (∀ i : (⟨2, ![16384, 1]⟩ : Shape).Idx, (Cert.On_all_but_losses.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18))).2.2.2.1 i = 1#1 → r.2.mem ((c.tc : Thread Cert.ReferenceIdeal.nD Cert.ReferenceIdeal.τ).loc Cert.ReferenceIdeal.main_v137) i = v3 c i)
          ∧ (∀ i : (⟨2, ![1, 1]⟩ : Shape).Idx, (Cert.On_all_but_losses.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18))).2.2.2.2.1 i = 1#1 → r.2.mem ((c.tc : Thread Cert.ReferenceIdeal.nD Cert.ReferenceIdeal.τ).loc Cert.ReferenceIdeal.main_v138) i = v4 c i)
          ∧ (∀ i : (⟨2, ![1, 1]⟩ : Shape).Idx, (Cert.On_all_but_losses.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18))).2.2.2.2.2 i = 1#1 → r.2.mem ((c.tc : Thread Cert.ReferenceIdeal.nD Cert.ReferenceIdeal.τ).loc Cert.ReferenceIdeal.main_v139) i = v5 c i)
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18))

def algebraic_KernelIdeal_ReferenceIdeal_pre_finite_inputs [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_inputs m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)) →
    ∃ (v0 : (c : Dev Cert.KernelIdeal.nD) → Buf (Elt Ideal) ((c.tc : Thread Cert.KernelIdeal.nD Cert.KernelIdeal.τ).loc Cert.KernelIdeal.main_v12_0)) (v1 : (c : Dev Cert.KernelIdeal.nD) → Buf (Elt Ideal) ((c.tc : Thread Cert.KernelIdeal.nD Cert.KernelIdeal.τ).loc Cert.KernelIdeal.main_v12_1)) (v2 : (c : Dev Cert.KernelIdeal.nD) → Buf (Elt Ideal) ((c.tc : Thread Cert.KernelIdeal.nD Cert.KernelIdeal.τ).loc Cert.KernelIdeal.main_v12_2)) (v3 : (c : Dev Cert.KernelIdeal.nD) → Buf (Elt Ideal) ((c.tc : Thread Cert.KernelIdeal.nD Cert.KernelIdeal.τ).loc Cert.KernelIdeal.main_v12_3)) (v4 : (c : Dev Cert.KernelIdeal.nD) → Buf (Elt Ideal) ((c.tc : Thread Cert.KernelIdeal.nD Cert.KernelIdeal.τ).loc Cert.KernelIdeal.main_v12_4)) (v5 : (c : Dev Cert.KernelIdeal.nD) → Buf (Elt Ideal) ((c.tc : Thread Cert.KernelIdeal.nD Cert.KernelIdeal.τ).loc Cert.KernelIdeal.main_v12_5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12_0) = v0 c
          ∧ r.2.mem ((c.tc : Thread Cert.KernelIdeal.nD Cert.KernelIdeal.τ).loc Cert.KernelIdeal.main_v12_1) = v1 c
          ∧ r.2.mem ((c.tc : Thread Cert.KernelIdeal.nD Cert.KernelIdeal.τ).loc Cert.KernelIdeal.main_v12_2) = v2 c
          ∧ r.2.mem ((c.tc : Thread Cert.KernelIdeal.nD Cert.KernelIdeal.τ).loc Cert.KernelIdeal.main_v12_3) = v3 c
          ∧ r.2.mem ((c.tc : Thread Cert.KernelIdeal.nD Cert.KernelIdeal.τ).loc Cert.KernelIdeal.main_v12_4) = v4 c
          ∧ r.2.mem ((c.tc : Thread Cert.KernelIdeal.nD Cert.KernelIdeal.τ).loc Cert.KernelIdeal.main_v12_5) = v5 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v26) = v0 c
          ∧ r.2.mem ((c.tc : Thread Cert.ReferenceIdeal.nD Cert.ReferenceIdeal.τ).loc Cert.ReferenceIdeal.main_v42) = v1 c
          ∧ r.2.mem ((c.tc : Thread Cert.ReferenceIdeal.nD Cert.ReferenceIdeal.τ).loc Cert.ReferenceIdeal.main_v113) = v2 c
          ∧ r.2.mem ((c.tc : Thread Cert.ReferenceIdeal.nD Cert.ReferenceIdeal.τ).loc Cert.ReferenceIdeal.main_v137) = v3 c
          ∧ r.2.mem ((c.tc : Thread Cert.ReferenceIdeal.nD Cert.ReferenceIdeal.τ).loc Cert.ReferenceIdeal.main_v138) = v4 c
          ∧ r.2.mem ((c.tc : Thread Cert.ReferenceIdeal.nD Cert.ReferenceIdeal.τ).loc Cert.ReferenceIdeal.main_v139) = v5 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18))

def Claim : Prop :=
  ∃ (hKernel : Cert.Kernel.Facts) (hKernelIdeal : Cert.KernelIdeal.Facts) (hReferenceIdeal : Cert.ReferenceIdeal.Facts) (hPre_finite_inputs : Cert.Pre_finite_inputs.Facts) (hOn_all_but_losses : Cert.On_all_but_losses.Facts),
    quiescent_Kernel (hKernel := hKernel)
    ∧ quiescent_KernelIdeal (hKernelIdeal := hKernelIdeal)
    ∧ quiescent_KernelIdeal_pre_finite_inputs (hKernelIdeal := hKernelIdeal) (hPre_finite_inputs := hPre_finite_inputs)
    ∧ quiescent_ReferenceIdeal (hReferenceIdeal := hReferenceIdeal)
    ∧ quiescent_ReferenceIdeal_pre_finite_inputs (hReferenceIdeal := hReferenceIdeal) (hPre_finite_inputs := hPre_finite_inputs)
    ∧ preserves_Kernel_KernelIdeal
    ∧ algebraic_KernelIdeal_ReferenceIdeal_on_all_but_losses (hKernelIdeal := hKernelIdeal) (hReferenceIdeal := hReferenceIdeal) (hOn_all_but_losses := hOn_all_but_losses)
    ∧ algebraic_KernelIdeal_ReferenceIdeal_pre_finite_inputs (hKernelIdeal := hKernelIdeal) (hReferenceIdeal := hReferenceIdeal) (hPre_finite_inputs := hPre_finite_inputs)
-- ==== On_all_but_losses.lean ====
abbrev S16384x1 : Shape := ⟨2, ![16384, 1]⟩
abbrev S10x1 : Shape := ⟨2, ![10, 1]⟩
abbrev S10 : Shape := ⟨1, ![10]⟩
abbrev S50x10 : Shape := ⟨2, ![50, 10]⟩
abbrev S50 : Shape := ⟨1, ![50]⟩
abbrev S256x50 : Shape := ⟨2, ![256, 50]⟩
abbrev S256 : Shape := ⟨1, ![256]⟩
abbrev S100x256 : Shape := ⟨2, ![100, 256]⟩
abbrev S100 : Shape := ⟨1, ![100]⟩
abbrev S60x100 : Shape := ⟨2, ![60, 100]⟩
abbrev S60 : Shape := ⟨1, ![60]⟩
abbrev S30x60 : Shape := ⟨2, ![30, 60]⟩
abbrev S30 : Shape := ⟨1, ![30]⟩
abbrev S1x30 : Shape := ⟨2, ![1, 30]⟩
abbrev S1 : Shape := ⟨1, ![1]⟩
abbrev S256x256 : Shape := ⟨2, ![256, 256]⟩
abbrev S16384x256 : Shape := ⟨2, ![16384, 256]⟩
abbrev S_ : Shape := ⟨0, ![]⟩
abbrev S1x1 : Shape := ⟨2, ![1, 1]⟩

class Facts : Prop where
  bcast_S_S16384x256 : S_.BroadcastsInDim S16384x256 (![] : Fin 0 → Fin S16384x256.rank)
  bcast_S_S16384x1 : S_.BroadcastsInDim S16384x1 (![] : Fin 0 → Fin S16384x1.rank)
  bcast_S_S1x1 : S_.BroadcastsInDim S1x1 (![] : Fin 0 → Fin S1x1.rank)

variable [Facts]

def fn {F : FTy → Type} [FloatOps F] (main_arg0 : FVec F S16384x1 .f32) (main_arg1 : FVec F S10x1 .f32) (main_arg2 : FVec F S10 .f32) (main_arg3 : FVec F S50x10 .f32) (main_arg4 : FVec F S50 .f32) (main_arg5 : FVec F S256x50 .f32) (main_arg6 : FVec F S256 .f32) (main_arg7 : FVec F S256x50 .f32) (main_arg8 : FVec F S256 .f32) (main_arg9 : FVec F S100x256 .f32) (main_arg10 : FVec F S100 .f32) (main_arg11 : FVec F S60x100 .f32) (main_arg12 : FVec F S60 .f32) (main_arg13 : FVec F S30x60 .f32) (main_arg14 : FVec F S30 .f32) (main_arg15 : FVec F S1x30 .f32) (main_arg16 : FVec F S1 .f32) (main_arg17 : FVec F S256x256 .f32) (main_arg18 : FVec F S16384x256 .f32) : IVec S16384x256 1 × IVec S16384x256 1 × IVec S16384x1 1 × IVec S16384x1 1 × IVec S1x1 1 × IVec S1x1 1 :=
  let main_c : IVec S_ 1 := constantI S_ 1 1#1
  let main_v0 : IVec S16384x256 1 := broadcastInDim S16384x256 ![] bcast_S_S16384x256 main_c
  let main_c_0 : IVec S_ 1 := constantI S_ 1 1#1
  let main_v1 : IVec S16384x256 1 := broadcastInDim S16384x256 ![] bcast_S_S16384x256 main_c_0
  let main_c_1 : IVec S_ 1 := constantI S_ 1 1#1
  let main_v2 : IVec S16384x1 1 := broadcastInDim S16384x1 ![] bcast_S_S16384x1 main_c_1
  let main_c_2 : IVec S_ 1 := constantI S_ 1 1#1
  let main_v3 : IVec S16384x1 1 := broadcastInDim S16384x1 ![] bcast_S_S16384x1 main_c_2
  let main_c_3 : IVec S_ 1 := constantI S_ 1 0#1
  let main_v4 : IVec S1x1 1 := broadcastInDim S1x1 ![] bcast_S_S1x1 main_c_3
  let main_c_4 : IVec S_ 1 := constantI S_ 1 0#1
  let main_v5 : IVec S1x1 1 := broadcastInDim S1x1 ![] bcast_S_S1x1 main_c_4
  (main_v0, main_v1, main_v2, main_v3, main_v4, main_v5)
-- ==== Pre_finite_inputs.lean ====
abbrev S16384x1 : Shape := ⟨2, ![16384, 1]⟩
abbrev S10x1 : Shape := ⟨2, ![10, 1]⟩
abbrev S10 : Shape := ⟨1, ![10]⟩
abbrev S50x10 : Shape := ⟨2, ![50, 10]⟩
abbrev S50 : Shape := ⟨1, ![50]⟩
abbrev S256x50 : Shape := ⟨2, ![256, 50]⟩
abbrev S256 : Shape := ⟨1, ![256]⟩
abbrev S100x256 : Shape := ⟨2, ![100, 256]⟩
abbrev S100 : Shape := ⟨1, ![100]⟩
abbrev S60x100 : Shape := ⟨2, ![60, 100]⟩
abbrev S60 : Shape := ⟨1, ![60]⟩
abbrev S30x60 : Shape := ⟨2, ![30, 60]⟩
abbrev S30 : Shape := ⟨1, ![30]⟩
abbrev S1x30 : Shape := ⟨2, ![1, 30]⟩
abbrev S1 : Shape := ⟨1, ![1]⟩
abbrev S256x256 : Shape := ⟨2, ![256, 256]⟩
abbrev S16384x256 : Shape := ⟨2, ![16384, 256]⟩
abbrev S_ : Shape := ⟨0, ![]⟩

class Facts : Prop where
  bcast_S_S16384x1 : S_.BroadcastsInDim S16384x1 (![] : Fin 0 → Fin S16384x1.rank)
  bcast_S_S10x1 : S_.BroadcastsInDim S10x1 (![] : Fin 0 → Fin S10x1.rank)
  bcast_S_S10 : S_.BroadcastsInDim S10 (![] : Fin 0 → Fin S10.rank)
  bcast_S_S50x10 : S_.BroadcastsInDim S50x10 (![] : Fin 0 → Fin S50x10.rank)
  bcast_S_S50 : S_.BroadcastsInDim S50 (![] : Fin 0 → Fin S50.rank)
  bcast_S_S256x50 : S_.BroadcastsInDim S256x50 (![] : Fin 0 → Fin S256x50.rank)
  bcast_S_S256 : S_.BroadcastsInDim S256 (![] : Fin 0 → Fin S256.rank)
  bcast_S_S256x256 : S_.BroadcastsInDim S256x256 (![] : Fin 0 → Fin S256x256.rank)
  bcast_S_S16384x256 : S_.BroadcastsInDim S16384x256 (![] : Fin 0 → Fin S16384x256.rank)

variable [Facts]

def fn_part1 {F : FTy → Type} [FloatOps F] (main_arg6 : FVec F S256 .f32) (main_arg7 : FVec F S256x50 .f32) (main_arg8 : FVec F S256 .f32) (main_arg17 : FVec F S256x256 .f32) (main_arg18 : FVec F S16384x256 .f32) (main_v2 : IVec S16384x1 1) (main_v5 : IVec S10x1 1) (main_v8 : IVec S10 1) (main_v11 : IVec S50x10 1) (main_v14 : IVec S50 1) (main_v17 : IVec S256x50 1) : IVec S16384x1 1 × IVec S10x1 1 × IVec S10 1 × IVec S50x10 1 × IVec S50 1 × IVec S256x50 1 × IVec S256 1 × IVec S256x50 1 × IVec S256 1 × IVec S256x256 1 × IVec S16384x256 1 :=
  let main_v18 : FVec F S256 .f32 := Host.absf main_arg6
  let main_cst_5 : FVec F S_ .f32 := constant S_ .f32 0x7F800000#32
  let main_v19 : FVec F S256 .f32 := broadcastInDim S256 ![] bcast_S_S256 main_cst_5
  let main_v20 : IVec S256 1 := cmpf .olt main_v18 main_v19
  let main_v21 : FVec F S256x50 .f32 := Host.absf main_arg7
  let main_cst_6 : FVec F S_ .f32 := constant S_ .f32 0x7F800000#32
  let main_v22 : FVec F S256x50 .f32 := broadcastInDim S256x50 ![] bcast_S_S256x50 main_cst_6
  let main_v23 : IVec S256x50 1 := cmpf .olt main_v21 main_v22
  let main_v24 : FVec F S256 .f32 := Host.absf main_arg8
  let main_cst_7 : FVec F S_ .f32 := constant S_ .f32 0x7F800000#32
  let main_v25 : FVec F S256 .f32 := broadcastInDim S256 ![] bcast_S_S256 main_cst_7
  let main_v26 : IVec S256 1 := cmpf .olt main_v24 main_v25
  let main_v27 : FVec F S256x256 .f32 := Host.absf main_arg17
  let main_cst_8 : FVec F S_ .f32 := constant S_ .f32 0x7F800000#32
  let main_v28 : FVec F S256x256 .f32 := broadcastInDim S256x256 ![] bcast_S_S256x256 main_cst_8
  let main_v29 : IVec S256x256 1 := cmpf .olt main_v27 main_v28
  let main_v30 : FVec F S16384x256 .f32 := Host.absf main_arg18
  let main_cst_9 : FVec F S_ .f32 := constant S_ .f32 0x7F800000#32
  let main_v31 : FVec F S16384x256 .f32 := broadcastInDim S16384x256 ![] bcast_S_S16384x256 main_cst_9
  let main_v32 : IVec S16384x256 1 := cmpf .olt main_v30 main_v31
  (main_v2, main_v5, main_v8, main_v11, main_v14, main_v17, main_v20, main_v23, main_v26, main_v29, main_v32)

def fn {F : FTy → Type} [FloatOps F] (main_arg0 : FVec F S16384x1 .f32) (main_arg1 : FVec F S10x1 .f32) (main_arg2 : FVec F S10 .f32) (main_arg3 : FVec F S50x10 .f32) (main_arg4 : FVec F S50 .f32) (main_arg5 : FVec F S256x50 .f32) (main_arg6 : FVec F S256 .f32) (main_arg7 : FVec F S256x50 .f32) (main_arg8 : FVec F S256 .f32) (main_arg9 : FVec F S100x256 .f32) (main_arg10 : FVec F S100 .f32) (main_arg11 : FVec F S60x100 .f32) (main_arg12 : FVec F S60 .f32) (main_arg13 : FVec F S30x60 .f32) (main_arg14 : FVec F S30 .f32) (main_arg15 : FVec F S1x30 .f32) (main_arg16 : FVec F S1 .f32) (main_arg17 : FVec F S256x256 .f32) (main_arg18 : FVec F S16384x256 .f32) : IVec S16384x1 1 × IVec S10x1 1 × IVec S10 1 × IVec S50x10 1 × IVec S50 1 × IVec S256x50 1 × IVec S256 1 × IVec S256x50 1 × IVec S256 1 × IVec S256x256 1 × IVec S16384x256 1 :=
  let main_v0 : FVec F S16384x1 .f32 := Host.absf main_arg0
  let main_cst : FVec F S_ .f32 := constant S_ .f32 0x7F800000#32
  let main_v1 : FVec F S16384x1 .f32 := broadcastInDim S16384x1 ![] bcast_S_S16384x1 main_cst
  let main_v2 : IVec S16384x1 1 := cmpf .olt main_v0 main_v1
  let main_v3 : FVec F S10x1 .f32 := Host.absf main_arg1
  let main_cst_0 : FVec F S_ .f32 := constant S_ .f32 0x7F800000#32
  let main_v4 : FVec F S10x1 .f32 := broadcastInDim S10x1 ![] bcast_S_S10x1 main_cst_0
  let main_v5 : IVec S10x1 1 := cmpf .olt main_v3 main_v4
  let main_v6 : FVec F S10 .f32 := Host.absf main_arg2
  let main_cst_1 : FVec F S_ .f32 := constant S_ .f32 0x7F800000#32
  let main_v7 : FVec F S10 .f32 := broadcastInDim S10 ![] bcast_S_S10 main_cst_1
  let main_v8 : IVec S10 1 := cmpf .olt main_v6 main_v7
  let main_v9 : FVec F S50x10 .f32 := Host.absf main_arg3
  let main_cst_2 : FVec F S_ .f32 := constant S_ .f32 0x7F800000#32
  let main_v10 : FVec F S50x10 .f32 := broadcastInDim S50x10 ![] bcast_S_S50x10 main_cst_2
  let main_v11 : IVec S50x10 1 := cmpf .olt main_v9 main_v10
  let main_v12 : FVec F S50 .f32 := Host.absf main_arg4
  let main_cst_3 : FVec F S_ .f32 := constant S_ .f32 0x7F800000#32
  let main_v13 : FVec F S50 .f32 := broadcastInDim S50 ![] bcast_S_S50 main_cst_3
  let main_v14 : IVec S50 1 := cmpf .olt main_v12 main_v13
  let main_v15 : FVec F S256x50 .f32 := Host.absf main_arg5
  let main_cst_4 : FVec F S_ .f32 := constant S_ .f32 0x7F800000#32
  let main_v16 : FVec F S256x50 .f32 := broadcastInDim S256x50 ![] bcast_S_S256x50 main_cst_4
  let main_v17 : IVec S256x50 1 := cmpf .olt main_v15 main_v16
  fn_part1 (F := F) main_arg6 main_arg7 main_arg8 main_arg17 main_arg18 main_v2 main_v5 main_v8 main_v11 main_v14 main_v17
-- ==== Kernel.lean ====
abbrev S16384x1 : Shape := ⟨2, ![16384, 1]⟩
abbrev S10x1 : Shape := ⟨2, ![10, 1]⟩
abbrev S10 : Shape := ⟨1, ![10]⟩
abbrev S50x10 : Shape := ⟨2, ![50, 10]⟩
abbrev S50 : Shape := ⟨1, ![50]⟩
abbrev S256x50 : Shape := ⟨2, ![256, 50]⟩
abbrev S256 : Shape := ⟨1, ![256]⟩
abbrev S100x256 : Shape := ⟨2, ![100, 256]⟩
abbrev S100 : Shape := ⟨1, ![100]⟩
abbrev S60x100 : Shape := ⟨2, ![60, 100]⟩
abbrev S60 : Shape := ⟨1, ![60]⟩
abbrev S30x60 : Shape := ⟨2, ![30, 60]⟩
abbrev S30 : Shape := ⟨1, ![30]⟩
abbrev S1x30 : Shape := ⟨2, ![1, 30]⟩
abbrev S1 : Shape := ⟨1, ![1]⟩
abbrev S256x256 : Shape := ⟨2, ![256, 256]⟩
abbrev S16384x256 : Shape := ⟨2, ![16384, 256]⟩
abbrev S_ : Shape := ⟨0, ![]⟩
abbrev S1x256 : Shape := ⟨2, ![1, 256]⟩
abbrev S1x10 : Shape := ⟨2, ![1, 10]⟩
abbrev S1x50 : Shape := ⟨2, ![1, 50]⟩
abbrev S1x100 : Shape := ⟨2, ![1, 100]⟩
abbrev S1x60 : Shape := ⟨2, ![1, 60]⟩
abbrev S1x1 : Shape := ⟨2, ![1, 1]⟩
abbrev S2048x1 : Shape := ⟨2, ![2048, 1]⟩
abbrev S2048x256 : Shape := ⟨2, ![2048, 256]⟩
abbrev S1x128 : Shape := ⟨2, ![1, 128]⟩
abbrev S128x128 : Shape := ⟨2, ![128, 128]⟩
abbrev S512x128 : Shape := ⟨2, ![512, 128]⟩
abbrev S1x512 : Shape := ⟨2, ![1, 512]⟩
abbrev S128x256 : Shape := ⟨2, ![128, 256]⟩
abbrev S256x128 : Shape := ⟨2, ![256, 128]⟩
abbrev S2048x128 : Shape := ⟨2, ![2048, 128]⟩
abbrev S2048x512 : Shape := ⟨2, ![2048, 512]⟩
abbrev S2048 : Shape := ⟨1, ![2048]⟩
abbrev S1x2048x1 : Shape := ⟨3, ![1, 2048, 1]⟩
abbrev S1x1x1 : Shape := ⟨3, ![1, 1, 1]⟩
abbrev S1x2048x256 : Shape := ⟨3, ![1, 2048, 256]⟩

abbrev nBuf : Space → Nat
  | .hbm => 39
  | .vmem => 48
  | .smem => 0
  | _ => 0

abbrev bufTy : (tb : Table) → Fin (tcTables nBuf tb) → BufTy
  | .hbm, ⟨0, _⟩ => ⟨S16384x1, .f32⟩
  | .hbm, ⟨1, _⟩ => ⟨S10x1, .f32⟩
  | .hbm, ⟨2, _⟩ => ⟨S10, .f32⟩
  | .hbm, ⟨3, _⟩ => ⟨S50x10, .f32⟩
  | .hbm, ⟨4, _⟩ => ⟨S50, .f32⟩
  | .hbm, ⟨5, _⟩ => ⟨S256x50, .f32⟩
  | .hbm, ⟨6, _⟩ => ⟨S256, .f32⟩
  | .hbm, ⟨7, _⟩ => ⟨S256x50, .f32⟩
  | .hbm, ⟨8, _⟩ => ⟨S256, .f32⟩
  | .hbm, ⟨9, _⟩ => ⟨S100x256, .f32⟩
  | .hbm, ⟨10, _⟩ => ⟨S100, .f32⟩
  | .hbm, ⟨11, _⟩ => ⟨S60x100, .f32⟩
  | .hbm, ⟨12, _⟩ => ⟨S60, .f32⟩
  | .hbm, ⟨13, _⟩ => ⟨S30x60, .f32⟩
  | .hbm, ⟨14, _⟩ => ⟨S30, .f32⟩
  | .hbm, ⟨15, _⟩ => ⟨S1x30, .f32⟩
  | .hbm, ⟨16, _⟩ => ⟨S1, .f32⟩
  | .hbm, ⟨17, _⟩ => ⟨S256x256, .f32⟩
  | .hbm, ⟨18, _⟩ => ⟨S16384x256, .f32⟩
  | .hbm, ⟨19, _⟩ => ⟨S256x256, .f32⟩
  | .hbm, ⟨20, _⟩ => ⟨S256x256, .f32⟩
  | .hbm, ⟨21, _⟩ => ⟨S_, .f32⟩
  | .hbm, ⟨22, _⟩ => ⟨S256, .f32⟩
  | .hbm, ⟨23, _⟩ => ⟨S1x256, .f32⟩
  | .hbm, ⟨24, _⟩ => ⟨S1x10, .f32⟩
  | .hbm, ⟨25, _⟩ => ⟨S1x10, .f32⟩
  | .hbm, ⟨26, _⟩ => ⟨S1x50, .f32⟩
  | .hbm, ⟨27, _⟩ => ⟨S1x256, .f32⟩
  | .hbm, ⟨28, _⟩ => ⟨S1x256, .f32⟩
  | .hbm, ⟨29, _⟩ => ⟨S1x100, .f32⟩
  | .hbm, ⟨30, _⟩ => ⟨S1x60, .f32⟩
  | .hbm, ⟨31, _⟩ => ⟨S1x30, .f32⟩
  | .hbm, ⟨32, _⟩ => ⟨S1x1, .f32⟩
  | .hbm, ⟨33, _⟩ => ⟨S16384x256, .f32⟩
  | .hbm, ⟨34, _⟩ => ⟨S16384x256, .f32⟩
  | .hbm, ⟨35, _⟩ => ⟨S16384x1, .f32⟩
  | .hbm, ⟨36, _⟩ => ⟨S16384x1, .f32⟩
  | .hbm, ⟨37, _⟩ => ⟨S1x1, .f32⟩
  | .hbm, ⟨38, _⟩ => ⟨S1x1, .f32⟩
  | .local _ .vmem, ⟨0, _⟩ => ⟨S2048x1, .f32⟩
  | .local _ .vmem, ⟨1, _⟩ => ⟨S2048x1, .f32⟩
  | .local _ .vmem, ⟨2, _⟩ => ⟨S2048x256, .f32⟩
  | .local _ .vmem, ⟨3, _⟩ => ⟨S2048x256, .f32⟩
  | .local _ .vmem, ⟨4, _⟩ => ⟨S1x10, .f32⟩
  | .local _ .vmem, ⟨5, _⟩ => ⟨S1x10, .f32⟩
  | .local _ .vmem, ⟨6, _⟩ => ⟨S50x10, .f32⟩
  | .local _ .vmem, ⟨7, _⟩ => ⟨S1x50, .f32⟩
  | .local _ .vmem, ⟨8, _⟩ => ⟨S256x50, .f32⟩
  | .local _ .vmem, ⟨9, _⟩ => ⟨S1x256, .f32⟩
  | .local _ .vmem, ⟨10, _⟩ => ⟨S256x50, .f32⟩
  | .local _ .vmem, ⟨11, _⟩ => ⟨S1x256, .f32⟩
  | .local _ .vmem, ⟨12, _⟩ => ⟨S256x256, .f32⟩
  | .local _ .vmem, ⟨13, _⟩ => ⟨S1x256, .f32⟩
  | .local _ .vmem, ⟨14, _⟩ => ⟨S256x256, .f32⟩
  | .local _ .vmem, ⟨15, _⟩ => ⟨S100x256, .f32⟩
  | .local _ .vmem, ⟨16, _⟩ => ⟨S1x100, .f32⟩
  | .local _ .vmem, ⟨17, _⟩ => ⟨S60x100, .f32⟩
  | .local _ .vmem, ⟨18, _⟩ => ⟨S1x60, .f32⟩
  | .local _ .vmem, ⟨19, _⟩ => ⟨S30x60, .f32⟩
  | .local _ .vmem, ⟨20, _⟩ => ⟨S1x30, .f32⟩
  | .local _ .vmem, ⟨21, _⟩ => ⟨S1x30, .f32⟩
  | .local _ .vmem, ⟨22, _⟩ => ⟨S1x1, .f32⟩
  | .local _ .vmem, ⟨23, _⟩ => ⟨S2048x256, .f32⟩
  | .local _ .vmem, ⟨24, _⟩ => ⟨S2048x256, .f32⟩
  | .local _ .vmem, ⟨25, _⟩ => ⟨S2048x256, .f32⟩
  | .local _ .vmem, ⟨26, _⟩ => ⟨S2048x256, .f32⟩
  | .local _ .vmem, ⟨27, _⟩ => ⟨S2048x1, .f32⟩
  | .local _ .vmem, ⟨28, _⟩ => ⟨S2048x1, .f32⟩
  | .local _ .vmem, ⟨29, _⟩ => ⟨S2048x1, .f32⟩
  | .local _ .vmem, ⟨30, _⟩ => ⟨S2048x1, .f32⟩
  | .local _ .vmem, ⟨31, _⟩ => ⟨S1x1, .f32⟩
  | .local _ .vmem, ⟨32, _⟩ => ⟨S1x1, .f32⟩
  | .local _ .vmem, ⟨33, _⟩ => ⟨S1x128, .f32⟩
  | .local _ .vmem, ⟨34, _⟩ => ⟨S1x128, .f32⟩
  | .local _ .vmem, ⟨35, _⟩ => ⟨S128x128, .f32⟩
  | .local _ .vmem, ⟨36, _⟩ => ⟨S1x128, .f32⟩
  | .local _ .vmem, ⟨37, _⟩ => ⟨S512x128, .f32⟩
  | .local _ .vmem, ⟨38, _⟩ => ⟨S1x512, .f32⟩
  | .local _ .vmem, ⟨39, _⟩ => ⟨S128x256, .f32⟩
  | .local _ .vmem, ⟨40, _⟩ => ⟨S1x128, .f32⟩
  | .local _ .vmem, ⟨41, _⟩ => ⟨S128x128, .f32⟩
  | .local _ .vmem, ⟨42, _⟩ => ⟨S1x128, .f32⟩
  | .local _ .vmem, ⟨43, _⟩ => ⟨S128x128, .f32⟩
  | .local _ .vmem, ⟨44, _⟩ => ⟨S1x128, .f32⟩
  | .local _ .vmem, ⟨45, _⟩ => ⟨S128x128, .f32⟩
  | .local _ .vmem, ⟨46, _⟩ => ⟨S1x128, .f32⟩
  | .local _ .vmem, ⟨47, _⟩ => ⟨S256x128, .f32⟩
  | _, _ => ⟨S16384x1, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | _, _ => false

abbrev semScoped : Fin 0 → Bool
  | ⟨_, h⟩ => absurd h (Nat.not_lt_zero _)

abbrev dmaSemScoped : Fin 33 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | _ => false

abbrev sig : RefSig :=
  ofTc nBuf bufTy 0 33 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_cst : Ref sig .tc := ⟨.hbm, 19, rfl⟩
abbrev main_v0 : Ref sig .tc := ⟨.hbm, 20, rfl⟩
abbrev main_cst_0 : Ref sig .tc := ⟨.hbm, 21, rfl⟩
abbrev main_v1 : Ref sig .tc := ⟨.hbm, 22, rfl⟩
abbrev main_v2 : Ref sig .tc := ⟨.hbm, 23, rfl⟩
abbrev main_v3 : Ref sig .tc := ⟨.hbm, 24, rfl⟩
abbrev main_v4 : Ref sig .tc := ⟨.hbm, 25, rfl⟩
abbrev main_v5 : Ref sig .tc := ⟨.hbm, 26, rfl⟩
abbrev main_v6 : Ref sig .tc := ⟨.hbm, 27, rfl⟩
abbrev main_v7 : Ref sig .tc := ⟨.hbm, 28, rfl⟩
abbrev main_v8 : Ref sig .tc := ⟨.hbm, 29, rfl⟩
abbrev main_v9 : Ref sig .tc := ⟨.hbm, 30, rfl⟩
abbrev main_v10 : Ref sig .tc := ⟨.hbm, 31, rfl⟩
abbrev main_v11 : Ref sig .tc := ⟨.hbm, 32, rfl⟩
abbrev main_v12_0 : Ref sig .tc := ⟨.hbm, 33, rfl⟩
abbrev main_v12_1 : Ref sig .tc := ⟨.hbm, 34, rfl⟩
abbrev main_v12_2 : Ref sig .tc := ⟨.hbm, 35, rfl⟩
abbrev main_v12_3 : Ref sig .tc := ⟨.hbm, 36, rfl⟩
abbrev main_v12_4 : Ref sig .tc := ⟨.hbm, 37, rfl⟩
abbrev main_v12_5 : Ref sig .tc := ⟨.hbm, 38, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg12_0 : Ref sig .tc := ⟨.vmem, 14, rfl⟩
abbrev cc0_stg13_0 : Ref sig .tc := ⟨.vmem, 15, rfl⟩
abbrev cc0_stg14_0 : Ref sig .tc := ⟨.vmem, 16, rfl⟩
abbrev cc0_stg15_0 : Ref sig .tc := ⟨.vmem, 17, rfl⟩
abbrev cc0_stg16_0 : Ref sig .tc := ⟨.vmem, 18, rfl⟩
abbrev cc0_stg17_0 : Ref sig .tc := ⟨.vmem, 19, rfl⟩
abbrev cc0_stg18_0 : Ref sig .tc := ⟨.vmem, 20, rfl⟩
abbrev cc0_stg19_0 : Ref sig .tc := ⟨.vmem, 21, rfl⟩
abbrev cc0_stg20_0 : Ref sig .tc := ⟨.vmem, 22, rfl⟩
abbrev cc0_stg21_0 : Ref sig .tc := ⟨.vmem, 23, rfl⟩
abbrev cc0_stg21_1 : Ref sig .tc := ⟨.vmem, 24, rfl⟩
abbrev cc0_stg22_0 : Ref sig .tc := ⟨.vmem, 25, rfl⟩
abbrev cc0_stg22_1 : Ref sig .tc := ⟨.vmem, 26, rfl⟩
abbrev cc0_stg23_0 : Ref sig .tc := ⟨.vmem, 27, rfl⟩
abbrev cc0_stg23_1 : Ref sig .tc := ⟨.vmem, 28, rfl⟩
abbrev cc0_stg24_0 : Ref sig .tc := ⟨.vmem, 29, rfl⟩
abbrev cc0_stg24_1 : Ref sig .tc := ⟨.vmem, 30, rfl⟩
abbrev cc0_stg25_0 : Ref sig .tc := ⟨.vmem, 31, rfl⟩
abbrev cc0_stg26_0 : Ref sig .tc := ⟨.vmem, 32, rfl⟩
abbrev cc0_scratch0 : Ref sig .tc := ⟨.vmem, 33, rfl⟩
abbrev cc0_scratch1 : Ref sig .tc := ⟨.vmem, 34, rfl⟩
abbrev cc0_scratch2 : Ref sig .tc := ⟨.vmem, 35, rfl⟩
abbrev cc0_scratch3 : Ref sig .tc := ⟨.vmem, 36, rfl⟩
abbrev cc0_scratch4 : Ref sig .tc := ⟨.vmem, 37, rfl⟩
abbrev cc0_scratch5 : Ref sig .tc := ⟨.vmem, 38, rfl⟩
abbrev cc0_scratch6 : Ref sig .tc := ⟨.vmem, 39, rfl⟩
abbrev cc0_scratch7 : Ref sig .tc := ⟨.vmem, 40, rfl⟩
abbrev cc0_scratch8 : Ref sig .tc := ⟨.vmem, 41, rfl⟩
abbrev cc0_scratch9 : Ref sig .tc := ⟨.vmem, 42, rfl⟩
abbrev cc0_scratch10 : Ref sig .tc := ⟨.vmem, 43, rfl⟩
abbrev cc0_scratch11 : Ref sig .tc := ⟨.vmem, 44, rfl⟩
abbrev cc0_scratch12 : Ref sig .tc := ⟨.vmem, 45, rfl⟩
abbrev cc0_scratch13 : Ref sig .tc := ⟨.vmem, 46, rfl⟩
abbrev cc0_scratch14 : Ref sig .tc := ⟨.vmem, 47, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13
abbrev cc0_sem12_0 : DmaSem sig := 14
abbrev cc0_sem13_0 : DmaSem sig := 15
abbrev cc0_sem14_0 : DmaSem sig := 16
abbrev cc0_sem15_0 : DmaSem sig := 17
abbrev cc0_sem16_0 : DmaSem sig := 18
abbrev cc0_sem17_0 : DmaSem sig := 19
abbrev cc0_sem18_0 : DmaSem sig := 20
abbrev cc0_sem19_0 : DmaSem sig := 21
abbrev cc0_sem20_0 : DmaSem sig := 22
abbrev cc0_sem21_0 : DmaSem sig := 23
abbrev cc0_sem21_1 : DmaSem sig := 24
abbrev cc0_sem22_0 : DmaSem sig := 25
abbrev cc0_sem22_1 : DmaSem sig := 26
abbrev cc0_sem23_0 : DmaSem sig := 27
abbrev cc0_sem23_1 : DmaSem sig := 28
abbrev cc0_sem24_0 : DmaSem sig := 29
abbrev cc0_sem24_1 : DmaSem sig := 30
abbrev cc0_sem25_0 : DmaSem sig := 31
abbrev cc0_sem26_0 : DmaSem sig := 32

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_20 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_21 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_22 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_23 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_24 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_25 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_26 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S2048x1 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x10 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x10 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S50x10 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x50 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256x50 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S256x50 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x256 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S256x256 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x256 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S256x256 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S100x256 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x100 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S60x100 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S1x60 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S30x60 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S1x30 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 1 → Memref sig .tc .vmem S1x30 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]

abbrev stage0_20 : Fin 1 → Memref sig .tc .vmem S1x1 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![false]

abbrev stage0_21 : Fin 2 → Memref sig .tc .vmem S2048x256 .f32 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true]

abbrev stage0_22 : Fin 2 → Memref sig .tc .vmem S2048x256 .f32 := fun | 0 => Memref.whole cc0_stg22_0 | 1 => Memref.whole cc0_stg22_1 | ⟨_ + 2, h⟩ => absurd h (Nat.not_lt.2 (Nat.le_add_left _ _))
abbrev sem0_22 : Fin 2 → DmaSem sig := fun | 0 => cc0_sem22_0 | 1 => cc0_sem22_1 | ⟨_ + 2, h⟩ => absurd h (Nat.not_lt.2 (Nat.le_add_left _ _))
abbrev reads0_22 : Fin grid0.rank → Bool := ![true]

abbrev stage0_23 : Fin 2 → Memref sig .tc .vmem S2048x1 .f32 := fun | 0 => Memref.whole cc0_stg23_0 | 1 => Memref.whole cc0_stg23_1 | ⟨_ + 2, h⟩ => absurd h (Nat.not_lt.2 (Nat.le_add_left _ _))
abbrev sem0_23 : Fin 2 → DmaSem sig := fun | 0 => cc0_sem23_0 | 1 => cc0_sem23_1 | ⟨_ + 2, h⟩ => absurd h (Nat.not_lt.2 (Nat.le_add_left _ _))
abbrev reads0_23 : Fin grid0.rank → Bool := ![true]

abbrev stage0_24 : Fin 2 → Memref sig .tc .vmem S2048x1 .f32 := fun | 0 => Memref.whole cc0_stg24_0 | 1 => Memref.whole cc0_stg24_1 | ⟨_ + 2, h⟩ => absurd h (Nat.not_lt.2 (Nat.le_add_left _ _))
abbrev sem0_24 : Fin 2 → DmaSem sig := fun | 0 => cc0_sem24_0 | 1 => cc0_sem24_1 | ⟨_ + 2, h⟩ => absurd h (Nat.not_lt.2 (Nat.le_add_left _ _))
abbrev reads0_24 : Fin grid0.rank → Bool := ![true]

abbrev stage0_25 : Fin 1 → Memref sig .tc .vmem S1x1 .f32 := fun | 0 => Memref.whole cc0_stg25_0 | ⟨_ + 1, h⟩ => absurd h (Nat.not_lt.2 (Nat.le_add_left _ _))
abbrev sem0_25 : Fin 1 → DmaSem sig := fun | 0 => cc0_sem25_0 | ⟨_ + 1, h⟩ => absurd h (Nat.not_lt.2 (Nat.le_add_left _ _))
abbrev reads0_25 : Fin grid0.rank → Bool := ![false]

abbrev stage0_26 : Fin 1 → Memref sig .tc .vmem S1x1 .f32 := fun | 0 => Memref.whole cc0_stg26_0 | ⟨_ + 1, h⟩ => absurd h (Nat.not_lt.2 (Nat.le_add_left _ _))
abbrev sem0_26 : Fin 1 → DmaSem sig := fun | 0 => cc0_sem26_0 | ⟨_ + 1, h⟩ => absurd h (Nat.not_lt.2 (Nat.le_add_left _ _))
abbrev reads0_26 : Fin grid0.rank → Bool := ![false]
-- ==== ReferenceIdeal.lean ====
abbrev S16384x1 : Shape := ⟨2, ![16384, 1]⟩
abbrev S10x1 : Shape := ⟨2, ![10, 1]⟩
abbrev S10 : Shape := ⟨1, ![10]⟩
abbrev S50x10 : Shape := ⟨2, ![50, 10]⟩
abbrev S50 : Shape := ⟨1, ![50]⟩
abbrev S256x50 : Shape := ⟨2, ![256, 50]⟩
abbrev S256 : Shape := ⟨1, ![256]⟩
abbrev S100x256 : Shape := ⟨2, ![100, 256]⟩
abbrev S100 : Shape := ⟨1, ![100]⟩
abbrev S60x100 : Shape := ⟨2, ![60, 100]⟩
abbrev S60 : Shape := ⟨1, ![60]⟩
abbrev S30x60 : Shape := ⟨2, ![30, 60]⟩
abbrev S30 : Shape := ⟨1, ![30]⟩
abbrev S1x30 : Shape := ⟨2, ![1, 30]⟩
abbrev S1 : Shape := ⟨1, ![1]⟩
abbrev S256x256 : Shape := ⟨2, ![256, 256]⟩
abbrev S16384x256 : Shape := ⟨2, ![16384, 256]⟩
abbrev S1x10 : Shape := ⟨2, ![1, 10]⟩
abbrev S16384x10 : Shape := ⟨2, ![16384, 10]⟩
abbrev S_ : Shape := ⟨0, ![]⟩
abbrev S10x50 : Shape := ⟨2, ![10, 50]⟩
abbrev S16384x50 : Shape := ⟨2, ![16384, 50]⟩
abbrev S1x50 : Shape := ⟨2, ![1, 50]⟩
abbrev S50x256 : Shape := ⟨2, ![50, 256]⟩
abbrev S1x256 : Shape := ⟨2, ![1, 256]⟩
abbrev S16384 : Shape := ⟨1, ![16384]⟩
abbrev S1x1 : Shape := ⟨2, ![1, 1]⟩
abbrev S16384x4 : Shape := ⟨2, ![16384, 4]⟩
abbrev S16384x4x1 : Shape := ⟨3, ![16384, 4, 1]⟩
abbrev S1x1x1 : Shape := ⟨3, ![1, 1, 1]⟩
abbrev S16384x4x256 : Shape := ⟨3, ![16384, 4, 256]⟩
abbrev S16384x1x256 : Shape := ⟨3, ![16384, 1, 256]⟩
abbrev S256x100 : Shape := ⟨2, ![256, 100]⟩
abbrev S16384x100 : Shape := ⟨2, ![16384, 100]⟩
abbrev S1x100 : Shape := ⟨2, ![1, 100]⟩
abbrev S100x60 : Shape := ⟨2, ![100, 60]⟩
abbrev S16384x60 : Shape := ⟨2, ![16384, 60]⟩
abbrev S1x60 : Shape := ⟨2, ![1, 60]⟩
abbrev S60x30 : Shape := ⟨2, ![60, 30]⟩
abbrev S16384x30 : Shape := ⟨2, ![16384, 30]⟩
abbrev S30x1 : Shape := ⟨2, ![30, 1]⟩

abbrev nBuf : Space → Nat
  | .hbm => 361
  | .vmem => 0
  | .smem => 0
  | _ => 0

abbrev hbmTy0_0 (i : Nat) : BufTy := match i % 128 with
  | 0 => ⟨S16384x1, .f32⟩
  | 1 => ⟨S10x1, .f32⟩
  | 2 => ⟨S10, .f32⟩
  | 3 => ⟨S50x10, .f32⟩
  | 4 => ⟨S50, .f32⟩
  | 5 => ⟨S256x50, .f32⟩
  | 6 => ⟨S256, .f32⟩
  | 7 => ⟨S256x50, .f32⟩
  | 8 => ⟨S256, .f32⟩
  | 9 => ⟨S100x256, .f32⟩
  | 10 => ⟨S100, .f32⟩
  | 11 => ⟨S60x100, .f32⟩
  | 12 => ⟨S60, .f32⟩
  | 13 => ⟨S30x60, .f32⟩
  | 14 => ⟨S30, .f32⟩
  | 15 => ⟨S1x30, .f32⟩
  | 16 => ⟨S1, .f32⟩
  | 17 => ⟨S256x256, .f32⟩
  | 18 => ⟨S16384x256, .f32⟩
  | 19 => ⟨S1x10, .f32⟩
  | 20 => ⟨S16384x10, .f32⟩
  | 21 => ⟨S1x10, .f32⟩
  | 22 => ⟨S16384x10, .f32⟩
  | 23 => ⟨S16384x10, .f32⟩
  | 24 => ⟨S_, .f32⟩
  | 25 => ⟨S_, .f32⟩
  | 26 => ⟨S16384x10, .f32⟩
  | 27 => ⟨S16384x10, .i1⟩
  | 28 => ⟨S_, .f32⟩
  | 29 => ⟨S16384x10, .f32⟩
  | 30 => ⟨S16384x10, .f32⟩
  | 31 => ⟨S16384x10, .f32⟩
  | 32 => ⟨S10x50, .f32⟩
  | 33 => ⟨S16384x50, .f32⟩
  | 34 => ⟨S1x50, .f32⟩
  | 35 => ⟨S16384x50, .f32⟩
  | 36 => ⟨S16384x50, .f32⟩
  | 37 => ⟨S_, .f32⟩
  | 38 => ⟨S_, .f32⟩
  | 39 => ⟨S16384x50, .f32⟩
  | 40 => ⟨S16384x50, .i1⟩
  | 41 => ⟨S_, .f32⟩
  | 42 => ⟨S16384x50, .f32⟩
  | 43 => ⟨S16384x50, .f32⟩
  | 44 => ⟨S16384x50, .f32⟩
  | 45 => ⟨S50x256, .f32⟩
  | 46 => ⟨S16384x256, .f32⟩
  | 47 => ⟨S1x256, .f32⟩
  | 48 => ⟨S16384x256, .f32⟩
  | 49 => ⟨S16384x256, .f32⟩
  | 50 => ⟨S50x256, .f32⟩
  | 51 => ⟨S16384x256, .f32⟩
  | 52 => ⟨S1x256, .f32⟩
  | 53 => ⟨S16384x256, .f32⟩
  | 54 => ⟨S16384x256, .f32⟩
  | 55 => ⟨S_, .f32⟩
  | 56 => ⟨S16384x256, .f32⟩
  | 57 => ⟨S16384x256, .f32⟩
  | 58 => ⟨S16384x256, .f32⟩
  | 59 => ⟨S16384x256, .f32⟩
  | 60 => ⟨S16384x256, .f32⟩
  | 61 => ⟨S16384x256, .f32⟩
  | 62 => ⟨S_, .f32⟩
  | 63 => ⟨S16384, .f32⟩
  | 64 => ⟨S16384x1, .f32⟩
  | 65 => ⟨S256x256, .f32⟩
  | 66 => ⟨S16384x256, .f32⟩
  | 67 => ⟨S_, .f32⟩
  | 68 => ⟨S16384x256, .f32⟩
  | 69 => ⟨S16384x256, .f32⟩
  | 70 => ⟨S16384x256, .f32⟩
  | 71 => ⟨S16384x256, .f32⟩
  | 72 => ⟨S256x256, .f32⟩
  | 73 => ⟨S_, .f32⟩
  | 74 => ⟨S256, .f32⟩
  | 75 => ⟨S1x256, .f32⟩
  | 76 => ⟨S16384x256, .f32⟩
  | 77 => ⟨S16384x256, .f32⟩
  | 78 => ⟨S16384x256, .i32⟩
  | 79 => ⟨S_, .f32⟩
  | 80 => ⟨S_, .i32⟩
  | 81 => ⟨S16384, .f32⟩
  | 82 => ⟨S16384, .i32⟩
  | 83 => ⟨S_, .i32⟩
  | 84 => ⟨S16384, .i32⟩
  | 85 => ⟨S16384, .i1⟩
  | 86 => ⟨S_, .i32⟩
  | 87 => ⟨S16384, .i32⟩
  | 88 => ⟨S16384, .i32⟩
  | 89 => ⟨S16384, .i32⟩
  | 90 => ⟨S16384x1, .i32⟩
  | 91 => ⟨S1, .i32⟩
  | 92 => ⟨S_, .i32⟩
  | 93 => ⟨S16384x1, .i32⟩
  | 94 => ⟨S16384x1, .i1⟩
  | 95 => ⟨S1x1, .i32⟩
  | 96 => ⟨S16384x1, .i32⟩
  | 97 => ⟨S16384x1, .i1⟩
  | 98 => ⟨S16384x1, .i1⟩
  | 99 => ⟨S_, .i1⟩
  | 100 => ⟨S16384, .i1⟩
  | 101 => ⟨S16384x256, .f32⟩
  | 102 => ⟨S16384x256, .i1⟩
  | 103 => ⟨S_, .f32⟩
  | 104 => ⟨S16384x256, .f32⟩
  | 105 => ⟨S16384x256, .f32⟩
  | 106 => ⟨S16384x256, .f32⟩
  | 107 => ⟨S16384x256, .f32⟩
  | 108 => ⟨S_, .f32⟩
  | 109 => ⟨S_, .f32⟩
  | 110 => ⟨S_, .f32⟩
  | 111 => ⟨S_, .f32⟩
  | 112 => ⟨S16384x256, .f32⟩
  | 113 => ⟨S16384x256, .f32⟩
  | 114 => ⟨S_, .f32⟩
  | 115 => ⟨S_, .f32⟩
  | 116 => ⟨S_, .f32⟩
  | 117 => ⟨S_, .f32⟩
  | 118 => ⟨S_, .f32⟩
  | 119 => ⟨S_, .i32⟩
  | 120 => ⟨S_, .i32⟩
  | 121 => ⟨S16384, .i32⟩
  | 122 => ⟨S16384, .i32⟩
  | 123 => ⟨S16384, .i32⟩
  | 124 => ⟨S_, .i32⟩
  | 125 => ⟨S16384, .i32⟩
  | 126 => ⟨S16384, .i1⟩
  | 127 => ⟨S16384, .i32⟩
  | _ => ⟨S16384x1, .f32⟩

abbrev hbmTy0_1 (i : Nat) : BufTy := match i % 128 with
  | 0 => ⟨S16384, .i32⟩
  | 1 => ⟨S_, .i32⟩
  | 2 => ⟨S16384, .i32⟩
  | 3 => ⟨S16384, .i1⟩
  | 4 => ⟨S16384, .i1⟩
  | 5 => ⟨S_, .i32⟩
  | 6 => ⟨S16384, .i32⟩
  | 7 => ⟨S16384, .i32⟩
  | 8 => ⟨S16384, .i32⟩
  | 9 => ⟨S_, .i32⟩
  | 10 => ⟨S_, .i32⟩
  | 11 => ⟨S_, .i32⟩
  | 12 => ⟨S_, .i1⟩
  | 13 => ⟨S_, .i32⟩
  | 14 => ⟨S_, .i32⟩
  | 15 => ⟨S16384, .i32⟩
  | 16 => ⟨S16384, .i32⟩
  | 17 => ⟨S_, .i32⟩
  | 18 => ⟨S16384, .i32⟩
  | 19 => ⟨S16384, .i1⟩
  | 20 => ⟨S_, .i32⟩
  | 21 => ⟨S16384, .i32⟩
  | 22 => ⟨S16384, .i1⟩
  | 23 => ⟨S_, .i32⟩
  | 24 => ⟨S_, .i1⟩
  | 25 => ⟨S16384, .i1⟩
  | 26 => ⟨S16384, .i1⟩
  | 27 => ⟨S16384, .i1⟩
  | 28 => ⟨S16384, .i32⟩
  | 29 => ⟨S16384, .i32⟩
  | 30 => ⟨S16384, .i32⟩
  | 31 => ⟨S_, .i32⟩
  | 32 => ⟨S16384, .i32⟩
  | 33 => ⟨S16384, .i32⟩
  | 34 => ⟨S_, .i32⟩
  | 35 => ⟨S_, .i32⟩
  | 36 => ⟨S_, .i32⟩
  | 37 => ⟨S16384, .i32⟩
  | 38 => ⟨S16384, .i32⟩
  | 39 => ⟨S_, .i32⟩
  | 40 => ⟨S16384, .i32⟩
  | 41 => ⟨S16384, .i32⟩
  | 42 => ⟨S_, .i32⟩
  | 43 => ⟨S16384, .i32⟩
  | 44 => ⟨S16384, .i32⟩
  | 45 => ⟨S_, .i32⟩
  | 46 => ⟨S_, .i32⟩
  | 47 => ⟨S_, .i32⟩
  | 48 => ⟨S16384, .i32⟩
  | 49 => ⟨S16384, .i32⟩
  | 50 => ⟨S_, .i32⟩
  | 51 => ⟨S16384, .i32⟩
  | 52 => ⟨S16384, .i32⟩
  | 53 => ⟨S_, .i32⟩
  | 54 => ⟨S16384, .i32⟩
  | 55 => ⟨S16384, .i32⟩
  | 56 => ⟨S_, .i32⟩
  | 57 => ⟨S_, .i32⟩
  | 58 => ⟨S_, .i32⟩
  | 59 => ⟨S16384, .i32⟩
  | 60 => ⟨S16384, .i32⟩
  | 61 => ⟨S_, .i32⟩
  | 62 => ⟨S16384, .i32⟩
  | 63 => ⟨S16384, .i32⟩
  | 64 => ⟨S_, .i32⟩
  | 65 => ⟨S16384, .i32⟩
  | 66 => ⟨S16384, .i32⟩
  | 67 => ⟨S_, .i32⟩
  | 68 => ⟨S_, .i32⟩
  | 69 => ⟨S_, .i32⟩
  | 70 => ⟨S16384, .i32⟩
  | 71 => ⟨S16384, .i32⟩
  | 72 => ⟨S_, .i32⟩
  | 73 => ⟨S16384, .i32⟩
  | 74 => ⟨S16384, .i32⟩
  | 75 => ⟨S_, .i32⟩
  | 76 => ⟨S16384, .i32⟩
  | 77 => ⟨S16384, .i32⟩
  | 78 => ⟨S16384, .i32⟩
  | 79 => ⟨S_, .i32⟩
  | 80 => ⟨S16384, .i32⟩
  | 81 => ⟨S16384, .i32⟩
  | 82 => ⟨S16384, .i32⟩
  | 83 => ⟨S_, .i32⟩
  | 84 => ⟨S16384, .i32⟩
  | 85 => ⟨S16384, .i32⟩
  | 86 => ⟨S16384, .i32⟩
  | 87 => ⟨S_, .i32⟩
  | 88 => ⟨S16384, .i32⟩
  | 89 => ⟨S16384, .i32⟩
  | 90 => ⟨S16384, .i32⟩
  | 91 => ⟨S16384x1, .i32⟩
  | 92 => ⟨S16384x1, .i32⟩
  | 93 => ⟨S16384x1, .i32⟩
  | 94 => ⟨S16384x1, .i32⟩
  | 95 => ⟨S16384x4, .i32⟩
  | 96 => ⟨S_, .i32⟩
  | 97 => ⟨S16384x4, .i32⟩
  | 98 => ⟨S16384x4, .i1⟩
  | 99 => ⟨S_, .i32⟩
  | 100 => ⟨S16384x4, .i32⟩
  | 101 => ⟨S16384x4, .i32⟩
  | 102 => ⟨S16384x4, .i32⟩
  | 103 => ⟨S16384x4x1, .i32⟩
  | 104 => ⟨S1, .i32⟩
  | 105 => ⟨S_, .i32⟩
  | 106 => ⟨S16384x4x1, .i32⟩
  | 107 => ⟨S16384x4x1, .i1⟩
  | 108 => ⟨S1x1x1, .i32⟩
  | 109 => ⟨S16384x4x1, .i32⟩
  | 110 => ⟨S16384x4x1, .i1⟩
  | 111 => ⟨S16384x4x1, .i1⟩
  | 112 => ⟨S_, .i1⟩
  | 113 => ⟨S16384x4, .i1⟩
  | 114 => ⟨S16384x4x256, .f32⟩
  | 115 => ⟨S16384x4x256, .i1⟩
  | 116 => ⟨S_, .f32⟩
  | 117 => ⟨S16384x4x256, .f32⟩
  | 118 => ⟨S16384x4x256, .f32⟩
  | 119 => ⟨S16384x1x256, .f32⟩
  | 120 => ⟨S16384x4x256, .f32⟩
  | 121 => ⟨S16384x4x256, .f32⟩
  | 122 => ⟨S16384x4x256, .f32⟩
  | 123 => ⟨S_, .f32⟩
  | 124 => ⟨S_, .f32⟩
  | 125 => ⟨S_, .f32⟩
  | 126 => ⟨S_, .f32⟩
  | 127 => ⟨S256x100, .f32⟩
  | _ => ⟨S16384x1, .f32⟩

abbrev hbmTy0_2 (i : Nat) : BufTy := match i % 128 with
  | 0 => ⟨S16384x100, .f32⟩
  | 1 => ⟨S1x100, .f32⟩
  | 2 => ⟨S16384x100, .f32⟩
  | 3 => ⟨S16384x100, .f32⟩
  | 4 => ⟨S_, .f32⟩
  | 5 => ⟨S_, .f32⟩
  | 6 => ⟨S16384x100, .f32⟩
  | 7 => ⟨S16384x100, .i1⟩
  | 8 => ⟨S_, .f32⟩
  | 9 => ⟨S16384x100, .f32⟩
  | 10 => ⟨S16384x100, .f32⟩
  | 11 => ⟨S16384x100, .f32⟩
  | 12 => ⟨S100x60, .f32⟩
  | 13 => ⟨S16384x60, .f32⟩
  | 14 => ⟨S1x60, .f32⟩
  | 15 => ⟨S16384x60, .f32⟩
  | 16 => ⟨S16384x60, .f32⟩
  | 17 => ⟨S_, .f32⟩
  | 18 => ⟨S_, .f32⟩
  | 19 => ⟨S16384x60, .f32⟩
  | 20 => ⟨S16384x60, .i1⟩
  | 21 => ⟨S_, .f32⟩
  | 22 => ⟨S16384x60, .f32⟩
  | 23 => ⟨S16384x60, .f32⟩
  | 24 => ⟨S16384x60, .f32⟩
  | 25 => ⟨S60x30, .f32⟩
  | 26 => ⟨S16384x30, .f32⟩
  | 27 => ⟨S1x30, .f32⟩
  | 28 => ⟨S16384x30, .f32⟩
  | 29 => ⟨S16384x30, .f32⟩
  | 30 => ⟨S_, .f32⟩
  | 31 => ⟨S_, .f32⟩
  | 32 => ⟨S16384x30, .f32⟩
  | 33 => ⟨S16384x30, .i1⟩
  | 34 => ⟨S_, .f32⟩
  | 35 => ⟨S16384x30, .f32⟩
  | 36 => ⟨S16384x30, .f32⟩
  | 37 => ⟨S16384x30, .f32⟩
  | 38 => ⟨S30x1, .f32⟩
  | 39 => ⟨S16384x1, .f32⟩
  | 40 => ⟨S1x1, .f32⟩
  | 41 => ⟨S16384x1, .f32⟩
  | 42 => ⟨S16384x1, .f32⟩
  | 43 => ⟨S_, .f32⟩
  | 44 => ⟨S_, .f32⟩
  | 45 => ⟨S16384x1, .f32⟩
  | 46 => ⟨S16384x1, .i1⟩
  | 47 => ⟨S_, .f32⟩
  | 48 => ⟨S16384x1, .f32⟩
  | 49 => ⟨S16384x1, .f32⟩
  | 50 => ⟨S16384x1, .f32⟩
  | 51 => ⟨S256x100, .f32⟩
  | 52 => ⟨S16384x100, .f32⟩
  | 53 => ⟨S1x100, .f32⟩
  | 54 => ⟨S16384x100, .f32⟩
  | 55 => ⟨S16384x100, .f32⟩
  | 56 => ⟨S_, .f32⟩
  | 57 => ⟨S_, .f32⟩
  | 58 => ⟨S16384x100, .f32⟩
  | 59 => ⟨S16384x100, .i1⟩
  | 60 => ⟨S_, .f32⟩
  | 61 => ⟨S16384x100, .f32⟩
  | 62 => ⟨S16384x100, .f32⟩
  | 63 => ⟨S16384x100, .f32⟩
  | 64 => ⟨S100x60, .f32⟩
  | 65 => ⟨S16384x60, .f32⟩
  | 66 => ⟨S1x60, .f32⟩
  | 67 => ⟨S16384x60, .f32⟩
  | 68 => ⟨S16384x60, .f32⟩
  | 69 => ⟨S_, .f32⟩
  | 70 => ⟨S_, .f32⟩
  | 71 => ⟨S16384x60, .f32⟩
  | 72 => ⟨S16384x60, .i1⟩
  | 73 => ⟨S_, .f32⟩
  | 74 => ⟨S16384x60, .f32⟩
  | 75 => ⟨S16384x60, .f32⟩
  | 76 => ⟨S16384x60, .f32⟩
  | 77 => ⟨S60x30, .f32⟩
  | 78 => ⟨S16384x30, .f32⟩
  | 79 => ⟨S1x30, .f32⟩
  | 80 => ⟨S16384x30, .f32⟩
  | 81 => ⟨S16384x30, .f32⟩
  | 82 => ⟨S_, .f32⟩
  | 83 => ⟨S_, .f32⟩
  | 84 => ⟨S16384x30, .f32⟩
  | 85 => ⟨S16384x30, .i1⟩
  | 86 => ⟨S_, .f32⟩
  | 87 => ⟨S16384x30, .f32⟩
  | 88 => ⟨S16384x30, .f32⟩
  | 89 => ⟨S16384x30, .f32⟩
  | 90 => ⟨S30x1, .f32⟩
  | 91 => ⟨S16384x1, .f32⟩
  | 92 => ⟨S1x1, .f32⟩
  | 93 => ⟨S16384x1, .f32⟩
  | 94 => ⟨S16384x1, .f32⟩
  | 95 => ⟨S_, .f32⟩
  | 96 => ⟨S_, .f32⟩
  | 97 => ⟨S16384x1, .f32⟩
  | 98 => ⟨S16384x1, .i1⟩
  | 99 => ⟨S_, .f32⟩
  | 100 => ⟨S16384x1, .f32⟩
  | 101 => ⟨S16384x1, .f32⟩
  | 102 => ⟨S16384x1, .f32⟩
  | 103 => ⟨S1x1, .f32⟩
  | 104 => ⟨S1x1, .f32⟩
  | _ => ⟨S16384x1, .f32⟩

abbrev hbmTy (i : Nat) : BufTy := match i / 128 with
  | 0 => hbmTy0_0 i
  | 1 => hbmTy0_1 i
  | 2 => hbmTy0_2 i
  | _ => ⟨S16384x1, .f32⟩

abbrev bufTy : (tb : Table) → Fin (tcTables nBuf tb) → BufTy
  | .hbm, ⟨i, _⟩ => hbmTy i
  | _, _ => ⟨S16384x1, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_v4 : Ref sig .tc := ⟨.hbm, 23, rfl⟩
abbrev main_cst : Ref sig .tc := ⟨.hbm, 24, rfl⟩
abbrev main_call0_cst : Ref sig .tc := ⟨.hbm, 25, rfl⟩
abbrev main_call0_v0 : Ref sig .tc := ⟨.hbm, 26, rfl⟩
abbrev main_call0_v1 : Ref sig .tc := ⟨.hbm, 27, rfl⟩
abbrev main_call0_v2 : Ref sig .tc := ⟨.hbm, 28, rfl⟩
abbrev main_call0_v3 : Ref sig .tc := ⟨.hbm, 29, rfl⟩
abbrev main_call0_v4 : Ref sig .tc := ⟨.hbm, 30, rfl⟩
abbrev main_v5 : Ref sig .tc := ⟨.hbm, 31, rfl⟩
abbrev main_v6 : Ref sig .tc := ⟨.hbm, 32, rfl⟩
abbrev main_v7 : Ref sig .tc := ⟨.hbm, 33, rfl⟩
abbrev main_v8 : Ref sig .tc := ⟨.hbm, 34, rfl⟩
abbrev main_v9 : Ref sig .tc := ⟨.hbm, 35, rfl⟩
abbrev main_v10 : Ref sig .tc := ⟨.hbm, 36, rfl⟩
abbrev main_cst_0 : Ref sig .tc := ⟨.hbm, 37, rfl⟩
abbrev main_call1_cst : Ref sig .tc := ⟨.hbm, 38, rfl⟩
abbrev main_call1_v0 : Ref sig .tc := ⟨.hbm, 39, rfl⟩
abbrev main_call1_v1 : Ref sig .tc := ⟨.hbm, 40, rfl⟩
abbrev main_call1_v2 : Ref sig .tc := ⟨.hbm, 41, rfl⟩
abbrev main_call1_v3 : Ref sig .tc := ⟨.hbm, 42, rfl⟩
abbrev main_call1_v4 : Ref sig .tc := ⟨.hbm, 43, rfl⟩
abbrev main_v11 : Ref sig .tc := ⟨.hbm, 44, rfl⟩
abbrev main_v12 : Ref sig .tc := ⟨.hbm, 45, rfl⟩
abbrev main_v13 : Ref sig .tc := ⟨.hbm, 46, rfl⟩
abbrev main_v14 : Ref sig .tc := ⟨.hbm, 47, rfl⟩
abbrev main_v15 : Ref sig .tc := ⟨.hbm, 48, rfl⟩
abbrev main_v16 : Ref sig .tc := ⟨.hbm, 49, rfl⟩
abbrev main_v17 : Ref sig .tc := ⟨.hbm, 50, rfl⟩
abbrev main_v18 : Ref sig .tc := ⟨.hbm, 51, rfl⟩
abbrev main_v19 : Ref sig .tc := ⟨.hbm, 52, rfl⟩
abbrev main_v20 : Ref sig .tc := ⟨.hbm, 53, rfl⟩
abbrev main_v21 : Ref sig .tc := ⟨.hbm, 54, rfl⟩
abbrev main_cst_1 : Ref sig .tc := ⟨.hbm, 55, rfl⟩
abbrev main_v22 : Ref sig .tc := ⟨.hbm, 56, rfl⟩
abbrev main_v23 : Ref sig .tc := ⟨.hbm, 57, rfl⟩
abbrev main_v24 : Ref sig .tc := ⟨.hbm, 58, rfl⟩
abbrev main_v25 : Ref sig .tc := ⟨.hbm, 59, rfl⟩
abbrev main_v26 : Ref sig .tc := ⟨.hbm, 60, rfl⟩
abbrev main_v27 : Ref sig .tc := ⟨.hbm, 61, rfl⟩
abbrev main_cst_2 : Ref sig .tc := ⟨.hbm, 62, rfl⟩
abbrev main_v28 : Ref sig .tc := ⟨.hbm, 63, rfl⟩
abbrev main_v29 : Ref sig .tc := ⟨.hbm, 64, rfl⟩
abbrev main_v30 : Ref sig .tc := ⟨.hbm, 65, rfl⟩
abbrev main_v31 : Ref sig .tc := ⟨.hbm, 66, rfl⟩
abbrev main_cst_3 : Ref sig .tc := ⟨.hbm, 67, rfl⟩
abbrev main_v32 : Ref sig .tc := ⟨.hbm, 68, rfl⟩
abbrev main_v33 : Ref sig .tc := ⟨.hbm, 69, rfl⟩
abbrev main_v34 : Ref sig .tc := ⟨.hbm, 70, rfl⟩
abbrev main_v35 : Ref sig .tc := ⟨.hbm, 71, rfl⟩
abbrev main_v36 : Ref sig .tc := ⟨.hbm, 72, rfl⟩
abbrev main_cst_4 : Ref sig .tc := ⟨.hbm, 73, rfl⟩
abbrev main_v37 : Ref sig .tc := ⟨.hbm, 74, rfl⟩
abbrev main_v38 : Ref sig .tc := ⟨.hbm, 75, rfl⟩
abbrev main_v39 : Ref sig .tc := ⟨.hbm, 76, rfl⟩
abbrev main_v40 : Ref sig .tc := ⟨.hbm, 77, rfl⟩
abbrev main_call2_v0 : Ref sig .tc := ⟨.hbm, 78, rfl⟩
abbrev main_call2_cst : Ref sig .tc := ⟨.hbm, 79, rfl⟩
abbrev main_call2_c : Ref sig .tc := ⟨.hbm, 80, rfl⟩
abbrev main_call2_v1_0 : Ref sig .tc := ⟨.hbm, 81, rfl⟩
abbrev main_v41 : Ref sig .tc := ⟨.hbm, 82, rfl⟩
abbrev main_call3_c : Ref sig .tc := ⟨.hbm, 83, rfl⟩
abbrev main_call3_v0 : Ref sig .tc := ⟨.hbm, 84, rfl⟩
abbrev main_call3_v1 : Ref sig .tc := ⟨.hbm, 85, rfl⟩
abbrev main_call3_c_0 : Ref sig .tc := ⟨.hbm, 86, rfl⟩
abbrev main_call3_v2 : Ref sig .tc := ⟨.hbm, 87, rfl⟩
abbrev main_call3_v3 : Ref sig .tc := ⟨.hbm, 88, rfl⟩
abbrev main_call3_v4 : Ref sig .tc := ⟨.hbm, 89, rfl⟩
abbrev main_call3_v5 : Ref sig .tc := ⟨.hbm, 90, rfl⟩
abbrev main_call3_c_1 : Ref sig .tc := ⟨.hbm, 91, rfl⟩
abbrev main_call3_c_2 : Ref sig .tc := ⟨.hbm, 92, rfl⟩
abbrev main_call3_v6 : Ref sig .tc := ⟨.hbm, 93, rfl⟩
abbrev main_call3_v7 : Ref sig .tc := ⟨.hbm, 94, rfl⟩
abbrev main_call3_v8 : Ref sig .tc := ⟨.hbm, 95, rfl⟩
abbrev main_call3_v9 : Ref sig .tc := ⟨.hbm, 96, rfl⟩
abbrev main_call3_v10 : Ref sig .tc := ⟨.hbm, 97, rfl⟩
abbrev main_call3_v11 : Ref sig .tc := ⟨.hbm, 98, rfl⟩
abbrev main_call3_c_3 : Ref sig .tc := ⟨.hbm, 99, rfl⟩
abbrev main_call3_v12 : Ref sig .tc := ⟨.hbm, 100, rfl⟩
abbrev main_call3_v13 : Ref sig .tc := ⟨.hbm, 101, rfl⟩
abbrev main_call3_v14 : Ref sig .tc := ⟨.hbm, 102, rfl⟩
abbrev main_call3_cst : Ref sig .tc := ⟨.hbm, 103, rfl⟩
abbrev main_call3_v15 : Ref sig .tc := ⟨.hbm, 104, rfl⟩
abbrev main_v42 : Ref sig .tc := ⟨.hbm, 105, rfl⟩
abbrev main_v43 : Ref sig .tc := ⟨.hbm, 106, rfl⟩
abbrev main_v44 : Ref sig .tc := ⟨.hbm, 107, rfl⟩
abbrev main_cst_5 : Ref sig .tc := ⟨.hbm, 108, rfl⟩
abbrev main_v45 : Ref sig .tc := ⟨.hbm, 109, rfl⟩
abbrev main_cst_6 : Ref sig .tc := ⟨.hbm, 110, rfl⟩
abbrev main_v46 : Ref sig .tc := ⟨.hbm, 111, rfl⟩
abbrev main_v47 : Ref sig .tc := ⟨.hbm, 112, rfl⟩
abbrev main_v48 : Ref sig .tc := ⟨.hbm, 113, rfl⟩
abbrev main_cst_7 : Ref sig .tc := ⟨.hbm, 114, rfl⟩
abbrev main_v49 : Ref sig .tc := ⟨.hbm, 115, rfl⟩
abbrev main_cst_8 : Ref sig .tc := ⟨.hbm, 116, rfl⟩
abbrev main_v50 : Ref sig .tc := ⟨.hbm, 117, rfl⟩
abbrev main_v51 : Ref sig .tc := ⟨.hbm, 118, rfl⟩
abbrev main_c : Ref sig .tc := ⟨.hbm, 119, rfl⟩
abbrev main_call4_v0 : Ref sig .tc := ⟨.hbm, 120, rfl⟩
abbrev main_call4_v1 : Ref sig .tc := ⟨.hbm, 121, rfl⟩
abbrev main_call4_v2 : Ref sig .tc := ⟨.hbm, 122, rfl⟩
abbrev main_call4_v3 : Ref sig .tc := ⟨.hbm, 123, rfl⟩
abbrev main_call4_v4 : Ref sig .tc := ⟨.hbm, 124, rfl⟩
abbrev main_call4_v5 : Ref sig .tc := ⟨.hbm, 125, rfl⟩
abbrev main_call4_v6 : Ref sig .tc := ⟨.hbm, 126, rfl⟩
abbrev main_call4_v7 : Ref sig .tc := ⟨.hbm, 127, rfl⟩
abbrev main_call4_v8 : Ref sig .tc := ⟨.hbm, 128, rfl⟩
abbrev main_call4_c : Ref sig .tc := ⟨.hbm, 129, rfl⟩
abbrev main_call4_v9 : Ref sig .tc := ⟨.hbm, 130, rfl⟩
abbrev main_call4_v10 : Ref sig .tc := ⟨.hbm, 131, rfl⟩
abbrev main_call4_v11 : Ref sig .tc := ⟨.hbm, 132, rfl⟩
abbrev main_call4_c_0 : Ref sig .tc := ⟨.hbm, 133, rfl⟩
abbrev main_call4_v12 : Ref sig .tc := ⟨.hbm, 134, rfl⟩
abbrev main_call4_v13 : Ref sig .tc := ⟨.hbm, 135, rfl⟩
abbrev main_v52 : Ref sig .tc := ⟨.hbm, 136, rfl⟩
abbrev main_c_9 : Ref sig .tc := ⟨.hbm, 137, rfl⟩
abbrev main_call5_v0 : Ref sig .tc := ⟨.hbm, 138, rfl⟩
abbrev main_call5_c : Ref sig .tc := ⟨.hbm, 139, rfl⟩
abbrev main_call5_v1 : Ref sig .tc := ⟨.hbm, 140, rfl⟩
abbrev main_call5_c_0 : Ref sig .tc := ⟨.hbm, 141, rfl⟩
abbrev main_call5_v2 : Ref sig .tc := ⟨.hbm, 142, rfl⟩
abbrev main_call5_v3 : Ref sig .tc := ⟨.hbm, 143, rfl⟩
abbrev main_call5_v4 : Ref sig .tc := ⟨.hbm, 144, rfl⟩
abbrev main_call5_c_1 : Ref sig .tc := ⟨.hbm, 145, rfl⟩
abbrev main_call5_v5 : Ref sig .tc := ⟨.hbm, 146, rfl⟩
abbrev main_call5_v6 : Ref sig .tc := ⟨.hbm, 147, rfl⟩
abbrev main_call5_c_2 : Ref sig .tc := ⟨.hbm, 148, rfl⟩
abbrev main_call5_v7 : Ref sig .tc := ⟨.hbm, 149, rfl⟩
abbrev main_call5_v8 : Ref sig .tc := ⟨.hbm, 150, rfl⟩
abbrev main_call5_c_3 : Ref sig .tc := ⟨.hbm, 151, rfl⟩
abbrev main_call5_v9 : Ref sig .tc := ⟨.hbm, 152, rfl⟩
abbrev main_call5_v10 : Ref sig .tc := ⟨.hbm, 153, rfl⟩
abbrev main_call5_v11 : Ref sig .tc := ⟨.hbm, 154, rfl⟩
abbrev main_call5_v12 : Ref sig .tc := ⟨.hbm, 155, rfl⟩
abbrev main_call5_v13 : Ref sig .tc := ⟨.hbm, 156, rfl⟩
abbrev main_call5_v14 : Ref sig .tc := ⟨.hbm, 157, rfl⟩
abbrev main_v53 : Ref sig .tc := ⟨.hbm, 158, rfl⟩
abbrev main_c_10 : Ref sig .tc := ⟨.hbm, 159, rfl⟩
abbrev main_v54 : Ref sig .tc := ⟨.hbm, 160, rfl⟩
abbrev main_v55 : Ref sig .tc := ⟨.hbm, 161, rfl⟩
abbrev main_c_11 : Ref sig .tc := ⟨.hbm, 162, rfl⟩
abbrev main_c_12 : Ref sig .tc := ⟨.hbm, 163, rfl⟩
abbrev main_call6_v0 : Ref sig .tc := ⟨.hbm, 164, rfl⟩
abbrev main_call6_v1 : Ref sig .tc := ⟨.hbm, 165, rfl⟩
abbrev main_call6_v2 : Ref sig .tc := ⟨.hbm, 166, rfl⟩
abbrev main_call6_v3 : Ref sig .tc := ⟨.hbm, 167, rfl⟩
abbrev main_call6_v4 : Ref sig .tc := ⟨.hbm, 168, rfl⟩
abbrev main_v56 : Ref sig .tc := ⟨.hbm, 169, rfl⟩
abbrev main_c_13 : Ref sig .tc := ⟨.hbm, 170, rfl⟩
abbrev main_v57 : Ref sig .tc := ⟨.hbm, 171, rfl⟩
abbrev main_v58 : Ref sig .tc := ⟨.hbm, 172, rfl⟩
abbrev main_c_14 : Ref sig .tc := ⟨.hbm, 173, rfl⟩
abbrev main_c_15 : Ref sig .tc := ⟨.hbm, 174, rfl⟩
abbrev main_call7_v0 : Ref sig .tc := ⟨.hbm, 175, rfl⟩
abbrev main_call7_v1 : Ref sig .tc := ⟨.hbm, 176, rfl⟩
abbrev main_call7_v2 : Ref sig .tc := ⟨.hbm, 177, rfl⟩
abbrev main_call7_v3 : Ref sig .tc := ⟨.hbm, 178, rfl⟩
abbrev main_call7_v4 : Ref sig .tc := ⟨.hbm, 179, rfl⟩
abbrev main_v59 : Ref sig .tc := ⟨.hbm, 180, rfl⟩
abbrev main_c_16 : Ref sig .tc := ⟨.hbm, 181, rfl⟩
abbrev main_v60 : Ref sig .tc := ⟨.hbm, 182, rfl⟩
abbrev main_v61 : Ref sig .tc := ⟨.hbm, 183, rfl⟩
abbrev main_c_17 : Ref sig .tc := ⟨.hbm, 184, rfl⟩
abbrev main_c_18 : Ref sig .tc := ⟨.hbm, 185, rfl⟩
abbrev main_call8_v0 : Ref sig .tc := ⟨.hbm, 186, rfl⟩
abbrev main_call8_v1 : Ref sig .tc := ⟨.hbm, 187, rfl⟩
abbrev main_call8_v2 : Ref sig .tc := ⟨.hbm, 188, rfl⟩
abbrev main_call8_v3 : Ref sig .tc := ⟨.hbm, 189, rfl⟩
abbrev main_call8_v4 : Ref sig .tc := ⟨.hbm, 190, rfl⟩
abbrev main_v62 : Ref sig .tc := ⟨.hbm, 191, rfl⟩
abbrev main_c_19 : Ref sig .tc := ⟨.hbm, 192, rfl⟩
abbrev main_v63 : Ref sig .tc := ⟨.hbm, 193, rfl⟩
abbrev main_v64 : Ref sig .tc := ⟨.hbm, 194, rfl⟩
abbrev main_c_20 : Ref sig .tc := ⟨.hbm, 195, rfl⟩
abbrev main_c_21 : Ref sig .tc := ⟨.hbm, 196, rfl⟩
abbrev main_call9_v0 : Ref sig .tc := ⟨.hbm, 197, rfl⟩
abbrev main_call9_v1 : Ref sig .tc := ⟨.hbm, 198, rfl⟩
abbrev main_call9_v2 : Ref sig .tc := ⟨.hbm, 199, rfl⟩
abbrev main_call9_v3 : Ref sig .tc := ⟨.hbm, 200, rfl⟩
abbrev main_call9_v4 : Ref sig .tc := ⟨.hbm, 201, rfl⟩
abbrev main_v65 : Ref sig .tc := ⟨.hbm, 202, rfl⟩
abbrev main_c_22 : Ref sig .tc := ⟨.hbm, 203, rfl⟩
abbrev main_v66 : Ref sig .tc := ⟨.hbm, 204, rfl⟩
abbrev main_v67 : Ref sig .tc := ⟨.hbm, 205, rfl⟩
abbrev main_v68 : Ref sig .tc := ⟨.hbm, 206, rfl⟩
abbrev main_c_23 : Ref sig .tc := ⟨.hbm, 207, rfl⟩
abbrev main_v69 : Ref sig .tc := ⟨.hbm, 208, rfl⟩
abbrev main_v70 : Ref sig .tc := ⟨.hbm, 209, rfl⟩
abbrev main_v71 : Ref sig .tc := ⟨.hbm, 210, rfl⟩
abbrev main_c_24 : Ref sig .tc := ⟨.hbm, 211, rfl⟩
abbrev main_v72 : Ref sig .tc := ⟨.hbm, 212, rfl⟩
abbrev main_v73 : Ref sig .tc := ⟨.hbm, 213, rfl⟩
abbrev main_v74 : Ref sig .tc := ⟨.hbm, 214, rfl⟩
abbrev main_c_25 : Ref sig .tc := ⟨.hbm, 215, rfl⟩
abbrev main_v75 : Ref sig .tc := ⟨.hbm, 216, rfl⟩
abbrev main_v76 : Ref sig .tc := ⟨.hbm, 217, rfl⟩
abbrev main_v77 : Ref sig .tc := ⟨.hbm, 218, rfl⟩
abbrev main_v78 : Ref sig .tc := ⟨.hbm, 219, rfl⟩
abbrev main_v79 : Ref sig .tc := ⟨.hbm, 220, rfl⟩
abbrev main_v80 : Ref sig .tc := ⟨.hbm, 221, rfl⟩
abbrev main_v81 : Ref sig .tc := ⟨.hbm, 222, rfl⟩
abbrev main_v82 : Ref sig .tc := ⟨.hbm, 223, rfl⟩
abbrev main_call10_c : Ref sig .tc := ⟨.hbm, 224, rfl⟩
abbrev main_call10_v0 : Ref sig .tc := ⟨.hbm, 225, rfl⟩
abbrev main_call10_v1 : Ref sig .tc := ⟨.hbm, 226, rfl⟩
abbrev main_call10_c_0 : Ref sig .tc := ⟨.hbm, 227, rfl⟩
abbrev main_call10_v2 : Ref sig .tc := ⟨.hbm, 228, rfl⟩
abbrev main_call10_v3 : Ref sig .tc := ⟨.hbm, 229, rfl⟩
abbrev main_call10_v4 : Ref sig .tc := ⟨.hbm, 230, rfl⟩
abbrev main_call10_v5 : Ref sig .tc := ⟨.hbm, 231, rfl⟩
abbrev main_call10_c_1 : Ref sig .tc := ⟨.hbm, 232, rfl⟩
abbrev main_call10_c_2 : Ref sig .tc := ⟨.hbm, 233, rfl⟩
abbrev main_call10_v6 : Ref sig .tc := ⟨.hbm, 234, rfl⟩
abbrev main_call10_v7 : Ref sig .tc := ⟨.hbm, 235, rfl⟩
abbrev main_call10_v8 : Ref sig .tc := ⟨.hbm, 236, rfl⟩
abbrev main_call10_v9 : Ref sig .tc := ⟨.hbm, 237, rfl⟩
abbrev main_call10_v10 : Ref sig .tc := ⟨.hbm, 238, rfl⟩
abbrev main_call10_v11 : Ref sig .tc := ⟨.hbm, 239, rfl⟩
abbrev main_call10_c_3 : Ref sig .tc := ⟨.hbm, 240, rfl⟩
abbrev main_call10_v12 : Ref sig .tc := ⟨.hbm, 241, rfl⟩
abbrev main_call10_v13 : Ref sig .tc := ⟨.hbm, 242, rfl⟩
abbrev main_call10_v14 : Ref sig .tc := ⟨.hbm, 243, rfl⟩
abbrev main_call10_cst : Ref sig .tc := ⟨.hbm, 244, rfl⟩
abbrev main_call10_v15 : Ref sig .tc := ⟨.hbm, 245, rfl⟩
abbrev main_v83 : Ref sig .tc := ⟨.hbm, 246, rfl⟩
abbrev main_v84 : Ref sig .tc := ⟨.hbm, 247, rfl⟩
abbrev main_v85 : Ref sig .tc := ⟨.hbm, 248, rfl⟩
abbrev main_v86 : Ref sig .tc := ⟨.hbm, 249, rfl⟩
abbrev main_v87 : Ref sig .tc := ⟨.hbm, 250, rfl⟩
abbrev main_cst_26 : Ref sig .tc := ⟨.hbm, 251, rfl⟩
abbrev main_v88 : Ref sig .tc := ⟨.hbm, 252, rfl⟩
abbrev main_cst_27 : Ref sig .tc := ⟨.hbm, 253, rfl⟩
abbrev main_v89 : Ref sig .tc := ⟨.hbm, 254, rfl⟩
abbrev main_v90 : Ref sig .tc := ⟨.hbm, 255, rfl⟩
abbrev main_v91 : Ref sig .tc := ⟨.hbm, 256, rfl⟩
abbrev main_v92 : Ref sig .tc := ⟨.hbm, 257, rfl⟩
abbrev main_v93 : Ref sig .tc := ⟨.hbm, 258, rfl⟩
abbrev main_v94 : Ref sig .tc := ⟨.hbm, 259, rfl⟩
abbrev main_cst_28 : Ref sig .tc := ⟨.hbm, 260, rfl⟩
abbrev main_call11_cst : Ref sig .tc := ⟨.hbm, 261, rfl⟩
abbrev main_call11_v0 : Ref sig .tc := ⟨.hbm, 262, rfl⟩
abbrev main_call11_v1 : Ref sig .tc := ⟨.hbm, 263, rfl⟩
abbrev main_call11_v2 : Ref sig .tc := ⟨.hbm, 264, rfl⟩
abbrev main_call11_v3 : Ref sig .tc := ⟨.hbm, 265, rfl⟩
abbrev main_call11_v4 : Ref sig .tc := ⟨.hbm, 266, rfl⟩
abbrev main_v95 : Ref sig .tc := ⟨.hbm, 267, rfl⟩
abbrev main_v96 : Ref sig .tc := ⟨.hbm, 268, rfl⟩
abbrev main_v97 : Ref sig .tc := ⟨.hbm, 269, rfl⟩
abbrev main_v98 : Ref sig .tc := ⟨.hbm, 270, rfl⟩
abbrev main_v99 : Ref sig .tc := ⟨.hbm, 271, rfl⟩
abbrev main_v100 : Ref sig .tc := ⟨.hbm, 272, rfl⟩
abbrev main_cst_29 : Ref sig .tc := ⟨.hbm, 273, rfl⟩
abbrev main_call12_cst : Ref sig .tc := ⟨.hbm, 274, rfl⟩
abbrev main_call12_v0 : Ref sig .tc := ⟨.hbm, 275, rfl⟩
abbrev main_call12_v1 : Ref sig .tc := ⟨.hbm, 276, rfl⟩
abbrev main_call12_v2 : Ref sig .tc := ⟨.hbm, 277, rfl⟩
abbrev main_call12_v3 : Ref sig .tc := ⟨.hbm, 278, rfl⟩
abbrev main_call12_v4 : Ref sig .tc := ⟨.hbm, 279, rfl⟩
abbrev main_v101 : Ref sig .tc := ⟨.hbm, 280, rfl⟩
abbrev main_v102 : Ref sig .tc := ⟨.hbm, 281, rfl⟩
abbrev main_v103 : Ref sig .tc := ⟨.hbm, 282, rfl⟩
abbrev main_v104 : Ref sig .tc := ⟨.hbm, 283, rfl⟩
abbrev main_v105 : Ref sig .tc := ⟨.hbm, 284, rfl⟩
abbrev main_v106 : Ref sig .tc := ⟨.hbm, 285, rfl⟩
abbrev main_cst_30 : Ref sig .tc := ⟨.hbm, 286, rfl⟩
abbrev main_call13_cst : Ref sig .tc := ⟨.hbm, 287, rfl⟩
abbrev main_call13_v0 : Ref sig .tc := ⟨.hbm, 288, rfl⟩
abbrev main_call13_v1 : Ref sig .tc := ⟨.hbm, 289, rfl⟩
abbrev main_call13_v2 : Ref sig .tc := ⟨.hbm, 290, rfl⟩
abbrev main_call13_v3 : Ref sig .tc := ⟨.hbm, 291, rfl⟩
abbrev main_call13_v4 : Ref sig .tc := ⟨.hbm, 292, rfl⟩
abbrev main_v107 : Ref sig .tc := ⟨.hbm, 293, rfl⟩
abbrev main_v108 : Ref sig .tc := ⟨.hbm, 294, rfl⟩
abbrev main_v109 : Ref sig .tc := ⟨.hbm, 295, rfl⟩
abbrev main_v110 : Ref sig .tc := ⟨.hbm, 296, rfl⟩
abbrev main_v111 : Ref sig .tc := ⟨.hbm, 297, rfl⟩
abbrev main_v112 : Ref sig .tc := ⟨.hbm, 298, rfl⟩
abbrev main_cst_31 : Ref sig .tc := ⟨.hbm, 299, rfl⟩
abbrev main_call14_cst : Ref sig .tc := ⟨.hbm, 300, rfl⟩
abbrev main_call14_v0 : Ref sig .tc := ⟨.hbm, 301, rfl⟩
abbrev main_call14_v1 : Ref sig .tc := ⟨.hbm, 302, rfl⟩
abbrev main_call14_v2 : Ref sig .tc := ⟨.hbm, 303, rfl⟩
abbrev main_call14_v3 : Ref sig .tc := ⟨.hbm, 304, rfl⟩
abbrev main_call14_v4 : Ref sig .tc := ⟨.hbm, 305, rfl⟩
abbrev main_v113 : Ref sig .tc := ⟨.hbm, 306, rfl⟩
abbrev main_v114 : Ref sig .tc := ⟨.hbm, 307, rfl⟩
abbrev main_v115 : Ref sig .tc := ⟨.hbm, 308, rfl⟩
abbrev main_v116 : Ref sig .tc := ⟨.hbm, 309, rfl⟩
abbrev main_v117 : Ref sig .tc := ⟨.hbm, 310, rfl⟩
abbrev main_v118 : Ref sig .tc := ⟨.hbm, 311, rfl⟩
abbrev main_cst_32 : Ref sig .tc := ⟨.hbm, 312, rfl⟩
abbrev main_call15_cst : Ref sig .tc := ⟨.hbm, 313, rfl⟩
abbrev main_call15_v0 : Ref sig .tc := ⟨.hbm, 314, rfl⟩
abbrev main_call15_v1 : Ref sig .tc := ⟨.hbm, 315, rfl⟩
abbrev main_call15_v2 : Ref sig .tc := ⟨.hbm, 316, rfl⟩
abbrev main_call15_v3 : Ref sig .tc := ⟨.hbm, 317, rfl⟩
abbrev main_call15_v4 : Ref sig .tc := ⟨.hbm, 318, rfl⟩
abbrev main_v119 : Ref sig .tc := ⟨.hbm, 319, rfl⟩
abbrev main_v120 : Ref sig .tc := ⟨.hbm, 320, rfl⟩
abbrev main_v121 : Ref sig .tc := ⟨.hbm, 321, rfl⟩
abbrev main_v122 : Ref sig .tc := ⟨.hbm, 322, rfl⟩
abbrev main_v123 : Ref sig .tc := ⟨.hbm, 323, rfl⟩
abbrev main_v124 : Ref sig .tc := ⟨.hbm, 324, rfl⟩
abbrev main_cst_33 : Ref sig .tc := ⟨.hbm, 325, rfl⟩
abbrev main_call16_cst : Ref sig .tc := ⟨.hbm, 326, rfl⟩
abbrev main_call16_v0 : Ref sig .tc := ⟨.hbm, 327, rfl⟩
abbrev main_call16_v1 : Ref sig .tc := ⟨.hbm, 328, rfl⟩
abbrev main_call16_v2 : Ref sig .tc := ⟨.hbm, 329, rfl⟩
abbrev main_call16_v3 : Ref sig .tc := ⟨.hbm, 330, rfl⟩
abbrev main_call16_v4 : Ref sig .tc := ⟨.hbm, 331, rfl⟩
abbrev main_v125 : Ref sig .tc := ⟨.hbm, 332, rfl⟩
abbrev main_v126 : Ref sig .tc := ⟨.hbm, 333, rfl⟩
abbrev main_v127 : Ref sig .tc := ⟨.hbm, 334, rfl⟩
abbrev main_v128 : Ref sig .tc := ⟨.hbm, 335, rfl⟩
abbrev main_v129 : Ref sig .tc := ⟨.hbm, 336, rfl⟩
abbrev main_v130 : Ref sig .tc := ⟨.hbm, 337, rfl⟩
abbrev main_cst_34 : Ref sig .tc := ⟨.hbm, 338, rfl⟩
abbrev main_call17_cst : Ref sig .tc := ⟨.hbm, 339, rfl⟩
abbrev main_call17_v0 : Ref sig .tc := ⟨.hbm, 340, rfl⟩
abbrev main_call17_v1 : Ref sig .tc := ⟨.hbm, 341, rfl⟩
abbrev main_call17_v2 : Ref sig .tc := ⟨.hbm, 342, rfl⟩
abbrev main_call17_v3 : Ref sig .tc := ⟨.hbm, 343, rfl⟩
abbrev main_call17_v4 : Ref sig .tc := ⟨.hbm, 344, rfl⟩
abbrev main_v131 : Ref sig .tc := ⟨.hbm, 345, rfl⟩
abbrev main_v132 : Ref sig .tc := ⟨.hbm, 346, rfl⟩
abbrev main_v133 : Ref sig .tc := ⟨.hbm, 347, rfl⟩
abbrev main_v134 : Ref sig .tc := ⟨.hbm, 348, rfl⟩
abbrev main_v135 : Ref sig .tc := ⟨.hbm, 349, rfl⟩
abbrev main_v136 : Ref sig .tc := ⟨.hbm, 350, rfl⟩
abbrev main_cst_35 : Ref sig .tc := ⟨.hbm, 351, rfl⟩
abbrev main_call18_cst : Ref sig .tc := ⟨.hbm, 352, rfl⟩
abbrev main_call18_v0 : Ref sig .tc := ⟨.hbm, 353, rfl⟩
abbrev main_call18_v1 : Ref sig .tc := ⟨.hbm, 354, rfl⟩
abbrev main_call18_v2 : Ref sig .tc := ⟨.hbm, 355, rfl⟩
abbrev main_call18_v3 : Ref sig .tc := ⟨.hbm, 356, rfl⟩
abbrev main_call18_v4 : Ref sig .tc := ⟨.hbm, 357, rfl⟩
abbrev main_v137 : Ref sig .tc := ⟨.hbm, 358, rfl⟩
abbrev main_v138 : Ref sig .tc := ⟨.hbm, 359, rfl⟩
abbrev main_v139 : Ref sig .tc := ⟨.hbm, 360, rfl⟩

abbrev nD : Nat := 1
abbrev τ : Topo := Topo.v7x

variable {F : FTy → Type} [FloatOps F]
-- ==== Proof.BodyIdeal.lean ====
/-
  The kernel body's run, for any float values `F`: one theorem for the first grid point, which writes the padded
  weights and the decoder table into the scratch buffers, and one for every other point, which finds them there.
  Both say what each result's block and each scratch buffer hold in closed form, over what the input blocks hold.
-/
module

public import proofs.«01_k».proof.Proof.Gen.KernelIdeal.Frame
public import proofs.«01_k».proof.Proof.Gen.KernelIdeal.Skeleton
public import Idealize.ShloMosaic.Lib.Tactic
public import Idealize.ShloMosaic.Lib.Pipeline.Value

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.View (ld_unit_zero canon_cons_unit_zero canon_unit_zero)

variable {F : FTy → Type} [FloatOps F]

local notation "𝕄" => MT nD τ sig Unit (Elt F) ℕ (UR sig nD τ) ℕ

/-- Core `c` holds the buffer of the whole memref `M`, at the contents that read `x`. -/
abbrev own (c : Dev nD) {sp : Space} {S : Shape} {e : EltTy} {M : Memref sig .tc sp S e} (h : M.IsWhole) (x : Vec F S e) : sProp 𝕄 :=
  M.view.loc (c : Thread nD τ) ↦{fullShare} h.unread x
/-- The library's `owns` of a whole memref is `own`. -/
theorem owns_eq_own (c : Dev nD) {sp : Space} {S : Shape} {e : EltTy} {M : Memref sig .tc sp S e} (h : M.IsWhole) (x : Vec F S e) :
    (owns (c : Thread nD τ) M fullShare x : sProp 𝕄) = own c h x := by
  have hs : M.view.set = Finset.univ := by
    obtain ⟨b, rfl, rfl, rfl, hm⟩ := h
    obtain rfl := eq_of_heq hm
    exact View.set_whole _
  have h1 : (owns (c : Thread nD τ) M fullShare x : sProp 𝕄) ⊢ own c h x := by
    unfold owns own; rw [hs]
    iintro ⟨%f, %hf, H⟩
    obtain rfl := h.eq_unread hf
    iexact H
  have h2 : (own c h x : sProp 𝕄) ⊢ owns (c : Thread nD τ) M fullShare x := by
    unfold owns own; rw [hs]
    iintro H
    iexists _; isplitr; swap; (· iexact H); ipureintro; exact h.read_unread _
  exact BI.Entails.antisymm h1 h2

/-- A whole buffer overwritten by the writes `L` reads their canonical contents. -/
theorem own_of_canon (c : Dev nD) {sp : Space} {S : Shape} {e : EltTy} {M : Memref sig .tc sp S e} (h : M.IsWhole)
    {f : Buf (Elt F) (M.view.loc (c : Thread nD τ))} {w : Vec F S e} (hf : M.view.read (Elt F) f = w) :
    (M.view.loc (c : Thread nD τ) ↦{fullShare} f : sProp 𝕄) ⊢ own c h w := by
  rw [h.eq_unread hf]

/-- The point is the grid's first: the condition of both conditionals of the body. -/
abbrev isFirst (i : grid0.Coords) : Prop :=
  (Scalar.cmpi .ne (Scalar.extui (Scalar.cmpi .eq (BitVec.ofNat 32 (i 0).val) 0#32)) 0#32) = 1#1

theorem isFirst_iff : ∀ t : Fin cfg0.N, isFirst (grid0.coords t) ↔ t.val = 0 :=
  (fun t => by
    have ht : t.val < 8 := Nat.lt_of_lt_of_eq t.isLt N_0
    have e0 : (grid0.coords t 0).val = t.val / 1 % 8 := Pipeline.Grid.coords_val t 0 (by decide) rfl
    simp only [isFirst, e0]
    word_cmp
    : ∀ t : Fin grid0.N, isFirst (grid0.coords t) ↔ t.val = 0)

theorem zz : (![0, 0] : Fin 2 → ℕ) = fun _ => 0 := by
  funext a; fin_cases a <;> rfl

/-- A load of a whole matrix gives the matrix. -/
theorem ld_zero {e : EltTy} {a b : ℕ} (X : Vec F ⟨2, ![a, b]⟩ e) (inb) :
    View.ld X (Rect.unit (s := ⟨2, ![a, b]⟩) ![0, 0] ![a, b] inb) = X :=
  ld_unit_zero zz inb X

/-- A load of a whole matrix that writes have filled gives what they leave. -/
theorem cov_zero {e : EltTy} {sp : Space} {a b : ℕ} (v : View sig .tc sp ⟨2, ![a, b]⟩ e) (L) (inb) :
    v.readCov (Val := Elt F) L (Rect.unit (s := ⟨2, ![a, b]⟩) ![0, 0] ![a, b] inb).toLoadRect = View.canon L := by
  rw [View.readCov_eq_canon']
  exact ld_unit_zero zz inb (View.canon L)

/-- One write of a whole matrix leaves its payload. -/
theorem canon_zero {e : EltTy} {a b : ℕ} (w : Vec F ⟨2, ![a, b]⟩ e) (inb) (L : List (View.Piece (Elt F) ⟨2, ![a, b]⟩ e)) :
    View.canon ((⟨Rect.unit (s := ⟨2, ![a, b]⟩) ![0, 0] ![a, b] inb, w⟩ : View.Piece (Elt F) ⟨2, ![a, b]⟩ e) :: L) = w :=
  canon_cons_unit_zero zz inb w L

/-! ## The padded weights -/

/-- What the scratch buffer of `arg28` holds after the first point: the input written over zeros. -/
def pad0 (y3 : Vec F S1x10 .f32) : Vec F S1x128 .f32 :=
  View.canon [⟨Rect.unit (s := S1x128) ![0, 0] S1x10.size inb_S1x128_S1x10_0_0, k0_pay8 y3⟩,
    ⟨Rect.unit (s := S1x128) ![0, 0] S1x128.size inb_S1x128_S1x128_0_0, k0_pay7⟩]
/-- What the scratch buffer of `arg29` holds after the first point: the input written over zeros. -/
def pad1 (y4 : Vec F S1x10 .f32) : Vec F S1x128 .f32 :=
  View.canon [⟨Rect.unit (s := S1x128) ![0, 0] S1x10.size inb_S1x128_S1x10_0_0, k0_pay10 y4⟩,
    ⟨Rect.unit (s := S1x128) ![0, 0] S1x128.size inb_S1x128_S1x128_0_0, k0_pay9⟩]
/-- What the scratch buffer of `arg30` holds after the first point: the input written over zeros. -/
def pad2 (y5 : Vec F S50x10 .f32) : Vec F S128x128 .f32 :=
  View.canon [⟨Rect.unit (s := S128x128) ![0, 0] S50x10.size inb_S128x128_S50x10_0_0, k0_pay12 y5⟩,
    ⟨Rect.unit (s := S128x128) ![0, 0] S128x128.size inb_S128x128_S128x128_0_0, k0_pay11⟩]
/-- What the scratch buffer of `arg31` holds after the first point: the input written over zeros. -/
def pad3 (y6 : Vec F S1x50 .f32) : Vec F S1x128 .f32 :=
  View.canon [⟨Rect.unit (s := S1x128) ![0, 0] S1x50.size inb_S1x128_S1x50_0_0, k0_pay14 y6⟩,
    ⟨Rect.unit (s := S1x128) ![0, 0] S1x128.size inb_S1x128_S1x128_0_0, k0_pay13⟩]
/-- What the scratch buffer of `arg32` holds after the first point: the inputs written over zeros. -/
def pad4 (y7 : Vec F S256x50 .f32) (y9 : Vec F S256x50 .f32) : Vec F S512x128 .f32 :=
  View.canon [⟨Rect.unit (s := S512x128) ![256, 0] S256x50.size inb_S512x128_S256x50_256_0, k0_pay17 y9⟩,
    ⟨Rect.unit (s := S512x128) ![0, 0] S256x50.size inb_S512x128_S256x50_0_0, k0_pay16 y7⟩,
    ⟨Rect.unit (s := S512x128) ![0, 0] S512x128.size inb_S512x128_S512x128_0_0, k0_pay15⟩]
/-- What the scratch buffer of `arg33` holds after the first point: the two inputs side by side. -/
def pad5 (y8 : Vec F S1x256 .f32) (y10 : Vec F S1x256 .f32) : Vec F S1x512 .f32 :=
  View.canon [⟨Rect.unit (s := S1x512) ![0, 256] S1x256.size inb_S1x512_S1x256_0_256, k0_pay19 y10⟩,
    ⟨Rect.unit (s := S1x512) ![0, 0] S1x256.size inb_S1x512_S1x256_0_0, k0_pay18 y8⟩]
/-- What the scratch buffer of `arg34` holds after the first point: the input written over zeros. -/
def pad6 (y14 : Vec F S100x256 .f32) : Vec F S128x256 .f32 :=
  View.canon [⟨Rect.unit (s := S128x256) ![0, 0] S100x256.size inb_S128x256_S100x256_0_0, k0_pay22 y14⟩,
    ⟨Rect.unit (s := S128x256) ![0, 0] S128x256.size inb_S128x256_S128x256_0_0, k0_pay21 k0_pay20⟩]
/-- What the scratch buffer of `arg35` holds after the first point: the input written over zeros. -/
def pad7 (y15 : Vec F S1x100 .f32) : Vec F S1x128 .f32 :=
  View.canon [⟨Rect.unit (s := S1x128) ![0, 0] S1x100.size inb_S1x128_S1x100_0_0, k0_pay24 y15⟩,
    ⟨Rect.unit (s := S1x128) ![0, 0] S1x128.size inb_S1x128_S1x128_0_0, k0_pay23⟩]
/-- What the scratch buffer of `arg36` holds after the first point: the input written over zeros. -/
def pad8 (y16 : Vec F S60x100 .f32) : Vec F S128x128 .f32 :=
  View.canon [⟨Rect.unit (s := S128x128) ![0, 0] S60x100.size inb_S128x128_S60x100_0_0, k0_pay26 y16⟩,
    ⟨Rect.unit (s := S128x128) ![0, 0] S128x128.size inb_S128x128_S128x128_0_0, k0_pay25⟩]
/-- What the scratch buffer of `arg37` holds after the first point: the input written over zeros. -/
def pad9 (y17 : Vec F S1x60 .f32) : Vec F S1x128 .f32 :=
  View.canon [⟨Rect.unit (s := S1x128) ![0, 0] S1x60.size inb_S1x128_S1x60_0_0, k0_pay28 y17⟩,
    ⟨Rect.unit (s := S1x128) ![0, 0] S1x128.size inb_S1x128_S1x128_0_0, k0_pay27⟩]
/-- What the scratch buffer of `arg38` holds after the first point: the input written over zeros. -/
def pad10 (y18 : Vec F S30x60 .f32) : Vec F S128x128 .f32 :=
  View.canon [⟨Rect.unit (s := S128x128) ![0, 0] S30x60.size inb_S128x128_S30x60_0_0, k0_pay30 y18⟩,
    ⟨Rect.unit (s := S128x128) ![0, 0] S128x128.size inb_S128x128_S128x128_0_0, k0_pay29⟩]
/-- What the scratch buffer of `arg39` holds after the first point: the input written over zeros. -/
def pad11 (y19 : Vec F S1x30 .f32) : Vec F S1x128 .f32 :=
  View.canon [⟨Rect.unit (s := S1x128) ![0, 0] S1x30.size inb_S1x128_S1x30_0_0, k0_pay32 y19⟩,
    ⟨Rect.unit (s := S1x128) ![0, 0] S1x128.size inb_S1x128_S1x128_0_0, k0_pay31⟩]
/-- What the scratch buffer of `arg40` holds after the first point: the input written over zeros. -/
def pad12 (y20 : Vec F S1x30 .f32) : Vec F S128x128 .f32 :=
  View.canon [⟨Rect.unit (s := S128x128) ![0, 0] S1x30.size inb_S128x128_S1x30_0_0, k0_pay34 y20⟩,
    ⟨Rect.unit (s := S128x128) ![0, 0] S128x128.size inb_S128x128_S128x128_0_0, k0_pay33⟩]
/-- What the scratch buffer of `arg41` holds after the first point: the input written over zeros. -/
def pad13 (y21 : Vec F S1x1 .f32) : Vec F S1x128 .f32 :=
  View.canon [⟨Rect.unit (s := S1x128) ![0, 0] S1x1.size inb_S1x128_S1x1_0_0, k0_pay36 y21⟩,
    ⟨Rect.unit (s := S1x128) ![0, 0] S1x128.size inb_S1x128_S1x128_0_0, k0_pay35 (Scalar.ofBits .f32 0x00000000#32)⟩]
/-- The decoder table: the decoder on every embedding row. -/
def table (y11 : Vec F S256x256 .f32) (s6 : Vec F S128x256 .f32) (s7 : Vec F S1x128 .f32) (s8 : Vec F S128x128 .f32)
    (s9 : Vec F S1x128 .f32) (s10 : Vec F S128x128 .f32) (s11 : Vec F S1x128 .f32) (s12 : Vec F S128x128 .f32) (s13 : Vec F S1x128 .f32) :
    Vec F S256x128 .f32 :=
  k0_pay39 (k0_pay37 y11 s6 s7 s8 s9 s10 s11) k0_pay38 s12 s13

/-! ## The results of one point -/

/-- The block of `z_e`. -/
abbrev zeOf (x0 : Vec F S2048x1 .f32) (x1 : Vec F S2048x256 .f32) (s0 : Vec F S1x128 .f32) (s1 : Vec F S1x128 .f32) (s2 : Vec F S128x128 .f32) (s3 : Vec F S1x128 .f32) (s4 : Vec F S512x128 .f32) (s5 : Vec F S1x512 .f32) : FVec F S2048x256 .f32 :=
  k0_pay40 x0 s0 s1 s2 s3 s4 s5 x1
/-- The block of `dec_e`, from that of `z_e`. -/
abbrev deOf (z : FVec F S2048x256 .f32) (s6 : Vec F S128x256 .f32) (s7 : Vec F S1x128 .f32) (s8 : Vec F S128x128 .f32) (s9 : Vec F S1x128 .f32) (s10 : Vec F S128x128 .f32) (s11 : Vec F S1x128 .f32) (s12 : Vec F S128x128 .f32) (s13 : Vec F S1x128 .f32) : FVec F S2048x1 .f32 :=
  k0_pay1 (k0_pay48 z s6 s7 s8 s9 s10 s11 s12) (k0_pay49 s13)

set_option maxHeartbeats 4000000 in
/-- The body at a point after the first: the scratch buffers stay at `s0 … s14`, the two losses are added to. -/
theorem run_later (c : Dev nD) (i : grid0.Coords) (arg1 : Memref sig .tc .vmem S2048x1 .f32) (harg1 : arg1.IsWhole) (arg2 : Memref sig .tc .vmem S2048x256 .f32) (harg2 : arg2.IsWhole) (arg3 : Memref sig .tc .vmem S1x10 .f32) (harg3 : arg3.IsWhole) (arg4 : Memref sig .tc .vmem S1x10 .f32) (harg4 : arg4.IsWhole) (arg5 : Memref sig .tc .vmem S50x10 .f32) (harg5 : arg5.IsWhole) (arg6 : Memref sig .tc .vmem S1x50 .f32) (harg6 : arg6.IsWhole) (arg7 : Memref sig .tc .vmem S256x50 .f32) (harg7 : arg7.IsWhole) (arg8 : Memref sig .tc .vmem S1x256 .f32) (harg8 : arg8.IsWhole) (arg9 : Memref sig .tc .vmem S256x50 .f32) (harg9 : arg9.IsWhole) (arg10 : Memref sig .tc .vmem S1x256 .f32) (harg10 : arg10.IsWhole) (arg11 : Memref sig .tc .vmem S256x256 .f32) (harg11 : arg11.IsWhole) (arg12 : Memref sig .tc .vmem S1x256 .f32) (harg12 : arg12.IsWhole) (arg13 : Memref sig .tc .vmem S256x256 .f32) (harg13 : arg13.IsWhole) (arg14 : Memref sig .tc .vmem S100x256 .f32) (harg14 : arg14.IsWhole) (arg15 : Memref sig .tc .vmem S1x100 .f32) (harg15 : arg15.IsWhole) (arg16 : Memref sig .tc .vmem S60x100 .f32) (harg16 : arg16.IsWhole) (arg17 : Memref sig .tc .vmem S1x60 .f32) (harg17 : arg17.IsWhole) (arg18 : Memref sig .tc .vmem S30x60 .f32) (harg18 : arg18.IsWhole) (arg19 : Memref sig .tc .vmem S1x30 .f32) (harg19 : arg19.IsWhole) (arg20 : Memref sig .tc .vmem S1x30 .f32) (harg20 : arg20.IsWhole) (arg21 : Memref sig .tc .vmem S1x1 .f32) (harg21 : arg21.IsWhole) (arg22 : Memref sig .tc .vmem S2048x256 .f32) (harg22 : arg22.IsWhole) (arg23 : Memref sig .tc .vmem S2048x256 .f32) (harg23 : arg23.IsWhole) (arg24 : Memref sig .tc .vmem S2048x1 .f32) (harg24 : arg24.IsWhole) (arg25 : Memref sig .tc .vmem S2048x1 .f32) (harg25 : arg25.IsWhole) (arg26 : Memref sig .tc .vmem S1x1 .f32) (harg26 : arg26.IsWhole) (arg27 : Memref sig .tc .vmem S1x1 .f32) (harg27 : arg27.IsWhole) (arg28 : Memref sig .tc .vmem S1x128 .f32) (harg28 : arg28.IsWhole) (arg29 : Memref sig .tc .vmem S1x128 .f32) (harg29 : arg29.IsWhole) (arg30 : Memref sig .tc .vmem S128x128 .f32) (harg30 : arg30.IsWhole) (arg31 : Memref sig .tc .vmem S1x128 .f32) (harg31 : arg31.IsWhole) (arg32 : Memref sig .tc .vmem S512x128 .f32) (harg32 : arg32.IsWhole) (arg33 : Memref sig .tc .vmem S1x512 .f32) (harg33 : arg33.IsWhole) (arg34 : Memref sig .tc .vmem S128x256 .f32) (harg34 : arg34.IsWhole) (arg35 : Memref sig .tc .vmem S1x128 .f32) (harg35 : arg35.IsWhole) (arg36 : Memref sig .tc .vmem S128x128 .f32) (harg36 : arg36.IsWhole) (arg37 : Memref sig .tc .vmem S1x128 .f32) (harg37 : arg37.IsWhole) (arg38 : Memref sig .tc .vmem S128x128 .f32) (harg38 : arg38.IsWhole) (arg39 : Memref sig .tc .vmem S1x128 .f32) (harg39 : arg39.IsWhole) (arg40 : Memref sig .tc .vmem S128x128 .f32) (harg40 : arg40.IsWhole) (arg41 : Memref sig .tc .vmem S1x128 .f32) (harg41 : arg41.IsWhole) (arg42 : Memref sig .tc .vmem S256x128 .f32) (harg42 : arg42.IsWhole)
    (hc : ¬ isFirst i)
    (x0 : Vec F S2048x1 .f32) (x1 : Vec F S2048x256 .f32) (x2 : Vec F S1x10 .f32) (x3 : Vec F S1x10 .f32) (x4 : Vec F S50x10 .f32) (x5 : Vec F S1x50 .f32) (x6 : Vec F S256x50 .f32) (x7 : Vec F S1x256 .f32) (x8 : Vec F S256x50 .f32) (x9 : Vec F S1x256 .f32) (x10 : Vec F S256x256 .f32) (x11 : Vec F S1x256 .f32) (x12 : Vec F S256x256 .f32) (x13 : Vec F S100x256 .f32) (x14 : Vec F S1x100 .f32) (x15 : Vec F S60x100 .f32) (x16 : Vec F S1x60 .f32) (x17 : Vec F S30x60 .f32) (x18 : Vec F S1x30 .f32) (x19 : Vec F S1x30 .f32) (x20 : Vec F S1x1 .f32) (s0 : Vec F S1x128 .f32) (s1 : Vec F S1x128 .f32) (s2 : Vec F S128x128 .f32) (s3 : Vec F S1x128 .f32) (s4 : Vec F S512x128 .f32) (s5 : Vec F S1x512 .f32) (s6 : Vec F S128x256 .f32) (s7 : Vec F S1x128 .f32) (s8 : Vec F S128x128 .f32) (s9 : Vec F S1x128 .f32) (s10 : Vec F S128x128 .f32) (s11 : Vec F S1x128 .f32) (s12 : Vec F S128x128 .f32) (s13 : Vec F S1x128 .f32) (s14 : Vec F S256x128 .f32) (a b : Vec F S1x1 .f32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗
      owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗
      owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare x17 ∗
      owns (c : Thread nD τ) arg19 fullShare x18 ∗ owns (c : Thread nD τ) arg20 fullShare x19 ∗ owns (c : Thread nD τ) arg21 fullShare x20
      ∗ (∃ d, owns (c : Thread nD τ) arg22 fullShare d) ∗ (∃ d, owns (c : Thread nD τ) arg23 fullShare d) ∗ (∃ d, owns (c : Thread nD τ) arg24 fullShare d) ∗ (∃ d, owns (c : Thread nD τ) arg25 fullShare d) ∗ owns (c : Thread nD τ) arg26 fullShare a ∗ owns (c : Thread nD τ) arg27 fullShare b
      ∗ owns (c : Thread nD τ) arg28 fullShare s0 ∗ owns (c : Thread nD τ) arg29 fullShare s1 ∗ owns (c : Thread nD τ) arg30 fullShare s2 ∗ owns (c : Thread nD τ) arg31 fullShare s3 ∗ owns (c : Thread nD τ) arg32 fullShare s4 ∗ owns (c : Thread nD τ) arg33 fullShare s5 ∗
      owns (c : Thread nD τ) arg34 fullShare s6 ∗ owns (c : Thread nD τ) arg35 fullShare s7 ∗ owns (c : Thread nD τ) arg36 fullShare s8 ∗ owns (c : Thread nD τ) arg37 fullShare s9 ∗ owns (c : Thread nD τ) arg38 fullShare s10 ∗ owns (c : Thread nD τ) arg39 fullShare s11 ∗
      owns (c : Thread nD τ) arg40 fullShare s12 ∗ owns (c : Thread nD τ) arg41 fullShare s13 ∗ owns (c : Thread nD τ) arg42 fullShare s14
      ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗
      owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗
      owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare x17 ∗
      owns (c : Thread nD τ) arg19 fullShare x18 ∗ owns (c : Thread nD τ) arg20 fullShare x19 ∗ owns (c : Thread nD τ) arg21 fullShare x20
        ∗ owns (c : Thread nD τ) arg22 fullShare (zeOf x0 x1 s0 s1 s2 s3 s4 s5) ∗
        owns (c : Thread nD τ) arg23 fullShare (k0_pay45 (zeOf x0 x1 s0 s1 s2 s3 s4 s5) x10 x11 x10) ∗
        owns (c : Thread nD τ) arg24 fullShare (deOf (zeOf x0 x1 s0 s1 s2 s3 s4 s5) s6 s7 s8 s9 s10 s11 s12 s13) ∗
        owns (c : Thread nD τ) arg25 fullShare (k0_pay2 (k0_pay44 (zeOf x0 x1 s0 s1 s2 s3 s4 s5) x10 x11) s14) ∗
        owns (c : Thread nD τ) arg26 fullShare (k0_pay5 (k0_pay43 (zeOf x0 x1 s0 s1 s2 s3 s4 s5) x10 x11) a) ∗
        owns (c : Thread nD τ) arg27 fullShare (k0_pay6 (k0_pay47 (k0_pay46 (zeOf x0 x1 s0 s1 s2 s3 s4 s5) x10 x11 x12)) b)
        ∗ owns (c : Thread nD τ) arg28 fullShare s0 ∗ owns (c : Thread nD τ) arg29 fullShare s1 ∗ owns (c : Thread nD τ) arg30 fullShare s2 ∗ owns (c : Thread nD τ) arg31 fullShare s3 ∗ owns (c : Thread nD τ) arg32 fullShare s4 ∗ owns (c : Thread nD τ) arg33 fullShare s5 ∗
      owns (c : Thread nD τ) arg34 fullShare s6 ∗ owns (c : Thread nD τ) arg35 fullShare s7 ∗ owns (c : Thread nD τ) arg36 fullShare s8 ∗ owns (c : Thread nD τ) arg37 fullShare s9 ∗ owns (c : Thread nD τ) arg38 fullShare s10 ∗ owns (c : Thread nD τ) arg39 fullShare s11 ∗
      owns (c : Thread nD τ) arg40 fullShare s12 ∗ owns (c : Thread nD τ) arg41 fullShare s13 ∗ owns (c : Thread nD τ) arg42 fullShare s14) -∗ K ⟨⟩))
      ⊢ wp frame (wpE (defs₀ (F := F)) Variants.none c none) E (cc0__body i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42) K := by
  simp only [cc0__body_eq_skeleton]; unfold cc0__body_skel
  simp only [owns_eq_own c harg1, owns_eq_own c harg2, owns_eq_own c harg3, owns_eq_own c harg4, owns_eq_own c harg5, owns_eq_own c harg6,
    owns_eq_own c harg7, owns_eq_own c harg8, owns_eq_own c harg9, owns_eq_own c harg10, owns_eq_own c harg11, owns_eq_own c harg12,
    owns_eq_own c harg13, owns_eq_own c harg14, owns_eq_own c harg15, owns_eq_own c harg16, owns_eq_own c harg17, owns_eq_own c harg18,
    owns_eq_own c harg19, owns_eq_own c harg20, owns_eq_own c harg21, owns_eq_own c harg22, owns_eq_own c harg23, owns_eq_own c harg24,
    owns_eq_own c harg25, owns_eq_own c harg26, owns_eq_own c harg27, owns_eq_own c harg28, owns_eq_own c harg29, owns_eq_own c harg30,
    owns_eq_own c harg31, owns_eq_own c harg32, owns_eq_own c harg33, owns_eq_own c harg34, owns_eq_own c harg35, owns_eq_own c harg36,
    owns_eq_own c harg37, owns_eq_own c harg38, owns_eq_own c harg39, owns_eq_own c harg40, owns_eq_own c harg41, owns_eq_own c harg42]; unfold own
  iintro ⟨H0, H1, H2, H3, H4, H5, H6, H7, H8, H9, H10, H11, H12, H13, H14, H15, H16, H17, H18, H19, H20, ⟨%f21, H21⟩, ⟨%f22, H22⟩, ⟨%f23, H23⟩, ⟨%f24, H24⟩, H25, H26, G0, G1, G2, G3, G4, G5, G6, G7, G8, G9, G10, G11, G12, G13, G14, Hk⟩
  sl_exec_parts! (disch := sl_exact hc)
  sl_step
  iapply Hk
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; iapply (own_of_canon c harg22 ?_); rotate_left; iexact H21
  isplitl [H22]; iapply (own_of_canon c harg23 ?_); rotate_left; iexact H22
  isplitl [H23]; iapply (own_of_canon c harg24 ?_); rotate_left; iexact H23
  isplitl [H24]; iapply (own_of_canon c harg25 ?_); rotate_left; iexact H24
  isplitl [H25]; iapply (own_of_canon c harg26 ?_); rotate_left; iexact H25
  isplitl [H26]; iapply (own_of_canon c harg27 ?_); rotate_left; iexact H26
  isplitl [G0]; · iexact G0
  isplitl [G1]; · iexact G1
  isplitl [G2]; · iexact G2
  isplitl [G3]; · iexact G3
  isplitl [G4]; · iexact G4
  isplitl [G5]; · iexact G5
  isplitl [G6]; · iexact G6
  isplitl [G7]; · iexact G7
  isplitl [G8]; · iexact G8
  isplitl [G9]; · iexact G9
  isplitl [G10]; · iexact G10
  isplitl [G11]; · iexact G11
  isplitl [G12]; · iexact G12
  isplitl [G13]; · iexact G13
  iexact G14
  all_goals
    rw [View.read_writes_junk_eq_canon]
    repeat delta run_later.sl.H21_1 run_later.sl.H22_1 run_later.sl.H23_1 run_later.sl.H24_1 run_later.sl.H25_1 run_later.sl.H26_1 run_later.sl.r
              run_later.sl.r_1 run_later.sl.r_2 run_later.sl.r_3 run_later.sl.r_4 run_later.sl.r_5 run_later.sl.r_6 run_later.sl.r_7
    simp only [View.readAt_eq_ld, Memref.IsWhole.read_unread, ld_zero, cov_zero, canon_zero]
    try rfl
set_option maxHeartbeats 4000000 in
/-- The body at the first point: the scratch buffers are filled, the two losses start at zero. -/
theorem run_first (c : Dev nD) (i : grid0.Coords) (arg1 : Memref sig .tc .vmem S2048x1 .f32) (harg1 : arg1.IsWhole) (arg2 : Memref sig .tc .vmem S2048x256 .f32) (harg2 : arg2.IsWhole) (arg3 : Memref sig .tc .vmem S1x10 .f32) (harg3 : arg3.IsWhole) (arg4 : Memref sig .tc .vmem S1x10 .f32) (harg4 : arg4.IsWhole) (arg5 : Memref sig .tc .vmem S50x10 .f32) (harg5 : arg5.IsWhole) (arg6 : Memref sig .tc .vmem S1x50 .f32) (harg6 : arg6.IsWhole) (arg7 : Memref sig .tc .vmem S256x50 .f32) (harg7 : arg7.IsWhole) (arg8 : Memref sig .tc .vmem S1x256 .f32) (harg8 : arg8.IsWhole) (arg9 : Memref sig .tc .vmem S256x50 .f32) (harg9 : arg9.IsWhole) (arg10 : Memref sig .tc .vmem S1x256 .f32) (harg10 : arg10.IsWhole) (arg11 : Memref sig .tc .vmem S256x256 .f32) (harg11 : arg11.IsWhole) (arg12 : Memref sig .tc .vmem S1x256 .f32) (harg12 : arg12.IsWhole) (arg13 : Memref sig .tc .vmem S256x256 .f32) (harg13 : arg13.IsWhole) (arg14 : Memref sig .tc .vmem S100x256 .f32) (harg14 : arg14.IsWhole) (arg15 : Memref sig .tc .vmem S1x100 .f32) (harg15 : arg15.IsWhole) (arg16 : Memref sig .tc .vmem S60x100 .f32) (harg16 : arg16.IsWhole) (arg17 : Memref sig .tc .vmem S1x60 .f32) (harg17 : arg17.IsWhole) (arg18 : Memref sig .tc .vmem S30x60 .f32) (harg18 : arg18.IsWhole) (arg19 : Memref sig .tc .vmem S1x30 .f32) (harg19 : arg19.IsWhole) (arg20 : Memref sig .tc .vmem S1x30 .f32) (harg20 : arg20.IsWhole) (arg21 : Memref sig .tc .vmem S1x1 .f32) (harg21 : arg21.IsWhole) (arg22 : Memref sig .tc .vmem S2048x256 .f32) (harg22 : arg22.IsWhole) (arg23 : Memref sig .tc .vmem S2048x256 .f32) (harg23 : arg23.IsWhole) (arg24 : Memref sig .tc .vmem S2048x1 .f32) (harg24 : arg24.IsWhole) (arg25 : Memref sig .tc .vmem S2048x1 .f32) (harg25 : arg25.IsWhole) (arg26 : Memref sig .tc .vmem S1x1 .f32) (harg26 : arg26.IsWhole) (arg27 : Memref sig .tc .vmem S1x1 .f32) (harg27 : arg27.IsWhole) (arg28 : Memref sig .tc .vmem S1x128 .f32) (harg28 : arg28.IsWhole) (arg29 : Memref sig .tc .vmem S1x128 .f32) (harg29 : arg29.IsWhole) (arg30 : Memref sig .tc .vmem S128x128 .f32) (harg30 : arg30.IsWhole) (arg31 : Memref sig .tc .vmem S1x128 .f32) (harg31 : arg31.IsWhole) (arg32 : Memref sig .tc .vmem S512x128 .f32) (harg32 : arg32.IsWhole) (arg33 : Memref sig .tc .vmem S1x512 .f32) (harg33 : arg33.IsWhole) (arg34 : Memref sig .tc .vmem S128x256 .f32) (harg34 : arg34.IsWhole) (arg35 : Memref sig .tc .vmem S1x128 .f32) (harg35 : arg35.IsWhole) (arg36 : Memref sig .tc .vmem S128x128 .f32) (harg36 : arg36.IsWhole) (arg37 : Memref sig .tc .vmem S1x128 .f32) (harg37 : arg37.IsWhole) (arg38 : Memref sig .tc .vmem S128x128 .f32) (harg38 : arg38.IsWhole) (arg39 : Memref sig .tc .vmem S1x128 .f32) (harg39 : arg39.IsWhole) (arg40 : Memref sig .tc .vmem S128x128 .f32) (harg40 : arg40.IsWhole) (arg41 : Memref sig .tc .vmem S1x128 .f32) (harg41 : arg41.IsWhole) (arg42 : Memref sig .tc .vmem S256x128 .f32) (harg42 : arg42.IsWhole)
    (hc : isFirst i)
    (x0 : Vec F S2048x1 .f32) (x1 : Vec F S2048x256 .f32) (x2 : Vec F S1x10 .f32) (x3 : Vec F S1x10 .f32) (x4 : Vec F S50x10 .f32) (x5 : Vec F S1x50 .f32) (x6 : Vec F S256x50 .f32) (x7 : Vec F S1x256 .f32) (x8 : Vec F S256x50 .f32) (x9 : Vec F S1x256 .f32) (x10 : Vec F S256x256 .f32) (x11 : Vec F S1x256 .f32) (x12 : Vec F S256x256 .f32) (x13 : Vec F S100x256 .f32) (x14 : Vec F S1x100 .f32) (x15 : Vec F S60x100 .f32) (x16 : Vec F S1x60 .f32) (x17 : Vec F S30x60 .f32) (x18 : Vec F S1x30 .f32) (x19 : Vec F S1x30 .f32) (x20 : Vec F S1x1 .f32)  (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗
      owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗
      owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare x17 ∗
      owns (c : Thread nD τ) arg19 fullShare x18 ∗ owns (c : Thread nD τ) arg20 fullShare x19 ∗ owns (c : Thread nD τ) arg21 fullShare x20
      ∗ (∃ d, owns (c : Thread nD τ) arg22 fullShare d) ∗ (∃ d, owns (c : Thread nD τ) arg23 fullShare d) ∗ (∃ d, owns (c : Thread nD τ) arg24 fullShare d) ∗ (∃ d, owns (c : Thread nD τ) arg25 fullShare d) ∗ (∃ d, owns (c : Thread nD τ) arg26 fullShare d) ∗ (∃ d, owns (c : Thread nD τ) arg27 fullShare d)
      ∗ (∃ d, owns (c : Thread nD τ) arg28 fullShare d) ∗ (∃ d, owns (c : Thread nD τ) arg29 fullShare d) ∗ (∃ d, owns (c : Thread nD τ) arg30 fullShare d) ∗ (∃ d, owns (c : Thread nD τ) arg31 fullShare d) ∗ (∃ d, owns (c : Thread nD τ) arg32 fullShare d) ∗ (∃ d, owns (c : Thread nD τ) arg33 fullShare d) ∗
      (∃ d, owns (c : Thread nD τ) arg34 fullShare d) ∗ (∃ d, owns (c : Thread nD τ) arg35 fullShare d) ∗ (∃ d, owns (c : Thread nD τ) arg36 fullShare d) ∗ (∃ d, owns (c : Thread nD τ) arg37 fullShare d) ∗ (∃ d, owns (c : Thread nD τ) arg38 fullShare d) ∗ (∃ d, owns (c : Thread nD τ) arg39 fullShare d) ∗
      (∃ d, owns (c : Thread nD τ) arg40 fullShare d) ∗ (∃ d, owns (c : Thread nD τ) arg41 fullShare d) ∗ (∃ d, owns (c : Thread nD τ) arg42 fullShare d)
      ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗
      owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗
      owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare x17 ∗
      owns (c : Thread nD τ) arg19 fullShare x18 ∗ owns (c : Thread nD τ) arg20 fullShare x19 ∗ owns (c : Thread nD τ) arg21 fullShare x20
        ∗ owns (c : Thread nD τ) arg22 fullShare (zeOf x0 x1 (pad0 x2) (pad1 x3) (pad2 x4) (pad3 x5) (pad4 x6 x8) (pad5 x7 x9)) ∗
        owns (c : Thread nD τ) arg23 fullShare (k0_pay45 (zeOf x0 x1 (pad0 x2) (pad1 x3) (pad2 x4) (pad3 x5) (pad4 x6 x8) (pad5 x7 x9)) x10 x11 x10) ∗
        owns (c : Thread nD τ) arg24 fullShare (deOf (zeOf x0 x1 (pad0 x2) (pad1 x3) (pad2 x4) (pad3 x5) (pad4 x6 x8) (pad5 x7 x9)) (pad6 x13) (pad7 x14) (pad8 x15) (pad9 x16) (pad10 x17) (pad11 x18) (pad12 x19) (pad13 x20)) ∗
        owns (c : Thread nD τ) arg25 fullShare (k0_pay2 (k0_pay44 (zeOf x0 x1 (pad0 x2) (pad1 x3) (pad2 x4) (pad3 x5) (pad4 x6 x8) (pad5 x7 x9)) x10 x11) (table x10 (pad6 x13) (pad7 x14) (pad8 x15) (pad9 x16) (pad10 x17) (pad11 x18) (pad12 x19) (pad13 x20))) ∗
        owns (c : Thread nD τ) arg26 fullShare (k0_pay5 (k0_pay43 (zeOf x0 x1 (pad0 x2) (pad1 x3) (pad2 x4) (pad3 x5) (pad4 x6 x8) (pad5 x7 x9)) x10 x11) k0_pay3) ∗
        owns (c : Thread nD τ) arg27 fullShare (k0_pay6 (k0_pay47 (k0_pay46 (zeOf x0 x1 (pad0 x2) (pad1 x3) (pad2 x4) (pad3 x5) (pad4 x6 x8) (pad5 x7 x9)) x10 x11 x12)) k0_pay4)
        ∗ owns (c : Thread nD τ) arg28 fullShare (pad0 x2) ∗
        owns (c : Thread nD τ) arg29 fullShare (pad1 x3) ∗
        owns (c : Thread nD τ) arg30 fullShare (pad2 x4) ∗
        owns (c : Thread nD τ) arg31 fullShare (pad3 x5) ∗
        owns (c : Thread nD τ) arg32 fullShare (pad4 x6 x8) ∗
        owns (c : Thread nD τ) arg33 fullShare (pad5 x7 x9) ∗
        owns (c : Thread nD τ) arg34 fullShare (pad6 x13) ∗
        owns (c : Thread nD τ) arg35 fullShare (pad7 x14) ∗
        owns (c : Thread nD τ) arg36 fullShare (pad8 x15) ∗
        owns (c : Thread nD τ) arg37 fullShare (pad9 x16) ∗
        owns (c : Thread nD τ) arg38 fullShare (pad10 x17) ∗
        owns (c : Thread nD τ) arg39 fullShare (pad11 x18) ∗
        owns (c : Thread nD τ) arg40 fullShare (pad12 x19) ∗
        owns (c : Thread nD τ) arg41 fullShare (pad13 x20) ∗
        owns (c : Thread nD τ) arg42 fullShare (table x10 (pad6 x13) (pad7 x14) (pad8 x15) (pad9 x16) (pad10 x17) (pad11 x18) (pad12 x19) (pad13 x20))) -∗ K ⟨⟩))
      ⊢ wp frame (wpE (defs₀ (F := F)) Variants.none c none) E (cc0__body i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42) K := by
  simp only [cc0__body_eq_skeleton]; unfold cc0__body_skel
  simp only [owns_eq_own c harg1, owns_eq_own c harg2, owns_eq_own c harg3, owns_eq_own c harg4, owns_eq_own c harg5, owns_eq_own c harg6,
    owns_eq_own c harg7, owns_eq_own c harg8, owns_eq_own c harg9, owns_eq_own c harg10, owns_eq_own c harg11, owns_eq_own c harg12,
    owns_eq_own c harg13, owns_eq_own c harg14, owns_eq_own c harg15, owns_eq_own c harg16, owns_eq_own c harg17, owns_eq_own c harg18,
    owns_eq_own c harg19, owns_eq_own c harg20, owns_eq_own c harg21, owns_eq_own c harg22, owns_eq_own c harg23, owns_eq_own c harg24,
    owns_eq_own c harg25, owns_eq_own c harg26, owns_eq_own c harg27, owns_eq_own c harg28, owns_eq_own c harg29, owns_eq_own c harg30,
    owns_eq_own c harg31, owns_eq_own c harg32, owns_eq_own c harg33, owns_eq_own c harg34, owns_eq_own c harg35, owns_eq_own c harg36,
    owns_eq_own c harg37, owns_eq_own c harg38, owns_eq_own c harg39, owns_eq_own c harg40, owns_eq_own c harg41, owns_eq_own c harg42]; unfold own
  iintro ⟨H0, H1, H2, H3, H4, H5, H6, H7, H8, H9, H10, H11, H12, H13, H14, H15, H16, H17, H18, H19, H20, ⟨%f21, H21⟩, ⟨%f22, H22⟩, ⟨%f23, H23⟩, ⟨%f24, H24⟩, ⟨%f25, H25⟩, ⟨%f26, H26⟩, ⟨%g0, G0⟩, ⟨%g1, G1⟩, ⟨%g2, G2⟩, ⟨%g3, G3⟩, ⟨%g4, G4⟩, ⟨%g5, G5⟩, ⟨%g6, G6⟩, ⟨%g7, G7⟩, ⟨%g8, G8⟩, ⟨%g9, G9⟩, ⟨%g10, G10⟩, ⟨%g11, G11⟩, ⟨%g12, G12⟩, ⟨%g13, G13⟩, ⟨%g14, G14⟩, Hk⟩
  sl_exec_parts! (disch := sl_exact hc)
  sl_step
  iapply Hk
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; iapply (own_of_canon c harg22 ?_); rotate_left; iexact H21
  isplitl [H22]; iapply (own_of_canon c harg23 ?_); rotate_left; iexact H22
  isplitl [H23]; iapply (own_of_canon c harg24 ?_); rotate_left; iexact H23
  isplitl [H24]; iapply (own_of_canon c harg25 ?_); rotate_left; iexact H24
  isplitl [H25]; iapply (own_of_canon c harg26 ?_); rotate_left; iexact H25
  isplitl [H26]; iapply (own_of_canon c harg27 ?_); rotate_left; iexact H26
  isplitl [G0]; iapply (own_of_canon c harg28 ?_); rotate_left; iexact G0
  isplitl [G1]; iapply (own_of_canon c harg29 ?_); rotate_left; iexact G1
  isplitl [G2]; iapply (own_of_canon c harg30 ?_); rotate_left; iexact G2
  isplitl [G3]; iapply (own_of_canon c harg31 ?_); rotate_left; iexact G3
  isplitl [G4]; iapply (own_of_canon c harg32 ?_); rotate_left; iexact G4
  isplitl [G5]; iapply (own_of_canon c harg33 ?_); rotate_left; iexact G5
  isplitl [G6]; iapply (own_of_canon c harg34 ?_); rotate_left; iexact G6
  isplitl [G7]; iapply (own_of_canon c harg35 ?_); rotate_left; iexact G7
  isplitl [G8]; iapply (own_of_canon c harg36 ?_); rotate_left; iexact G8
  isplitl [G9]; iapply (own_of_canon c harg37 ?_); rotate_left; iexact G9
  isplitl [G10]; iapply (own_of_canon c harg38 ?_); rotate_left; iexact G10
  isplitl [G11]; iapply (own_of_canon c harg39 ?_); rotate_left; iexact G11
  isplitl [G12]; iapply (own_of_canon c harg40 ?_); rotate_left; iexact G12
  isplitl [G13]; iapply (own_of_canon c harg41 ?_); rotate_left; iexact G13
  iapply (own_of_canon c harg42 ?_); rotate_left; iexact G14
  all_goals
    rw [View.read_writes_junk_eq_canon]
    repeat delta run_first.sl.H21_1 run_first.sl.H22_1 run_first.sl.H23_1 run_first.sl.H24_1 run_first.sl.H25_2 run_first.sl.H26_2 run_first.sl.H25_1
              run_first.sl.H26_1 run_first.sl.G0_2 run_first.sl.G1_2 run_first.sl.G2_2 run_first.sl.G3_2 run_first.sl.G4_3 run_first.sl.G5_2
              run_first.sl.G6_2 run_first.sl.G7_2 run_first.sl.G8_2 run_first.sl.G9_2 run_first.sl.G10_2 run_first.sl.G11_2 run_first.sl.G12_2
              run_first.sl.G13_2 run_first.sl.G14_1 run_first.sl.G9_1 run_first.sl.cst_179 run_first.sl.r run_first.sl.r_1 run_first.sl.r_2
              run_first.sl.r_3 run_first.sl.r_4 run_first.sl.r_5 run_first.sl.r_6 run_first.sl.r_7 run_first.sl.r_8 run_first.sl.r_9
              run_first.sl.v4 run_first.sl.v8 run_first.sl.v14 run_first.sl.v16 run_first.sl.v22 run_first.sl.v24 run_first.sl.v255
              run_first.sl.v257 run_first.sl.v263 run_first.sl.v265 run_first.sl.v271 run_first.sl.v273 run_first.sl.v279 run_first.sl.v281
              run_first.sl.v112 run_first.sl.v119 run_first.sl.v124
    simp only [View.readAt_eq_ld, Memref.IsWhole.read_unread, ld_zero, cov_zero, canon_zero]
    try rfl

end Cert.KernelIdeal.Hand

end
-- ==== Proof.RunIdeal.lean ====
/-
  The run of the whole launch, for any float values `F`: what every result block and every scratch buffer hold after
  each grid point, the body's obligation at a point from the two runs of the body, and the launch.
-/
module

public import proofs.«01_k».proof.Proof.BodyIdeal
public import Idealize.ShloMosaic.Lib.Claim

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the buffers hold -/

/-- The grid's first point. -/
def tFirst : Fin cfg0.N := ⟨0, Nat.lt_of_lt_of_eq (by decide) N_0.symm⟩

/-- Scratch buffer 0 from the first point on. -/
def scr0 (c : Dev nD) : Vec F S1x128 .f32 := pad0 (iblk m c 2 tFirst)
/-- Scratch buffer 1 from the first point on. -/
def scr1 (c : Dev nD) : Vec F S1x128 .f32 := pad1 (iblk m c 3 tFirst)
/-- Scratch buffer 2 from the first point on. -/
def scr2 (c : Dev nD) : Vec F S128x128 .f32 := pad2 (iblk m c 4 tFirst)
/-- Scratch buffer 3 from the first point on. -/
def scr3 (c : Dev nD) : Vec F S1x128 .f32 := pad3 (iblk m c 5 tFirst)
/-- Scratch buffer 4 from the first point on. -/
def scr4 (c : Dev nD) : Vec F S512x128 .f32 := pad4 (iblk m c 6 tFirst) (iblk m c 8 tFirst)
/-- Scratch buffer 5 from the first point on. -/
def scr5 (c : Dev nD) : Vec F S1x512 .f32 := pad5 (iblk m c 7 tFirst) (iblk m c 9 tFirst)
/-- Scratch buffer 6 from the first point on. -/
def scr6 (c : Dev nD) : Vec F S128x256 .f32 := pad6 (iblk m c 13 tFirst)
/-- Scratch buffer 7 from the first point on. -/
def scr7 (c : Dev nD) : Vec F S1x128 .f32 := pad7 (iblk m c 14 tFirst)
/-- Scratch buffer 8 from the first point on. -/
def scr8 (c : Dev nD) : Vec F S128x128 .f32 := pad8 (iblk m c 15 tFirst)
/-- Scratch buffer 9 from the first point on. -/
def scr9 (c : Dev nD) : Vec F S1x128 .f32 := pad9 (iblk m c 16 tFirst)
/-- Scratch buffer 10 from the first point on. -/
def scr10 (c : Dev nD) : Vec F S128x128 .f32 := pad10 (iblk m c 17 tFirst)
/-- Scratch buffer 11 from the first point on. -/
def scr11 (c : Dev nD) : Vec F S1x128 .f32 := pad11 (iblk m c 18 tFirst)
/-- Scratch buffer 12 from the first point on. -/
def scr12 (c : Dev nD) : Vec F S128x128 .f32 := pad12 (iblk m c 19 tFirst)
/-- Scratch buffer 13 from the first point on. -/
def scr13 (c : Dev nD) : Vec F S1x128 .f32 := pad13 (iblk m c 20 tFirst)
/-- The decoder table from the first point on. -/
def scr14 (c : Dev nD) : Vec F S256x128 .f32 := table (iblk m c 10 tFirst) (scr6 m c) (scr7 m c) (scr8 m c) (scr9 m c) (scr10 m c) (scr11 m c) (scr12 m c) (scr13 m c)
/-- The block of `z_e` at a point. -/
def zeAt (c : Dev nD) (t : Fin cfg0.N) : Vec F S2048x256 .f32 := zeOf (iblk m c 0 t) (iblk m c 1 t) (scr0 m c) (scr1 m c) (scr2 m c) (scr3 m c) (scr4 m c) (scr5 m c)
/-- The block of `z_q`. -/
def zqAt (c : Dev nD) (t : Fin cfg0.N) : Vec F S2048x256 .f32 := k0_pay45 (zeAt m c t) (iblk m c 10 t) (iblk m c 11 t) (iblk m c 10 t)
/-- The block of the decoder on `z_e`. -/
def deAt (c : Dev nD) (t : Fin cfg0.N) : Vec F S2048x1 .f32 := deOf (zeAt m c t) (scr6 m c) (scr7 m c) (scr8 m c) (scr9 m c) (scr10 m c) (scr11 m c) (scr12 m c) (scr13 m c)
/-- The block of the decoder on `z_q`. -/
def dqAt (c : Dev nD) (t : Fin cfg0.N) : Vec F S2048x1 .f32 := k0_pay2 (k0_pay44 (zeAt m c t) (iblk m c 10 t) (iblk m c 11 t)) (scr14 m c)
/-- A point's share of the commitment loss. -/
def csPt (c : Dev nD) (t : Fin cfg0.N) : F .f32 := k0_pay43 (F := F) (zeAt m c t) (iblk m c 10 t) (iblk m c 11 t)
/-- A point's share of the neighbour loss. -/
def ssPt (c : Dev nD) (t : Fin cfg0.N) : F .f32 := k0_pay47 (F := F) (k0_pay46 (F := F) (zeAt m c t) (iblk m c 10 t) (iblk m c 11 t) (iblk m c 12 t))
/-- The commitment loss after point `n`. -/
def csAt (c : Dev nD) : (n : ℕ) → n < cfg0.N → Vec F S1x1 .f32
  | 0, h => k0_pay5 (F := F) (csPt m c ⟨0, h⟩) k0_pay3
  | n + 1, h => k0_pay5 (F := F) (csPt m c ⟨n + 1, h⟩) (csAt c n (Nat.lt_of_succ_lt h))
/-- The neighbour loss after point `n`. -/
def ssAt (c : Dev nD) : (n : ℕ) → n < cfg0.N → Vec F S1x1 .f32
  | 0, h => k0_pay6 (F := F) (ssPt m c ⟨0, h⟩) k0_pay4
  | n + 1, h => k0_pay6 (F := F) (ssPt m c ⟨n + 1, h⟩) (ssAt c n (Nat.lt_of_succ_lt h))

/-- The scratch buffers at what the first point left in them. -/
def scratch (c : Dev nD) : sProp 𝕄 :=
  iprop(owns (c : Thread nD τ) (Memref.whole cc0_scratch0) fullShare (scr0 m c) ∗ owns (c : Thread nD τ) (Memref.whole cc0_scratch1) fullShare (scr1 m c) ∗ owns (c : Thread nD τ) (Memref.whole cc0_scratch2) fullShare (scr2 m c) ∗
    owns (c : Thread nD τ) (Memref.whole cc0_scratch3) fullShare (scr3 m c) ∗ owns (c : Thread nD τ) (Memref.whole cc0_scratch4) fullShare (scr4 m c) ∗ owns (c : Thread nD τ) (Memref.whole cc0_scratch5) fullShare (scr5 m c) ∗
    owns (c : Thread nD τ) (Memref.whole cc0_scratch6) fullShare (scr6 m c) ∗ owns (c : Thread nD τ) (Memref.whole cc0_scratch7) fullShare (scr7 m c) ∗ owns (c : Thread nD τ) (Memref.whole cc0_scratch8) fullShare (scr8 m c) ∗
    owns (c : Thread nD τ) (Memref.whole cc0_scratch9) fullShare (scr9 m c) ∗ owns (c : Thread nD τ) (Memref.whole cc0_scratch10) fullShare (scr10 m c) ∗ owns (c : Thread nD τ) (Memref.whole cc0_scratch11) fullShare (scr11 m c) ∗
    owns (c : Thread nD τ) (Memref.whole cc0_scratch12) fullShare (scr12 m c) ∗ owns (c : Thread nD τ) (Memref.whole cc0_scratch13) fullShare (scr13 m c) ∗ owns (c : Thread nD τ) (Memref.whole cc0_scratch14) fullShare (scr14 m c))
/-- The region's invariant before point `n`: before the first, every scratch buffer at something; after it, at the padded
    weights and the table. -/
def PhiS (c : Dev nD) : (n : ℕ) → sProp 𝕄
  | 0 => Pipeline.ΦA spec0 c
  | _ + 1 => iprop(scratch m c ∗ (∃ r, prngReg c r))

theorem PhiA_eq (c : Dev nD) :
    (Pipeline.ΦA spec0 c : sProp 𝕄) = iprop(iprop((∃ d, owns (c : Thread nD τ) (Memref.whole cc0_scratch0) fullShare d) ∗ (∃ d, owns (c : Thread nD τ) (Memref.whole cc0_scratch1) fullShare d) ∗
        (∃ d, owns (c : Thread nD τ) (Memref.whole cc0_scratch2) fullShare d) ∗ (∃ d, owns (c : Thread nD τ) (Memref.whole cc0_scratch3) fullShare d) ∗
        (∃ d, owns (c : Thread nD τ) (Memref.whole cc0_scratch4) fullShare d) ∗ (∃ d, owns (c : Thread nD τ) (Memref.whole cc0_scratch5) fullShare d) ∗
        (∃ d, owns (c : Thread nD τ) (Memref.whole cc0_scratch6) fullShare d) ∗ (∃ d, owns (c : Thread nD τ) (Memref.whole cc0_scratch7) fullShare d) ∗
        (∃ d, owns (c : Thread nD τ) (Memref.whole cc0_scratch8) fullShare d) ∗ (∃ d, owns (c : Thread nD τ) (Memref.whole cc0_scratch9) fullShare d) ∗
        (∃ d, owns (c : Thread nD τ) (Memref.whole cc0_scratch10) fullShare d) ∗ (∃ d, owns (c : Thread nD τ) (Memref.whole cc0_scratch11) fullShare d) ∗
        (∃ d, owns (c : Thread nD τ) (Memref.whole cc0_scratch12) fullShare d) ∗ (∃ d, owns (c : Thread nD τ) (Memref.whole cc0_scratch13) fullShare d) ∗
        (∃ d, owns (c : Thread nD τ) (Memref.whole cc0_scratch14) fullShare d))
      ∗ (∃ r, prngReg c r)) := by
  unfold Pipeline.ΦA; rw [scopedRest0_eq]; simp only [owns_whole]

/-- The proof data: each input's buffer at its block, each result's at the values above. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => iblk m c 16 t
    | ⟨17, _⟩ => iblk m c 17 t
    | ⟨18, _⟩ => iblk m c 18 t
    | ⟨19, _⟩ => iblk m c 19 t
    | ⟨20, _⟩ => iblk m c 20 t
    | ⟨21, _⟩ => zeAt m c t
    | ⟨22, _⟩ => zqAt m c t
    | ⟨23, _⟩ => deAt m c t
    | ⟨24, _⟩ => dqAt m c t
    | ⟨25, _⟩ => csAt m c t.val t.isLt
    | ⟨26, _⟩ => ssAt m c t.val t.isLt
    | ⟨_ + 27, h⟩ => absurd h (Nat.not_lt.2 (Nat.le_add_left _ _))
  Φ t := PhiS m c t.val
  q _ := fullShare
  owed _ := 0

theorem A_eq (c : Dev nD) (w : Fin cfg0.W) : (dats m 0 c).A w = V m c (Pipeline.arrRef spec0 w) := by
  dsimp only [dats]

theorem before_0 (c : Dev nD) (t : Fin cfg0.N) (d) : (dats m 0 c).before 0 t d = iblk m c 0 t :=
  before0_0_of m (dats m 0 c) (A_eq m c 0) (fun t => by dsimp only [dats]) t d
theorem before_1 (c : Dev nD) (t : Fin cfg0.N) (d) : (dats m 0 c).before 1 t d = iblk m c 1 t :=
  before0_1_of m (dats m 0 c) (A_eq m c 1) (fun t => by dsimp only [dats]) t d
theorem before_2 (c : Dev nD) (t : Fin cfg0.N) (d) : (dats m 0 c).before 2 t d = iblk m c 2 t :=
  before0_2_of m (dats m 0 c) (A_eq m c 2) (fun t => by dsimp only [dats]) t d
theorem before_3 (c : Dev nD) (t : Fin cfg0.N) (d) : (dats m 0 c).before 3 t d = iblk m c 3 t :=
  before0_3_of m (dats m 0 c) (A_eq m c 3) (fun t => by dsimp only [dats]) t d
theorem before_4 (c : Dev nD) (t : Fin cfg0.N) (d) : (dats m 0 c).before 4 t d = iblk m c 4 t :=
  before0_4_of m (dats m 0 c) (A_eq m c 4) (fun t => by dsimp only [dats]) t d
theorem before_5 (c : Dev nD) (t : Fin cfg0.N) (d) : (dats m 0 c).before 5 t d = iblk m c 5 t :=
  before0_5_of m (dats m 0 c) (A_eq m c 5) (fun t => by dsimp only [dats]) t d
theorem before_6 (c : Dev nD) (t : Fin cfg0.N) (d) : (dats m 0 c).before 6 t d = iblk m c 6 t :=
  before0_6_of m (dats m 0 c) (A_eq m c 6) (fun t => by dsimp only [dats]) t d
theorem before_7 (c : Dev nD) (t : Fin cfg0.N) (d) : (dats m 0 c).before 7 t d = iblk m c 7 t :=
  before0_7_of m (dats m 0 c) (A_eq m c 7) (fun t => by dsimp only [dats]) t d
theorem before_8 (c : Dev nD) (t : Fin cfg0.N) (d) : (dats m 0 c).before 8 t d = iblk m c 8 t :=
  before0_8_of m (dats m 0 c) (A_eq m c 8) (fun t => by dsimp only [dats]) t d
theorem before_9 (c : Dev nD) (t : Fin cfg0.N) (d) : (dats m 0 c).before 9 t d = iblk m c 9 t :=
  before0_9_of m (dats m 0 c) (A_eq m c 9) (fun t => by dsimp only [dats]) t d
theorem before_10 (c : Dev nD) (t : Fin cfg0.N) (d) : (dats m 0 c).before 10 t d = iblk m c 10 t :=
  before0_10_of m (dats m 0 c) (A_eq m c 10) (fun t => by dsimp only [dats]) t d
theorem before_11 (c : Dev nD) (t : Fin cfg0.N) (d) : (dats m 0 c).before 11 t d = iblk m c 11 t :=
  before0_11_of m (dats m 0 c) (A_eq m c 11) (fun t => by dsimp only [dats]) t d
theorem before_12 (c : Dev nD) (t : Fin cfg0.N) (d) : (dats m 0 c).before 12 t d = iblk m c 12 t :=
  before0_12_of m (dats m 0 c) (A_eq m c 12) (fun t => by dsimp only [dats]) t d
theorem before_13 (c : Dev nD) (t : Fin cfg0.N) (d) : (dats m 0 c).before 13 t d = iblk m c 13 t :=
  before0_13_of m (dats m 0 c) (A_eq m c 13) (fun t => by dsimp only [dats]) t d
theorem before_14 (c : Dev nD) (t : Fin cfg0.N) (d) : (dats m 0 c).before 14 t d = iblk m c 14 t :=
  before0_14_of m (dats m 0 c) (A_eq m c 14) (fun t => by dsimp only [dats]) t d
theorem before_15 (c : Dev nD) (t : Fin cfg0.N) (d) : (dats m 0 c).before 15 t d = iblk m c 15 t :=
  before0_15_of m (dats m 0 c) (A_eq m c 15) (fun t => by dsimp only [dats]) t d
theorem before_16 (c : Dev nD) (t : Fin cfg0.N) (d) : (dats m 0 c).before 16 t d = iblk m c 16 t :=
  before0_16_of m (dats m 0 c) (A_eq m c 16) (fun t => by dsimp only [dats]) t d
theorem before_17 (c : Dev nD) (t : Fin cfg0.N) (d) : (dats m 0 c).before 17 t d = iblk m c 17 t :=
  before0_17_of m (dats m 0 c) (A_eq m c 17) (fun t => by dsimp only [dats]) t d
theorem before_18 (c : Dev nD) (t : Fin cfg0.N) (d) : (dats m 0 c).before 18 t d = iblk m c 18 t :=
  before0_18_of m (dats m 0 c) (A_eq m c 18) (fun t => by dsimp only [dats]) t d
theorem before_19 (c : Dev nD) (t : Fin cfg0.N) (d) : (dats m 0 c).before 19 t d = iblk m c 19 t :=
  before0_19_of m (dats m 0 c) (A_eq m c 19) (fun t => by dsimp only [dats]) t d
theorem before_20 (c : Dev nD) (t : Fin cfg0.N) (d) : (dats m 0 c).before 20 t d = iblk m c 20 t :=
  before0_20_of m (dats m 0 c) (A_eq m c 20) (fun t => by dsimp only [dats]) t d
/-- After the first point the loss's buffer still holds what the point before left. -/
theorem before_25 (c : Dev nD) (n : ℕ) (hn : n + 1 < cfg0.N) (d) :
    (dats m 0 c).before 25 ⟨n + 1, hn⟩ d = csAt m c n (Nat.lt_of_succ_lt hn) := by
  have hN : n + 1 < 8 := Nat.lt_of_lt_of_eq hn N_0
  rw [Dat.before_out_kept _ 25 rfl ⟨n + 1, hn⟩ (Nat.succ_ne_zero n) (Bool.eq_false_iff.mpr fun h => by have := (flush0_25 _).mp h; dsimp only at this; omega)
    (fun _ => rfl) (fun _ _ => rfl)]
  dsimp only [dats]; rfl
/-- After the first point the loss's buffer still holds what the point before left. -/
theorem before_26 (c : Dev nD) (n : ℕ) (hn : n + 1 < cfg0.N) (d) :
    (dats m 0 c).before 26 ⟨n + 1, hn⟩ d = ssAt m c n (Nat.lt_of_succ_lt hn) := by
  have hN : n + 1 < 8 := Nat.lt_of_lt_of_eq hn N_0
  rw [Dat.before_out_kept _ 26 rfl ⟨n + 1, hn⟩ (Nat.succ_ne_zero n) (Bool.eq_false_iff.mpr fun h => by have := (flush0_26 _).mp h; dsimp only at this; omega)
    (fun _ => rfl) (fun _ _ => rfl)]
  dsimp only [dats]; rfl

/-! ## The body at a point -/

/-- What the body finds at point `t`, window by window, -/
def bodyPre (c : Dev nD) (t : Fin cfg0.N) : sProp 𝕄 :=
  iprop((dats m 0 c).Φ t.castSucc ∗ (dats m 0 c).owesAt () t.castSucc
    ∗ (∃ d, owns (c : Thread nD τ) (win0_0.stage (cfg0.slots t 0)) fullShare ((dats m 0 c).before 0 t d))
    ∗ (∃ d, owns (c : Thread nD τ) (win0_1.stage (cfg0.slots t 1)) fullShare ((dats m 0 c).before 1 t d))
    ∗ (∃ d, owns (c : Thread nD τ) (win0_2.stage (cfg0.slots t 2)) fullShare ((dats m 0 c).before 2 t d))
    ∗ (∃ d, owns (c : Thread nD τ) (win0_3.stage (cfg0.slots t 3)) fullShare ((dats m 0 c).before 3 t d))
    ∗ (∃ d, owns (c : Thread nD τ) (win0_4.stage (cfg0.slots t 4)) fullShare ((dats m 0 c).before 4 t d))
    ∗ (∃ d, owns (c : Thread nD τ) (win0_5.stage (cfg0.slots t 5)) fullShare ((dats m 0 c).before 5 t d))
    ∗ (∃ d, owns (c : Thread nD τ) (win0_6.stage (cfg0.slots t 6)) fullShare ((dats m 0 c).before 6 t d))
    ∗ (∃ d, owns (c : Thread nD τ) (win0_7.stage (cfg0.slots t 7)) fullShare ((dats m 0 c).before 7 t d))
    ∗ (∃ d, owns (c : Thread nD τ) (win0_8.stage (cfg0.slots t 8)) fullShare ((dats m 0 c).before 8 t d))
    ∗ (∃ d, owns (c : Thread nD τ) (win0_9.stage (cfg0.slots t 9)) fullShare ((dats m 0 c).before 9 t d))
    ∗ (∃ d, owns (c : Thread nD τ) (win0_10.stage (cfg0.slots t 10)) fullShare ((dats m 0 c).before 10 t d))
    ∗ (∃ d, owns (c : Thread nD τ) (win0_11.stage (cfg0.slots t 11)) fullShare ((dats m 0 c).before 11 t d))
    ∗ (∃ d, owns (c : Thread nD τ) (win0_12.stage (cfg0.slots t 12)) fullShare ((dats m 0 c).before 12 t d))
    ∗ (∃ d, owns (c : Thread nD τ) (win0_13.stage (cfg0.slots t 13)) fullShare ((dats m 0 c).before 13 t d))
    ∗ (∃ d, owns (c : Thread nD τ) (win0_14.stage (cfg0.slots t 14)) fullShare ((dats m 0 c).before 14 t d))
    ∗ (∃ d, owns (c : Thread nD τ) (win0_15.stage (cfg0.slots t 15)) fullShare ((dats m 0 c).before 15 t d))
    ∗ (∃ d, owns (c : Thread nD τ) (win0_16.stage (cfg0.slots t 16)) fullShare ((dats m 0 c).before 16 t d))
    ∗ (∃ d, owns (c : Thread nD τ) (win0_17.stage (cfg0.slots t 17)) fullShare ((dats m 0 c).before 17 t d))
    ∗ (∃ d, owns (c : Thread nD τ) (win0_18.stage (cfg0.slots t 18)) fullShare ((dats m 0 c).before 18 t d))
    ∗ (∃ d, owns (c : Thread nD τ) (win0_19.stage (cfg0.slots t 19)) fullShare ((dats m 0 c).before 19 t d))
    ∗ (∃ d, owns (c : Thread nD τ) (win0_20.stage (cfg0.slots t 20)) fullShare ((dats m 0 c).before 20 t d))
    ∗ (∃ d, owns (c : Thread nD τ) (win0_21.stage (cfg0.slots t 21)) fullShare ((dats m 0 c).before 21 t d))
    ∗ (∃ d, owns (c : Thread nD τ) (win0_22.stage (cfg0.slots t 22)) fullShare ((dats m 0 c).before 22 t d))
    ∗ (∃ d, owns (c : Thread nD τ) (win0_23.stage (cfg0.slots t 23)) fullShare ((dats m 0 c).before 23 t d))
    ∗ (∃ d, owns (c : Thread nD τ) (win0_24.stage (cfg0.slots t 24)) fullShare ((dats m 0 c).before 24 t d))
    ∗ (∃ d, owns (c : Thread nD τ) (win0_25.stage (cfg0.slots t 25)) fullShare ((dats m 0 c).before 25 t d))
    ∗ (∃ d, owns (c : Thread nD τ) (win0_26.stage (cfg0.slots t 26)) fullShare ((dats m 0 c).before 26 t d)))
/-- and what it leaves. -/
def bodyPost (c : Dev nD) (t : Fin cfg0.N) : sProp 𝕄 :=
  iprop((dats m 0 c).Φ t.succ ∗ (dats m 0 c).owesAt () t.succ
    ∗ owns (c : Thread nD τ) (win0_0.stage (cfg0.slots t 0)) fullShare ((dats m 0 c).after 0 t)
    ∗ owns (c : Thread nD τ) (win0_1.stage (cfg0.slots t 1)) fullShare ((dats m 0 c).after 1 t)
    ∗ owns (c : Thread nD τ) (win0_2.stage (cfg0.slots t 2)) fullShare ((dats m 0 c).after 2 t)
    ∗ owns (c : Thread nD τ) (win0_3.stage (cfg0.slots t 3)) fullShare ((dats m 0 c).after 3 t)
    ∗ owns (c : Thread nD τ) (win0_4.stage (cfg0.slots t 4)) fullShare ((dats m 0 c).after 4 t)
    ∗ owns (c : Thread nD τ) (win0_5.stage (cfg0.slots t 5)) fullShare ((dats m 0 c).after 5 t)
    ∗ owns (c : Thread nD τ) (win0_6.stage (cfg0.slots t 6)) fullShare ((dats m 0 c).after 6 t)
    ∗ owns (c : Thread nD τ) (win0_7.stage (cfg0.slots t 7)) fullShare ((dats m 0 c).after 7 t)
    ∗ owns (c : Thread nD τ) (win0_8.stage (cfg0.slots t 8)) fullShare ((dats m 0 c).after 8 t)
    ∗ owns (c : Thread nD τ) (win0_9.stage (cfg0.slots t 9)) fullShare ((dats m 0 c).after 9 t)
    ∗ owns (c : Thread nD τ) (win0_10.stage (cfg0.slots t 10)) fullShare ((dats m 0 c).after 10 t)
    ∗ owns (c : Thread nD τ) (win0_11.stage (cfg0.slots t 11)) fullShare ((dats m 0 c).after 11 t)
    ∗ owns (c : Thread nD τ) (win0_12.stage (cfg0.slots t 12)) fullShare ((dats m 0 c).after 12 t)
    ∗ owns (c : Thread nD τ) (win0_13.stage (cfg0.slots t 13)) fullShare ((dats m 0 c).after 13 t)
    ∗ owns (c : Thread nD τ) (win0_14.stage (cfg0.slots t 14)) fullShare ((dats m 0 c).after 14 t)
    ∗ owns (c : Thread nD τ) (win0_15.stage (cfg0.slots t 15)) fullShare ((dats m 0 c).after 15 t)
    ∗ owns (c : Thread nD τ) (win0_16.stage (cfg0.slots t 16)) fullShare ((dats m 0 c).after 16 t)
    ∗ owns (c : Thread nD τ) (win0_17.stage (cfg0.slots t 17)) fullShare ((dats m 0 c).after 17 t)
    ∗ owns (c : Thread nD τ) (win0_18.stage (cfg0.slots t 18)) fullShare ((dats m 0 c).after 18 t)
    ∗ owns (c : Thread nD τ) (win0_19.stage (cfg0.slots t 19)) fullShare ((dats m 0 c).after 19 t)
    ∗ owns (c : Thread nD τ) (win0_20.stage (cfg0.slots t 20)) fullShare ((dats m 0 c).after 20 t)
    ∗ owns (c : Thread nD τ) (win0_21.stage (cfg0.slots t 21)) fullShare ((dats m 0 c).after 21 t)
    ∗ owns (c : Thread nD τ) (win0_22.stage (cfg0.slots t 22)) fullShare ((dats m 0 c).after 22 t)
    ∗ owns (c : Thread nD τ) (win0_23.stage (cfg0.slots t 23)) fullShare ((dats m 0 c).after 23 t)
    ∗ owns (c : Thread nD τ) (win0_24.stage (cfg0.slots t 24)) fullShare ((dats m 0 c).after 24 t)
    ∗ owns (c : Thread nD τ) (win0_25.stage (cfg0.slots t 25)) fullShare ((dats m 0 c).after 25 t)
    ∗ owns (c : Thread nD τ) (win0_26.stage (cfg0.slots t 26)) fullShare ((dats m 0 c).after 26 t))

set_option maxHeartbeats 16000000 in
/-- The first point. -/
theorem sound_first (c : Dev nD) : ∀ t : Fin cfg0.N, t.val = 0 →
    (bodyPre m c t ⊢ wp frame (wpE (defs₀ (F := F)) Variants.none c none) Set.univ (bodyAt0 t) (fun _ => bodyPost m c t)) := by
  intro t ht
  have hc : isFirst (grid0.coords t) := (isFirst_iff t).mpr ht
  have ht' : tFirst = t := Fin.ext ht.symm
  have hcs : csAt m c t.val t.isLt = k0_pay5 (csPt m c t) k0_pay3 := by subst ht'; rfl
  have hss : ssAt m c t.val t.isLt = k0_pay6 (ssPt m c t) k0_pay4 := by subst ht'; rfl
  have hΦ : (dats m 0 c).Φ t.castSucc = Pipeline.ΦA spec0 c := by subst ht'; rfl
  unfold bodyPre bodyPost bodyAt0
  simp only [before_0, before_1, before_2, before_3, before_4, before_5, before_6, before_7, before_8, before_9, before_10, before_11,
    before_12, before_13, before_14, before_15, before_16, before_17, before_18, before_19, before_20]
  rw [show (dats m 0 c).owesAt () t.succ = (dats m 0 c).owesAt () t.castSucc from rfl,
    show (dats m 0 c).Φ t.succ = iprop(scratch m c ∗ (∃ r, prngReg c r)) from rfl, hΦ, PhiA_eq]
  dsimp only [dats]
  rw [hcs, hss]
  unfold scratch zqAt deAt dqAt csPt ssPt zeAt scr14 scr0 scr1 scr2 scr3 scr4 scr5 scr6 scr7 scr8 scr9 scr10 scr11 scr12 scr13
  rw [ht']
  iintro ⟨⟨⟨G0, G1, G2, G3, G4, G5, G6, G7, G8, G9, G10, G11, G12, G13, G14⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩, ⟨%d25, H25⟩, ⟨%d26, H26⟩⟩
  iapply (run_first c (grid0.coords t) _ (hstage0_0 ((cfg0.slots t 0).cast nbuf0_0)) _ (hstage0_1 ((cfg0.slots t 1).cast nbuf0_1)) _ (hstage0_2 ((cfg0.slots t 2).cast nbuf0_2)) _ (hstage0_3 ((cfg0.slots t 3).cast nbuf0_3)) _ (hstage0_4 ((cfg0.slots t 4).cast nbuf0_4)) _ (hstage0_5 ((cfg0.slots t 5).cast nbuf0_5)) _ (hstage0_6 ((cfg0.slots t 6).cast nbuf0_6)) _ (hstage0_7 ((cfg0.slots t 7).cast nbuf0_7)) _ (hstage0_8 ((cfg0.slots t 8).cast nbuf0_8)) _ (hstage0_9 ((cfg0.slots t 9).cast nbuf0_9)) _ (hstage0_10 ((cfg0.slots t 10).cast nbuf0_10)) _ (hstage0_11 ((cfg0.slots t 11).cast nbuf0_11)) _ (hstage0_12 ((cfg0.slots t 12).cast nbuf0_12)) _ (hstage0_13 ((cfg0.slots t 13).cast nbuf0_13)) _ (hstage0_14 ((cfg0.slots t 14).cast nbuf0_14)) _ (hstage0_15 ((cfg0.slots t 15).cast nbuf0_15)) _ (hstage0_16 ((cfg0.slots t 16).cast nbuf0_16)) _ (hstage0_17 ((cfg0.slots t 17).cast nbuf0_17)) _ (hstage0_18 ((cfg0.slots t 18).cast nbuf0_18)) _ (hstage0_19 ((cfg0.slots t 19).cast nbuf0_19)) _ (hstage0_20 ((cfg0.slots t 20).cast nbuf0_20)) _ (hstage0_21 ((cfg0.slots t 21).cast nbuf0_21)) _ (hstage0_22 ((cfg0.slots t 22).cast nbuf0_22)) _ (hstage0_23 ((cfg0.slots t 23).cast nbuf0_23)) _ (hstage0_24 ((cfg0.slots t 24).cast nbuf0_24)) _ (hstage0_25 ((cfg0.slots t 25).cast nbuf0_25)) _ (hstage0_26 ((cfg0.slots t 26).cast nbuf0_26)) _ (Memref.isWhole_whole cc0_scratch0) _ (Memref.isWhole_whole cc0_scratch1) _ (Memref.isWhole_whole cc0_scratch2) _ (Memref.isWhole_whole cc0_scratch3) _ (Memref.isWhole_whole cc0_scratch4) _ (Memref.isWhole_whole cc0_scratch5) _ (Memref.isWhole_whole cc0_scratch6) _ (Memref.isWhole_whole cc0_scratch7) _ (Memref.isWhole_whole cc0_scratch8) _ (Memref.isWhole_whole cc0_scratch9) _ (Memref.isWhole_whole cc0_scratch10) _ (Memref.isWhole_whole cc0_scratch11) _ (Memref.isWhole_whole cc0_scratch12) _ (Memref.isWhole_whole cc0_scratch13) _ (Memref.isWhole_whole cc0_scratch14) hc (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexists _; iexact H21
  isplitl [H22]; · iexists _; iexact H22
  isplitl [H23]; · iexists _; iexact H23
  isplitl [H24]; · iexists _; iexact H24
  isplitl [H25]; · iexists _; iexact H25
  isplitl [H26]; · iexists _; iexact H26
  isplitl [G0]; · iexact G0
  isplitl [G1]; · iexact G1
  isplitl [G2]; · iexact G2
  isplitl [G3]; · iexact G3
  isplitl [G4]; · iexact G4
  isplitl [G5]; · iexact G5
  isplitl [G6]; · iexact G6
  isplitl [G7]; · iexact G7
  isplitl [G8]; · iexact G8
  isplitl [G9]; · iexact G9
  isplitl [G10]; · iexact G10
  isplitl [G11]; · iexact G11
  isplitl [G12]; · iexact G12
  isplitl [G13]; · iexact G13
  isplitl [G14]; · iexact G14
  iintro ⟨H0, H1, H2, H3, H4, H5, H6, H7, H8, H9, H10, H11, H12, H13, H14, H15, H16, H17, H18, H19, H20, H21, H22, H23, H24, H25, H26, G0, G1, G2, G3, G4, G5, G6, G7, G8, G9, G10, G11, G12, G13, G14⟩
  isplitl [G0 G1 G2 G3 G4 G5 G6 G7 G8 G9 G10 G11 G12 G13 G14 Hg]
  · isplitl [G0 G1 G2 G3 G4 G5 G6 G7 G8 G9 G10 G11 G12 G13 G14]; swap; · iexact Hg
    isplitl [G0]; · iexact G0
    isplitl [G1]; · iexact G1
    isplitl [G2]; · iexact G2
    isplitl [G3]; · iexact G3
    isplitl [G4]; · iexact G4
    isplitl [G5]; · iexact G5
    isplitl [G6]; · iexact G6
    isplitl [G7]; · iexact G7
    isplitl [G8]; · iexact G8
    isplitl [G9]; · iexact G9
    isplitl [G10]; · iexact G10
    isplitl [G11]; · iexact G11
    isplitl [G12]; · iexact G12
    isplitl [G13]; · iexact G13
    iexact G14
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]; · iexact H25
  iexact H26

set_option maxHeartbeats 16000000 in
/-- Any later point. -/
theorem sound_later (c : Dev nD) (n : ℕ) (hn : n + 1 < cfg0.N) : ∀ t : Fin cfg0.N, t = ⟨n + 1, hn⟩ →
    (bodyPre m c t ⊢ wp frame (wpE (defs₀ (F := F)) Variants.none c none) Set.univ (bodyAt0 t) (fun _ => bodyPost m c t)) := by
  intro t ht
  have hc : ¬ isFirst (grid0.coords t) := fun h => by have := (isFirst_iff t).mp h; subst ht; exact Nat.succ_ne_zero n this
  have h25 : ∀ d, (dats m 0 c).before 25 t d = csAt m c n (Nat.lt_of_succ_lt hn) := by subst ht; exact before_25 m c n hn
  have h26 : ∀ d, (dats m 0 c).before 26 t d = ssAt m c n (Nat.lt_of_succ_lt hn) := by subst ht; exact before_26 m c n hn
  have hcs : csAt m c t.val t.isLt = k0_pay5 (csPt m c t) (csAt m c n (Nat.lt_of_succ_lt hn)) := by subst ht; rfl
  have hss : ssAt m c t.val t.isLt = k0_pay6 (ssPt m c t) (ssAt m c n (Nat.lt_of_succ_lt hn)) := by subst ht; rfl
  have hΦ : (dats m 0 c).Φ t.castSucc = iprop(scratch m c ∗ (∃ r, prngReg c r)) := by subst ht; rfl
  unfold bodyPre bodyPost bodyAt0
  simp only [before_0, before_1, before_2, before_3, before_4, before_5, before_6, before_7, before_8, before_9, before_10, before_11,
    before_12, before_13, before_14, before_15, before_16, before_17, before_18, before_19, before_20, h25, h26]
  rw [show (dats m 0 c).owesAt () t.succ = (dats m 0 c).owesAt () t.castSucc from rfl,
    show (dats m 0 c).Φ t.succ = iprop(scratch m c ∗ (∃ r, prngReg c r)) from rfl, hΦ]
  dsimp only [dats]
  rw [hcs, hss]
  unfold scratch zqAt deAt dqAt csPt ssPt zeAt
  iintro ⟨⟨⟨G0, G1, G2, G3, G4, G5, G6, G7, G8, G9, G10, G11, G12, G13, G14⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩, ⟨%d25, H25⟩, ⟨%d26, H26⟩⟩
  iapply (run_later c (grid0.coords t) _ (hstage0_0 ((cfg0.slots t 0).cast nbuf0_0)) _ (hstage0_1 ((cfg0.slots t 1).cast nbuf0_1)) _ (hstage0_2 ((cfg0.slots t 2).cast nbuf0_2)) _ (hstage0_3 ((cfg0.slots t 3).cast nbuf0_3)) _ (hstage0_4 ((cfg0.slots t 4).cast nbuf0_4)) _ (hstage0_5 ((cfg0.slots t 5).cast nbuf0_5)) _ (hstage0_6 ((cfg0.slots t 6).cast nbuf0_6)) _ (hstage0_7 ((cfg0.slots t 7).cast nbuf0_7)) _ (hstage0_8 ((cfg0.slots t 8).cast nbuf0_8)) _ (hstage0_9 ((cfg0.slots t 9).cast nbuf0_9)) _ (hstage0_10 ((cfg0.slots t 10).cast nbuf0_10)) _ (hstage0_11 ((cfg0.slots t 11).cast nbuf0_11)) _ (hstage0_12 ((cfg0.slots t 12).cast nbuf0_12)) _ (hstage0_13 ((cfg0.slots t 13).cast nbuf0_13)) _ (hstage0_14 ((cfg0.slots t 14).cast nbuf0_14)) _ (hstage0_15 ((cfg0.slots t 15).cast nbuf0_15)) _ (hstage0_16 ((cfg0.slots t 16).cast nbuf0_16)) _ (hstage0_17 ((cfg0.slots t 17).cast nbuf0_17)) _ (hstage0_18 ((cfg0.slots t 18).cast nbuf0_18)) _ (hstage0_19 ((cfg0.slots t 19).cast nbuf0_19)) _ (hstage0_20 ((cfg0.slots t 20).cast nbuf0_20)) _ (hstage0_21 ((cfg0.slots t 21).cast nbuf0_21)) _ (hstage0_22 ((cfg0.slots t 22).cast nbuf0_22)) _ (hstage0_23 ((cfg0.slots t 23).cast nbuf0_23)) _ (hstage0_24 ((cfg0.slots t 24).cast nbuf0_24)) _ (hstage0_25 ((cfg0.slots t 25).cast nbuf0_25)) _ (hstage0_26 ((cfg0.slots t 26).cast nbuf0_26)) _ (Memref.isWhole_whole cc0_scratch0) _ (Memref.isWhole_whole cc0_scratch1) _ (Memref.isWhole_whole cc0_scratch2) _ (Memref.isWhole_whole cc0_scratch3) _ (Memref.isWhole_whole cc0_scratch4) _ (Memref.isWhole_whole cc0_scratch5) _ (Memref.isWhole_whole cc0_scratch6) _ (Memref.isWhole_whole cc0_scratch7) _ (Memref.isWhole_whole cc0_scratch8) _ (Memref.isWhole_whole cc0_scratch9) _ (Memref.isWhole_whole cc0_scratch10) _ (Memref.isWhole_whole cc0_scratch11) _ (Memref.isWhole_whole cc0_scratch12) _ (Memref.isWhole_whole cc0_scratch13) _ (Memref.isWhole_whole cc0_scratch14) hc (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) _ _ _ _ _ _ _ _ _ _ _ _ _ _ _ _ _ Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexists _; iexact H21
  isplitl [H22]; · iexists _; iexact H22
  isplitl [H23]; · iexists _; iexact H23
  isplitl [H24]; · iexists _; iexact H24
  isplitl [H25]; · iexact H25
  isplitl [H26]; · iexact H26
  isplitl [G0]; · iexact G0
  isplitl [G1]; · iexact G1
  isplitl [G2]; · iexact G2
  isplitl [G3]; · iexact G3
  isplitl [G4]; · iexact G4
  isplitl [G5]; · iexact G5
  isplitl [G6]; · iexact G6
  isplitl [G7]; · iexact G7
  isplitl [G8]; · iexact G8
  isplitl [G9]; · iexact G9
  isplitl [G10]; · iexact G10
  isplitl [G11]; · iexact G11
  isplitl [G12]; · iexact G12
  isplitl [G13]; · iexact G13
  isplitl [G14]; · iexact G14
  iintro ⟨H0, H1, H2, H3, H4, H5, H6, H7, H8, H9, H10, H11, H12, H13, H14, H15, H16, H17, H18, H19, H20, H21, H22, H23, H24, H25, H26, G0, G1, G2, G3, G4, G5, G6, G7, G8, G9, G10, G11, G12, G13, G14⟩
  isplitl [G0 G1 G2 G3 G4 G5 G6 G7 G8 G9 G10 G11 G12 G13 G14 Hg]
  · isplitl [G0 G1 G2 G3 G4 G5 G6 G7 G8 G9 G10 G11 G12 G13 G14]; swap; · iexact Hg
    isplitl [G0]; · iexact G0
    isplitl [G1]; · iexact G1
    isplitl [G2]; · iexact G2
    isplitl [G3]; · iexact G3
    isplitl [G4]; · iexact G4
    isplitl [G5]; · iexact G5
    isplitl [G6]; · iexact G6
    isplitl [G7]; · iexact G7
    isplitl [G8]; · iexact G8
    isplitl [G9]; · iexact G9
    isplitl [G10]; · iexact G10
    isplitl [G11]; · iexact G11
    isplitl [G12]; · iexact G12
    isplitl [G13]; · iexact G13
    iexact G14
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]; · iexact H25
  iexact H26

/-- The body at any point. -/
theorem sound_body (c : Dev nD) (t : Fin cfg0.N) :
    bodyPre m c t ⊢ wp frame (wpE (defs₀ (F := F)) Variants.none c none) Set.univ (bodyAt0 t) (fun _ => bodyPost m c t) := by
  obtain ⟨n, hn⟩ := t
  cases n with
  | zero => exact sound_first m c _ rfl
  | succ n => exact sound_later m c n hn _ rfl

theorem defs₀_row (t : Fin cfg0.N) : defs₀ (F := F) .tc cfg0.body (cfg0.bodyArgs t (cfg0.slots t)) = bodyAt0 t := by
  unfold defs₀; rw [Defs.onTc_tc]

set_option maxHeartbeats 4000000 in
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem hin (c : Dev nD) : Pipeline.ΦA spec0 c ⊢ (dats m 0 c).Φ 0 := by
  rw [show (dats m 0 c).Φ 0 = Pipeline.ΦA spec0 c from rfl]

/-- After the last point the scratch's contents are forgotten. -/
theorem hout (c : Dev nD) : (dats m 0 c).Φ (Fin.last cfg0.N) ⊢ Pipeline.ΦA spec0 c := by
  have h : ∀ t : Fin (cfg0.N + 1), t.val ≠ 0 → (dats m 0 c).Φ t = iprop(scratch m c ∗ (∃ r, prngReg c r)) := fun t ht => by
    show PhiS m c t.val = _
    cases hv : t.val with
    | zero => exact absurd hv ht
    | succ n => rfl
  rw [h _ (by rw [Fin.val_last]; have : cfg0.N = 8 := N_0; omega), PhiA_eq]
  unfold scratch
  iintro ⟨⟨G0, G1, G2, G3, G4, G5, G6, G7, G8, G9, G10, G11, G12, G13, G14⟩, Hg⟩
  isplitl [G0 G1 G2 G3 G4 G5 G6 G7 G8 G9 G10 G11 G12 G13 G14]; swap; · iexact Hg
  isplitl [G0]; · iexists _; iexact G0
  isplitl [G1]; · iexists _; iexact G1
  isplitl [G2]; · iexists _; iexact G2
  isplitl [G3]; · iexists _; iexact G3
  isplitl [G4]; · iexists _; iexact G4
  isplitl [G5]; · iexists _; iexact G5
  isplitl [G6]; · iexists _; iexact G6
  isplitl [G7]; · iexists _; iexact G7
  isplitl [G8]; · iexists _; iexact G8
  isplitl [G9]; · iexists _; iexact G9
  isplitl [G10]; · iexists _; iexact G10
  isplitl [G11]; · iexists _; iexact G11
  isplitl [G12]; · iexists _; iexact G12
  isplitl [G13]; · iexists _; iexact G13
  iexists _; iexact G14

/-! ## The launch -/

set_option backward.isDefEq.respectTransparency.types false in
set_option maxHeartbeats 800000 in
/-- The launch ends with every array of the pipeline at what the proof data says and every semaphore at zero. -/
theorem run_quiescent : θ_run defs (onTc (τ := τ) (main (F := F))) (s₀ m ρ)
    (fun r => Pipeline.FramePost cfgs (dats m) 0 (V m) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (hmain := hmain m Variants.none) (hA := A_eq m) (hin := hin m) (hout := hout m)

theorem run : θ_run defs (onTc (τ := τ) (main (F := F))) (s₀ m ρ) (Pipeline.FramePost cfgs (dats m) 0 (V m)) :=
  (θ_run defs _ _).mono (fun _ h => h.1) (run_quiescent m ρ)

/-- Every argument keeps its contents, and every semaphore ends at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18))
    ∧ r.2.sem = fun _ => 0) :=
  θ_run_and (frame_of m ρ (dats m) (A_eq m) (run m ρ)) ((θ_run defs _ _).mono (fun _ h => h.2) (run_quiescent m ρ))

end Cert.KernelIdeal.Hand

end
-- ==== Proof.Spec.lean ====
/-
  The mathematics both programs compute, over the extended reals: a dense layer, the leaky rectifier, the encoder, the
  squared distances to the embedding rows, the first nearest row and the decoder; with the facts that join the two ways
  of writing them (padding by zeros, a nearest row found by a minimum of masked positions or by a fold over pairs).
-/
module

public import Idealize.ShloMosaic.Lib.Pointwise
public import Idealize.ShloMosaic.Lib.SortNet.Extract
public import Idealize.ShloMosaic.Lib.StableHlo.Predicate

@[expose] public section

set_option maxRecDepth 16384

noncomputable section

namespace Cert.Spec

open Idealize.ShloMosaic Idealize.ShloMosaic.Pointwise

/-! ## Layers -/

/-- The rectifier's slope on negative values. -/
abbrev slope : EReal := Ideal.ofBits .f32 0x3C23D70A#32

/-- The leaky rectifier. -/
def lrelu (v : EReal) : EReal := max v (slope * v)

/-- A dense layer: row `j` of the weights against `x`, plus the bias. -/
def dense {n k : ℕ} (W : Fin n → Fin k → EReal) (b : Fin n → EReal) (x : Fin k → EReal) (j : Fin n) : EReal :=
  ∑ i, x i * W j i + b j

/-- A dense layer with the rectifier behind it. -/
def layer {n k : ℕ} (W : Fin n → Fin k → EReal) (b : Fin n → EReal) (x : Fin k → EReal) (j : Fin n) : EReal :=
  lrelu (dense W b x j)

theorem slope_eq : slope = (((10737418 : ℝ) / 2 ^ 30 : ℝ) : EReal) := by
  simp [slope, Ideal.ofBits, Ideal.ieee, -EReal.coe_mul]; norm_num

/-- The rectifier, as a choice by sign. -/
theorem lrelu_eq_ite (v : EReal) : (if (0 : EReal) ≤ v then v else slope * v) = lrelu v := by
  have hc : (0 : ℝ) < (10737418 : ℝ) / 2 ^ 30 := by norm_num
  have hc1 : (10737418 : ℝ) / 2 ^ 30 ≤ 1 := by norm_num
  unfold lrelu
  rw [slope_eq]
  induction v with
  | bot => simp [EReal.coe_mul_bot_of_pos hc]
  | top => simp [EReal.coe_mul_top_of_pos hc]
  | coe r =>
    rw [← EReal.coe_mul]
    split_ifs with h
    · have h' : (0 : ℝ) ≤ r := by exact_mod_cast h
      rw [max_eq_left]; exact_mod_cast (by nlinarith)
    · have h' : r < 0 := by
        by_contra hh; exact h (by exact_mod_cast not_lt.mp hh)
      rw [max_eq_right]; exact_mod_cast (by nlinarith)

/-! ## Padding -/

/-- A sum whose terms vanish past the first `n` is the sum of those. -/
theorem sum_pad {n N : ℕ} (h : n ≤ N) (f : Fin N → EReal) (g : Fin n → EReal)
    (hin : ∀ i, f (Fin.castLE h i) = g i) (hout : ∀ i, n ≤ i.val → f i = 0) : ∑ i, f i = ∑ i, g i := by
  symm
  refine Finset.sum_of_injOn (Fin.castLE h) (fun a _ b _ e => Fin.castLE_injective h e) (by simp) ?_ ?_
  · intro i _ hi
    refine hout i (not_lt.mp fun hlt => hi ?_)
    exact ⟨⟨i.val, hlt⟩, by simp, rfl⟩
  · intro i _; exact (hin i).symm

/-- `W'` holds `W` in its first columns and zero in the others, on the rows of `W`. -/
structure Padded {n k N K : ℕ} (hn : n ≤ N) (hk : k ≤ K) (W' : Fin N → Fin K → EReal) (W : Fin n → Fin k → EReal) : Prop where
  inside : ∀ j i, W' (Fin.castLE hn j) (Fin.castLE hk i) = W j i
  outside : ∀ j i, k ≤ i.val → W' (Fin.castLE hn j) i = 0

theorem Padded.of_eq {n k N K : ℕ} {hn : n ≤ N} {hk : k ≤ K} {W' : Fin N → Fin K → EReal} {W V : Fin n → Fin k → EReal}
    (h : Padded hn hk W' W) (e : ∀ j i, W j i = V j i) : Padded hn hk W' V where
  inside j i := (h.inside j i).trans (e j i)
  outside := h.outside

/-- A dense layer with padded weights is the layer on the rows that are not padding. -/
theorem dense_pad {n k N K : ℕ} {hn : n ≤ N} {hk : k ≤ K} {W' : Fin N → Fin K → EReal} {W : Fin n → Fin k → EReal}
    {b' : Fin N → EReal} {b : Fin n → EReal} {x' : Fin K → EReal} {x : Fin k → EReal} (hW : Padded hn hk W' W)
    (hb : ∀ j, b' (Fin.castLE hn j) = b j) (hx : ∀ i, x' (Fin.castLE hk i) = x i) (j : Fin n) :
    dense W' b' x' (Fin.castLE hn j) = dense W b x j := by
  unfold dense
  rw [hb]
  congr 1
  refine sum_pad hk _ _ (fun i => ?_) (fun i hi => ?_)
  · rw [hx, hW.inside]
  · rw [hW.outside j i hi, mul_zero]

theorem layer_pad {n k N K : ℕ} {hn : n ≤ N} {hk : k ≤ K} {W' : Fin N → Fin K → EReal} {W : Fin n → Fin k → EReal}
    {b' : Fin N → EReal} {b : Fin n → EReal} {x' : Fin K → EReal} {x : Fin k → EReal} (hW : Padded hn hk W' W)
    (hb : ∀ j, b' (Fin.castLE hn j) = b j) (hx : ∀ i, x' (Fin.castLE hk i) = x i) (j : Fin n) :
    layer W' b' x' (Fin.castLE hn j) = layer W b x j := by
  unfold layer; rw [dense_pad hW hb hx]

/-! ## The model -/

/-- The parameters: the encoder's two layers, its two heads, the embedding rows and the decoder's four layers. -/
structure Params where
  w0 : Fin 10 → EReal
  b0 : Fin 10 → EReal
  w1 : Fin 50 → Fin 10 → EReal
  b1 : Fin 50 → EReal
  wm : Fin 256 → Fin 50 → EReal
  bm : Fin 256 → EReal
  wv : Fin 256 → Fin 50 → EReal
  bv : Fin 256 → EReal
  d0 : Fin 100 → Fin 256 → EReal
  c0 : Fin 100 → EReal
  d1 : Fin 60 → Fin 100 → EReal
  c1 : Fin 60 → EReal
  d2 : Fin 30 → Fin 60 → EReal
  c2 : Fin 30 → EReal
  d3 : Fin 1 → Fin 30 → EReal
  c3 : Fin 1 → EReal
  emb : Fin 256 → Fin 256 → EReal

/-- The parameters, read from the arrays the programs are given. -/
def ofArgs (a1 : Vec Ideal ⟨2, ![10, 1]⟩ .f32) (a2 : Vec Ideal ⟨1, ![10]⟩ .f32) (a3 : Vec Ideal ⟨2, ![50, 10]⟩ .f32)
    (a4 : Vec Ideal ⟨1, ![50]⟩ .f32) (a5 : Vec Ideal ⟨2, ![256, 50]⟩ .f32) (a6 : Vec Ideal ⟨1, ![256]⟩ .f32)
    (a7 : Vec Ideal ⟨2, ![256, 50]⟩ .f32) (a8 : Vec Ideal ⟨1, ![256]⟩ .f32) (a9 : Vec Ideal ⟨2, ![100, 256]⟩ .f32)
    (a10 : Vec Ideal ⟨1, ![100]⟩ .f32) (a11 : Vec Ideal ⟨2, ![60, 100]⟩ .f32) (a12 : Vec Ideal ⟨1, ![60]⟩ .f32)
    (a13 : Vec Ideal ⟨2, ![30, 60]⟩ .f32) (a14 : Vec Ideal ⟨1, ![30]⟩ .f32) (a15 : Vec Ideal ⟨2, ![1, 30]⟩ .f32)
    (a16 : Vec Ideal ⟨1, ![1]⟩ .f32) (a17 : Vec Ideal ⟨2, ![256, 256]⟩ .f32) : Params where
  w0 j := a1 (ix2 j 0)
  b0 j := a2 (ix1 j)
  w1 j i := a3 (ix2 j i)
  b1 j := a4 (ix1 j)
  wm j i := a5 (ix2 j i)
  bm j := a6 (ix1 j)
  wv j i := a7 (ix2 j i)
  bv j := a8 (ix1 j)
  d0 j i := a9 (ix2 j i)
  c0 j := a10 (ix1 j)
  d1 j i := a11 (ix2 j i)
  c1 j := a12 (ix1 j)
  d2 j i := a13 (ix2 j i)
  c2 j := a14 (ix1 j)
  d3 j i := a15 (ix2 j i)
  c3 j := a16 (ix1 j)
  emb k i := a17 (ix2 k i)

/-- Row `r` of a matrix. -/
def row {n k : ℕ} (x : Vec Ideal ⟨2, ![n, k]⟩ .f32) (r : Fin n) (i : Fin k) : EReal := x (ix2 r i)

variable (P : Params)

/-- The encoder's first layer, on one number. -/
def enc0 (x : EReal) (j : Fin 10) : EReal := lrelu (x * P.w0 j + P.b0 j)
/-- The encoder's second layer. -/
def enc1 (x : EReal) : Fin 50 → EReal := layer P.w1 P.b1 (enc0 P x)
/-- The encoding: the mean plus the noise scaled by the deviation. -/
def ze (x : EReal) (eps : Fin 256 → EReal) (c : Fin 256) : EReal :=
  dense P.wm P.bm (enc1 P x) c
    + eps c * Ideal.exp (Ideal.ofBits .f32 0x3F000000#32 * dense P.wv P.bv (enc1 P x) c)
/-- The decoder. -/
def dec (z : Fin 256 → EReal) : EReal := layer P.d3 P.c3 (layer P.d2 P.c2 (layer P.d1 P.c1 (layer P.d0 P.c0 z))) 0
/-- The squared distance of `z` to embedding row `k`, expanded. -/
def dist (z : Fin 256 → EReal) (k : Fin 256) : EReal :=
  ∑ i, z i * z i - Ideal.ofBits .f32 0x40000000#32 * ∑ i, z i * P.emb k i + ∑ i, P.emb k i * P.emb k i

/-- The array that row results make. -/
def ofRows {N n : ℕ} (f : Fin N → Fin n → EReal) : Vec Ideal ⟨2, ![N, n]⟩ .f32 := fun i => f (i 0) (i 1)

/-! ## The first least position -/

/-- `k` is the first position at which `d` is least. -/
def IsFirstMin (d : Fin 256 → EReal) (k : Fin 256) : Prop := (∀ l, d k ≤ d l) ∧ ∀ l, d l = d k → k ≤ l

theorem exists_firstMin (d : Fin 256 → EReal) : ∃ k, IsFirstMin d k := by
  obtain ⟨k0, -, h0⟩ := Finset.exists_min_image (Finset.univ : Finset (Fin 256)) d ⟨0, Finset.mem_univ _⟩
  obtain ⟨k, hk, hmin⟩ := Finset.exists_min_image (Finset.univ.filter fun l => d l = d k0) id ⟨k0, by simp⟩
  have hk' : d k = d k0 := (Finset.mem_filter.mp hk).2
  refine ⟨k, fun l => hk' ▸ h0 l (Finset.mem_univ _), fun l hl => hmin l ?_⟩
  simp [hl, hk']

/-- The first position at which `d` is least. -/
def firstMin (d : Fin 256 → EReal) : Fin 256 := (exists_firstMin d).choose

theorem firstMin_spec (d : Fin 256 → EReal) : IsFirstMin d (firstMin d) := (exists_firstMin d).choose_spec

theorem ofBits_inf : Ideal.ofBits .f32 0x7F800000#32 = ⊤ := by simp [Ideal.ofBits, Ideal.ieee]

/-- The minimum of all values is the value at the first least position. -/
theorem fold_min_eq (d : Fin 256 → EReal) :
    Finset.univ.fold min (Ideal.ofBits .f32 0x7F800000#32) d = d (firstMin d) := by
  rw [ofBits_inf]
  apply le_antisymm
  · exact (Finset.fold_min_le _).mpr (Or.inr ⟨firstMin d, Finset.mem_univ _, le_rfl⟩)
  · exact (Finset.le_fold_min _).mpr ⟨le_top, fun l _ => (firstMin_spec d).1 l⟩

theorem toInt_ofNat (k : Fin 256) : (BitVec.ofNat 32 k.val).toInt = k.val := by
  have := k.isLt
  rw [BitVec.toInt_eq_toNat_cond, BitVec.toNat_ofNat]; omega

theorem ofNat_inj {k l : Fin 256} (h : BitVec.ofNat 32 k.val = BitVec.ofNat 32 l.val) : k = l := by
  have := congrArg BitVec.toInt h
  rw [toInt_ofNat, toInt_ofNat] at this
  exact Fin.ext (by exact_mod_cast this)

/-- The least position among those that hold the minimum, as a word. -/
theorem fold_minsi_eq (d : Fin 256 → EReal) :
    Finset.univ.fold IntOp.minsi (2147483647#32) (fun x : Fin 256 =>
        if d x = Finset.univ.fold min (Ideal.ofBits .f32 0x7F800000#32) d then BitVec.ofNat 32 x.val else 256#32)
      = BitVec.ofNat 32 (firstMin d).val := by
  rw [fold_min_eq]
  apply BitVec.eq_of_toInt_eq
  rw [← Finset.fold_hom (op' := min) (SortNet.toInt_minsi), toInt_ofNat]
  have hlt := (firstMin d).isLt
  apply le_antisymm
  · refine (Finset.fold_min_le _).mpr (Or.inr ⟨firstMin d, Finset.mem_univ _, ?_⟩)
    rw [if_pos rfl, toInt_ofNat]
  · refine (Finset.le_fold_min _).mpr ⟨?_, fun l _ => ?_⟩
    · rw [show (2147483647#32).toInt = 2147483647 from rfl]; omega
    · split_ifs with h
      · rw [toInt_ofNat]; exact_mod_cast (firstMin_spec d).2 l h
      · rw [show (256#32).toInt = 256 from rfl]; omega

/-- The indicator of one position, as a word compared with another and made a number. -/
theorem hot_eq (k l : Fin 256) :
    (FloatOps.sitofp (F := Ideal) .f32 (BitVec.setWidth 32 (IntOp.cmpi .eq (BitVec.ofNat 32 k.val) (BitVec.ofNat 32 l.val))) : EReal)
      = if k = l then 1 else 0 := by
  by_cases h : k = l
  · subst h
    rw [if_pos rfl, show IntOp.cmpi .eq (BitVec.ofNat 32 k.val) (BitVec.ofNat 32 k.val) = 1#1 from by simp [IntOp.cmpi]]
    show (((BitVec.setWidth 32 1#1).toInt : ℝ) : EReal) = 1
    norm_num
  · rw [if_neg h, show IntOp.cmpi .eq (BitVec.ofNat 32 k.val) (BitVec.ofNat 32 l.val) = 0#1 from by
      have : ¬ (BitVec.ofNat 32 k.val = BitVec.ofNat 32 l.val) := fun e => h (ofNat_inj e)
      show BitVec.ofBool (BitVec.ofNat 32 k.val == BitVec.ofNat 32 l.val) = 0#1
      rw [beq_eq_false_iff_ne.mpr this]; rfl]
    show (((BitVec.setWidth 32 0#1).toInt : ℝ) : EReal) = 0
    norm_num

/-- A sum against an indicator is the entry it selects. -/
theorem sum_hot (l : Fin 256) (f : Fin 256 → EReal) : ∑ k, (if k = l then (1 : EReal) else 0) * f k = f l := by
  rw [Finset.sum_eq_single l]
  · rw [if_pos rfl, one_mul]
  · intro k _ hk; rw [if_neg hk, zero_mul]
  · intro h; exact absurd (Finset.mem_univ _) h

/-! ## The first least position, by a fold over pairs -/

/-- `p` comes no later than `q`: by value, then by position. -/
def Before (p q : EReal × BitVec 32) : Prop := p.1 < q.1 ∨ (p.1 = q.1 ∧ p.2.toInt ≤ q.2.toInt)

theorem Before.refl (p : EReal × BitVec 32) : Before p p := Or.inr ⟨rfl, le_rfl⟩

theorem Before.trans {p q r : EReal × BitVec 32} (h : Before p q) (h' : Before q r) : Before p r := by
  rcases h with h | ⟨h, hi⟩ <;> rcases h' with h' | ⟨h', hi'⟩
  · exact Or.inl (h.trans h')
  · exact Or.inl (h' ▸ h)
  · exact Or.inl (h ▸ h')
  · exact Or.inr ⟨h.trans h', hi.trans hi'⟩

/-- A fold that keeps one of its two pairs, the one before the other, ends in the first of all. -/
theorem foldl_before (f : EReal × BitVec 32 → EReal × BitVec 32 → EReal × BitVec 32)
    (hf : ∀ a b, (f a b = a ∨ f a b = b) ∧ Before (f a b) a ∧ Before (f a b) b)
    (L : List (EReal × BitVec 32)) (a : EReal × BitVec 32) :
    (L.foldl f a = a ∨ L.foldl f a ∈ L) ∧ Before (L.foldl f a) a ∧ ∀ q ∈ L, Before (L.foldl f a) q := by
  induction L generalizing a with
  | nil => exact ⟨Or.inl rfl, Before.refl a, by simp⟩
  | cons b L ih =>
    obtain ⟨h1, h2, h3⟩ := ih (f a b)
    obtain ⟨g1, g2, g3⟩ := hf a b
    refine ⟨?_, h2.trans g2, ?_⟩
    · rcases h1 with h1 | h1
      · rcases g1 with g1 | g1
        · exact Or.inl (h1.trans g1)
        · exact Or.inr (by rw [List.foldl_cons, h1, g1]; simp)
      · exact Or.inr (List.mem_cons_of_mem _ h1)
    · intro q hq
      rcases List.mem_cons.mp hq with rfl | hq
      · exact h2.trans g3
      · exact h3 q hq

/-- The first pair of all those at a function's values, and of `(⊤, 0)`, is at its first least position. -/
theorem firstMin_of_before (d : Fin 256 → EReal) (p : EReal × BitVec 32)
    (hmem : p = (⊤, 0#32) ∨ ∃ k : Fin 256, p = (d k, BitVec.ofNat 32 k.val))
    (hle : ∀ k : Fin 256, Before p (d k, BitVec.ofNat 32 k.val)) : p.2 = BitVec.ofNat 32 (firstMin d).val := by
  obtain ⟨hmin, hfirst⟩ := firstMin_spec d
  rcases hmem with rfl | ⟨k, rfl⟩
  · have htop : ∀ l, d l = ⊤ := fun l => by
      rcases hle l with h | ⟨h, -⟩
      · exact absurd h not_top_lt
      · exact h.symm
    have h0 := hfirst 0 ((htop 0).trans (htop _).symm)
    have : firstMin d = 0 := le_antisymm h0 (Fin.zero_le _)
    rw [this]; rfl
  · have hk : d k = d (firstMin d) := le_antisymm
      (by rcases hle (firstMin d) with h | ⟨h, -⟩
          · exact h.le
          · exact h.le) (hmin k)
    have h1 := hfirst k hk
    have h2 : k ≤ firstMin d := by
      rcases hle (firstMin d) with h | ⟨-, h⟩
      · exact absurd hk h.ne
      · rw [toInt_ofNat, toInt_ofNat] at h; exact_mod_cast h
    show BitVec.ofNat 32 k.val = _
    rw [le_antisymm h1 h2]

end Cert.Spec
-- ==== Proof.KernelValue.lean ====
/-
  What one grid point's results are, in terms of the model: the padded weights against the weights, then the encoding,
  the nearest row's indicator, the nearest row and the two decoded values of a block's row.
-/
module

public import proofs.«01_k».proof.Proof.BodyIdeal
public import proofs.«01_k».proof.Proof.Spec

@[expose] public section

set_option maxRecDepth 16384

noncomputable section

namespace Cert.KernelIdeal.Hand

open Cert.KernelIdeal Cert.KernelIdeal.Gen
open Idealize.ShloMosaic Idealize.ShloMosaic.Pointwise
open Cert.Spec

/-! ## The padded weights -/

section Pads

variable {A B a b o p : ℕ}

/-- Inside the last write, its payload. -/
theorem canon_in (inb) (w : Vec Ideal ⟨2, ![a, b]⟩ .f32) (L : List (View.Piece (Elt Ideal) ⟨2, ![A, B]⟩ .f32))
    (i : Fin a) (j : Fin b) (I : Fin A) (J : Fin B) (hI : I.val = o + i.val) (hJ : J.val = p + j.val) :
    View.canon ((⟨Rect.unit (s := ⟨2, ![A, B]⟩) ![o, p] ![a, b] inb, w⟩ : View.Piece (Elt Ideal) ⟨2, ![A, B]⟩ .f32) :: L) (ix2 I J)
      = w (ix2 i j) := by
  have h : ix2 I J = (Rect.unit (s := ⟨2, ![A, B]⟩) ![o, p] ![a, b] inb).emb (ix2 i j) := by
    funext x; apply Fin.ext
    match x with
    | ⟨0, _⟩ => show I.val = o + 1 * i.val; omega
    | ⟨1, _⟩ => show J.val = p + 1 * j.val; omega
  rw [h]; exact View.canon_cons_emb (Rect.unit (s := ⟨2, ![A, B]⟩) ![o, p] ![a, b] inb) w L (ix2 i j)

/-- Outside the last write, what was there before it. -/
theorem canon_out (inb) (w : Vec Ideal ⟨2, ![a, b]⟩ .f32) (L : List (View.Piece (Elt Ideal) ⟨2, ![A, B]⟩ .f32))
    (I : Fin A) (J : Fin B) (h : I.val < o ∨ o + a ≤ I.val ∨ J.val < p ∨ p + b ≤ J.val) :
    View.canon ((⟨Rect.unit (s := ⟨2, ![A, B]⟩) ![o, p] ![a, b] inb, w⟩ : View.Piece (Elt Ideal) ⟨2, ![A, B]⟩ .f32) :: L) (ix2 I J)
      = View.canon L (ix2 I J) := by
  refine View.canon_cons_of_not_mem _ L fun hm => ?_
  have h' := (Rect.mem_set_unit (s := ⟨2, ![A, B]⟩) (off := ![o, p]) (size := ![a, b]) (inb := inb)).mp hm
  have h0 : o ≤ I.val ∧ I.val < o + a := h' 0
  have h1 : p ≤ J.val ∧ J.val < p + b := h' 1
  omega

/-- A matrix written over zeros, from the corner, is the matrix padded. -/
theorem canon_padded (hA : a ≤ A) (hB : b ≤ B) (inb) (inb0) (w y : Vec Ideal ⟨2, ![a, b]⟩ .f32) (z : Vec Ideal ⟨2, ![A, B]⟩ .f32)
    (hw : ∀ i j, w (ix2 i j) = y (ix2 i j)) (hz : ∀ i j, z (ix2 i j) = (0 : EReal)) :
    Padded hA hB (fun i j => View.canon [(⟨Rect.unit (s := ⟨2, ![A, B]⟩) ![0, 0] ![a, b] inb, w⟩ : View.Piece (Elt Ideal) ⟨2, ![A, B]⟩ .f32),
      (⟨Rect.unit (s := ⟨2, ![A, B]⟩) ![0, 0] ![A, B] inb0, z⟩ : View.Piece (Elt Ideal) ⟨2, ![A, B]⟩ .f32)] (ix2 i j))
      (fun i j => y (ix2 i j)) where
  inside i j := (canon_in inb w _ i j _ _ (by simp) (by simp)).trans (hw i j)
  outside i j h := (canon_out inb w _ _ j (by omega)).trans
    ((canon_in inb0 z [] (Fin.castLE hA i) j _ _ (by simp) (by simp)).trans (hz _ j))

end Pads

theorem pad0_padded (y : Vec Ideal S1x10 .f32) :
    Padded (le_refl 1) (by decide : 10 ≤ 128) (fun i j => pad0 (F := Ideal) y (ix2 i j)) (fun i j => y (ix2 i j)) :=
  canon_padded _ _ _ _ _ _ _ (fun i j => by pointwise [k0_pay8]) (fun i j => by pointwise [k0_pay7])
theorem pad1_padded (y : Vec Ideal S1x10 .f32) :
    Padded (le_refl 1) (by decide : 10 ≤ 128) (fun i j => pad1 (F := Ideal) y (ix2 i j)) (fun i j => y (ix2 i j)) :=
  canon_padded _ _ _ _ _ _ _ (fun i j => by pointwise [k0_pay10]) (fun i j => by pointwise [k0_pay9])
theorem pad2_padded (y : Vec Ideal S50x10 .f32) :
    Padded (by decide : 50 ≤ 128) (by decide : 10 ≤ 128) (fun i j => pad2 (F := Ideal) y (ix2 i j)) (fun i j => y (ix2 i j)) :=
  canon_padded _ _ _ _ _ _ _ (fun i j => by pointwise [k0_pay12]) (fun i j => by pointwise [k0_pay11])
theorem pad3_padded (y : Vec Ideal S1x50 .f32) :
    Padded (le_refl 1) (by decide : 50 ≤ 128) (fun i j => pad3 (F := Ideal) y (ix2 i j)) (fun i j => y (ix2 i j)) :=
  canon_padded _ _ _ _ _ _ _ (fun i j => by pointwise [k0_pay14]) (fun i j => by pointwise [k0_pay13])
theorem pad6_padded (y : Vec Ideal S100x256 .f32) :
    Padded (by decide : 100 ≤ 128) (le_refl 256) (fun i j => pad6 (F := Ideal) y (ix2 i j)) (fun i j => y (ix2 i j)) :=
  canon_padded _ _ _ _ _ _ _ (fun i j => by pointwise [k0_pay22]) (fun i j => by pointwise [k0_pay21, k0_pay20])
theorem pad7_padded (y : Vec Ideal S1x100 .f32) :
    Padded (le_refl 1) (by decide : 100 ≤ 128) (fun i j => pad7 (F := Ideal) y (ix2 i j)) (fun i j => y (ix2 i j)) :=
  canon_padded _ _ _ _ _ _ _ (fun i j => by pointwise [k0_pay24]) (fun i j => by pointwise [k0_pay23])
theorem pad8_padded (y : Vec Ideal S60x100 .f32) :
    Padded (by decide : 60 ≤ 128) (by decide : 100 ≤ 128) (fun i j => pad8 (F := Ideal) y (ix2 i j)) (fun i j => y (ix2 i j)) :=
  canon_padded _ _ _ _ _ _ _ (fun i j => by pointwise [k0_pay26]) (fun i j => by pointwise [k0_pay25])
theorem pad9_padded (y : Vec Ideal S1x60 .f32) :
    Padded (le_refl 1) (by decide : 60 ≤ 128) (fun i j => pad9 (F := Ideal) y (ix2 i j)) (fun i j => y (ix2 i j)) :=
  canon_padded _ _ _ _ _ _ _ (fun i j => by pointwise [k0_pay28]) (fun i j => by pointwise [k0_pay27])
theorem pad10_padded (y : Vec Ideal S30x60 .f32) :
    Padded (by decide : 30 ≤ 128) (by decide : 60 ≤ 128) (fun i j => pad10 (F := Ideal) y (ix2 i j)) (fun i j => y (ix2 i j)) :=
  canon_padded _ _ _ _ _ _ _ (fun i j => by pointwise [k0_pay30]) (fun i j => by pointwise [k0_pay29])
theorem pad11_padded (y : Vec Ideal S1x30 .f32) :
    Padded (le_refl 1) (by decide : 30 ≤ 128) (fun i j => pad11 (F := Ideal) y (ix2 i j)) (fun i j => y (ix2 i j)) :=
  canon_padded _ _ _ _ _ _ _ (fun i j => by pointwise [k0_pay32]) (fun i j => by pointwise [k0_pay31])
theorem pad12_padded (y : Vec Ideal S1x30 .f32) :
    Padded (by decide : 1 ≤ 128) (by decide : 30 ≤ 128) (fun i j => pad12 (F := Ideal) y (ix2 i j)) (fun i j => y (ix2 i j)) :=
  canon_padded _ _ _ _ _ _ _ (fun i j => by pointwise [k0_pay34]) (fun i j => by pointwise [k0_pay33])
theorem pad13_padded (y : Vec Ideal S1x1 .f32) :
    Padded (le_refl 1) (by decide : 1 ≤ 128) (fun i j => pad13 (F := Ideal) y (ix2 i j)) (fun i j => y (ix2 i j)) :=
  canon_padded _ _ _ _ _ _ _ (fun i j => by pointwise [k0_pay36]) (fun i j => by pointwise [k0_pay35])

/-- The two heads' weights, one above the other: the first. -/
theorem pad4_mean (y y' : Vec Ideal S256x50 .f32) :
    Padded (le_refl 256) (by decide : 50 ≤ 128) (fun i j => pad4 (F := Ideal) y y' (ix2 ⟨i.val, by omega⟩ j)) (fun i j => y (ix2 i j)) where
  inside i j := by
    dsimp only [pad4]
    refine (canon_out (A := 512) (B := 128) (a := 256) (b := 50) (o := 256) (p := 0) inb_S512x128_S256x50_256_0 (k0_pay17 y') _
      ⟨i.val, by omega⟩ _ (Or.inl i.isLt)).trans ((canon_in _ _ _ i j _ _ ?_ ?_).trans ?_)
    · simp
    · simp
    · pointwise [k0_pay16]
  outside i j h := by
    dsimp only [pad4]
    refine (canon_out (A := 512) (B := 128) (a := 256) (b := 50) (o := 256) (p := 0) inb_S512x128_S256x50_256_0 (k0_pay17 y') _
      ⟨i.val, by omega⟩ _ (Or.inl i.isLt)).trans ((canon_out _ _ _ _ j (Or.inr (Or.inr (Or.inr (Nat.le_trans (Nat.le_of_eq (Nat.zero_add 50)) h))))).trans
      ((canon_in _ _ [] (⟨i.val, by omega⟩ : Fin 512) j _ _ ?_ ?_).trans ?_))
    · simp
    · simp
    · pointwise [k0_pay15]
/-- The two heads' weights, one above the other: the second. -/
theorem pad4_logvar (y y' : Vec Ideal S256x50 .f32) :
    Padded (le_refl 256) (by decide : 50 ≤ 128) (fun i j => pad4 (F := Ideal) y y' (ix2 ⟨256 + i.val, by omega⟩ j)) (fun i j => y' (ix2 i j)) where
  inside i j := by
    dsimp only [pad4]
    refine (canon_in _ _ _ i j _ _ ?_ ?_).trans ?_
    · simp
    · simp
    · pointwise [k0_pay17]
  outside i j h := by
    dsimp only [pad4]
    refine (canon_out _ _ _ _ j (Or.inr (Or.inr (Or.inr (Nat.le_trans (Nat.le_of_eq (Nat.zero_add 50)) h))))).trans
      ((canon_out _ _ _ _ j (Or.inr (Or.inr (Or.inr (Nat.le_trans (Nat.le_of_eq (Nat.zero_add 50)) h))))).trans
      ((canon_in _ _ [] (⟨256 + i.val, by omega⟩ : Fin 512) j _ _ ?_ ?_).trans ?_))
    · simp
    · simp
    · pointwise [k0_pay15]
/-- The two heads' biases, side by side: the first. -/
theorem pad5_mean (y y' : Vec Ideal S1x256 .f32) (i : Fin 256) :
    pad5 (F := Ideal) y y' (ix2 0 ⟨i.val, by omega⟩) = y (ix2 0 i) := by
  dsimp only [pad5]
  refine (canon_out (A := 1) (B := 512) (a := 1) (b := 256) (o := 0) (p := 256) inb_S1x512_S1x256_0_256 (k0_pay19 y') _
    (0 : Fin 1) ⟨i.val, by omega⟩ (Or.inr (Or.inr (Or.inl i.isLt)))).trans ((canon_in _ _ _ (0 : Fin 1) i _ _ ?_ ?_).trans ?_)
  · simp
  · simp
  · pointwise [k0_pay18]
/-- The two heads' biases, side by side: the second. -/
theorem pad5_logvar (y y' : Vec Ideal S1x256 .f32) (i : Fin 256) :
    pad5 (F := Ideal) y y' (ix2 0 ⟨256 + i.val, by omega⟩) = y' (ix2 0 i) := by
  dsimp only [pad5]
  refine (canon_in _ _ _ (0 : Fin 1) i _ _ ?_ ?_).trans ?_
  · simp
  · simp
  · pointwise [k0_pay19]

/-! ## The results of a row -/

variable (P : Params)

/-- The scratch buffers the encoder reads hold its padded weights. -/
structure EncBufs (s0 s1 : Vec Ideal S1x128 .f32) (s2 : Vec Ideal S128x128 .f32) (s3 : Vec Ideal S1x128 .f32)
    (s4 : Vec Ideal S512x128 .f32) (s5 : Vec Ideal S1x512 .f32) : Prop where
  w0 : ∀ j : Fin 10, s0 (ix2 0 (Fin.castLE (by decide) j)) = P.w0 j
  b0 : ∀ j : Fin 10, s1 (ix2 0 (Fin.castLE (by decide) j)) = P.b0 j
  w1 : Padded (by decide : 50 ≤ 128) (by decide : 10 ≤ 128) (fun i j => s2 (ix2 i j)) P.w1
  b1 : ∀ j : Fin 50, s3 (ix2 0 (Fin.castLE (by decide) j)) = P.b1 j
  wm : Padded (le_refl 256) (by decide : 50 ≤ 128) (fun i j => s4 (ix2 ⟨i.val, by omega⟩ j)) P.wm
  wv : Padded (le_refl 256) (by decide : 50 ≤ 128) (fun i j => s4 (ix2 ⟨256 + i.val, by omega⟩ j)) P.wv
  bm : ∀ j : Fin 256, s5 (ix2 0 ⟨j.val, by omega⟩) = P.bm j
  bv : ∀ j : Fin 256, s5 (ix2 0 ⟨256 + j.val, by omega⟩) = P.bv j

/-- The scratch buffers the decoder reads hold its padded weights. -/
structure DecBufs (s6 : Vec Ideal S128x256 .f32) (s7 : Vec Ideal S1x128 .f32) (s8 : Vec Ideal S128x128 .f32) (s9 : Vec Ideal S1x128 .f32)
    (s10 : Vec Ideal S128x128 .f32) (s11 : Vec Ideal S1x128 .f32) (s12 : Vec Ideal S128x128 .f32) (s13 : Vec Ideal S1x128 .f32) : Prop where
  d0 : Padded (by decide : 100 ≤ 128) (le_refl 256) (fun i j => s6 (ix2 i j)) P.d0
  c0 : ∀ j : Fin 100, s7 (ix2 0 (Fin.castLE (by decide) j)) = P.c0 j
  d1 : Padded (by decide : 60 ≤ 128) (by decide : 100 ≤ 128) (fun i j => s8 (ix2 i j)) P.d1
  c1 : ∀ j : Fin 60, s9 (ix2 0 (Fin.castLE (by decide) j)) = P.c1 j
  d2 : Padded (by decide : 30 ≤ 128) (by decide : 60 ≤ 128) (fun i j => s10 (ix2 i j)) P.d2
  c2 : ∀ j : Fin 30, s11 (ix2 0 (Fin.castLE (by decide) j)) = P.c2 j
  d3 : Padded (by decide : 1 ≤ 128) (by decide : 30 ≤ 128) (fun i j => s12 (ix2 i j)) P.d3
  c3 : ∀ j : Fin 1, s13 (ix2 0 (Fin.castLE (by decide) j)) = P.c3 j

variable {P}

/-- A row of the block of `z_e`. -/
theorem zeOf_eq {s0 s1 : Vec Ideal S1x128 .f32} {s2 : Vec Ideal S128x128 .f32} {s3 : Vec Ideal S1x128 .f32}
    {s4 : Vec Ideal S512x128 .f32} {s5 : Vec Ideal S1x512 .f32} (h : EncBufs P s0 s1 s2 s3 s4 s5)
    (x0 : Vec Ideal S2048x1 .f32) (x1 : Vec Ideal S2048x256 .f32) (r : Fin 2048) (c : Fin 256) :
    zeOf x0 x1 s0 s1 s2 s3 s4 s5 (ix2 r c) = ze P (x0 (ix2 r 0)) (fun i => x1 (ix2 r i)) c := by
  have he : ∀ i : Fin 50, layer (fun i j => s2 (ix2 i j)) (fun j => s3 (ix2 0 j))
      (fun j => lrelu (x0 (ix2 r 0) * s0 (ix2 0 j) + s1 (ix2 0 j))) (Fin.castLE (by decide : 50 ≤ 128) i) = enc1 P (x0 (ix2 r 0)) i :=
    fun i => layer_pad h.w1 h.b1 (fun j => by rw [h.w0, h.b0]; rfl) i
  pointwise [zeOf, k0_pay40]
  exact congrArg₂ (· + ·) (dense_pad (b' := fun j => s5 (ix2 0 ⟨j.val, by omega⟩)) h.wm h.bm he c)
    (congrArg (fun v => x1 (ix2 r c) * Ideal.exp (Ideal.ofBits .f32 0x3F000000#32 * v)) (dense_pad (b' := fun j => s5 (ix2 0 ⟨256 + j.val, by omega⟩)) h.wv h.bv he c))

/-- The padded decoder is the decoder. -/
theorem dec_padded {s6 : Vec Ideal S128x256 .f32} {s7 : Vec Ideal S1x128 .f32} {s8 : Vec Ideal S128x128 .f32} {s9 : Vec Ideal S1x128 .f32}
    {s10 : Vec Ideal S128x128 .f32} {s11 : Vec Ideal S1x128 .f32} {s12 : Vec Ideal S128x128 .f32} {s13 : Vec Ideal S1x128 .f32}
    (h : DecBufs P s6 s7 s8 s9 s10 s11 s12 s13) (z : Fin 256 → EReal) :
    layer (fun i j => s12 (ix2 i j)) (fun j => s13 (ix2 0 j)) (layer (fun i j => s10 (ix2 i j)) (fun j => s11 (ix2 0 j))
      (layer (fun i j => s8 (ix2 i j)) (fun j => s9 (ix2 0 j)) (layer (fun i j => s6 (ix2 i j)) (fun j => s7 (ix2 0 j)) z))) 0
      = dec P z := by
  have h0 := layer_pad (b' := fun j => s7 (ix2 0 j)) (x' := z) h.d0 h.c0 (fun _ => rfl)
  have h1 := layer_pad (b' := fun j => s9 (ix2 0 j)) h.d1 h.c1 h0
  have h2 := layer_pad (b' := fun j => s11 (ix2 0 j)) h.d2 h.c2 h1
  exact layer_pad (b' := fun j => s13 (ix2 0 j)) h.d3 h.c3 h2 0

/-- A row of the block of `dec_e`. -/
theorem deOf_eq {s6 : Vec Ideal S128x256 .f32} {s7 : Vec Ideal S1x128 .f32} {s8 : Vec Ideal S128x128 .f32} {s9 : Vec Ideal S1x128 .f32}
    {s10 : Vec Ideal S128x128 .f32} {s11 : Vec Ideal S1x128 .f32} {s12 : Vec Ideal S128x128 .f32} {s13 : Vec Ideal S1x128 .f32}
    (h : DecBufs P s6 s7 s8 s9 s10 s11 s12 s13) (z : FVec Ideal S2048x256 .f32) (r : Fin 2048) :
    deOf z s6 s7 s8 s9 s10 s11 s12 s13 (ix2 r 0) = dec P (fun i => z (ix2 r i)) := by
  pointwise [deOf, k0_pay1, k0_pay48, k0_pay49]
  exact dec_padded h _

/-- A row of the decoder's table. -/
theorem table_eq {s6 : Vec Ideal S128x256 .f32} {s7 : Vec Ideal S1x128 .f32} {s8 : Vec Ideal S128x128 .f32} {s9 : Vec Ideal S1x128 .f32}
    {s10 : Vec Ideal S128x128 .f32} {s11 : Vec Ideal S1x128 .f32} {s12 : Vec Ideal S128x128 .f32} {s13 : Vec Ideal S1x128 .f32}
    (h : DecBufs P s6 s7 s8 s9 s10 s11 s12 s13) (e : Vec Ideal S256x256 .f32) (r : Fin 256) :
    table e s6 s7 s8 s9 s10 s11 s12 s13 (ix2 r 0) = dec P (fun i => e (ix2 r i)) := by
  unfold table
  pointwise [k0_pay39, k0_pay38, k0_pay37]
  exact dec_padded h _

section Nearest

variable (z : FVec Ideal S2048x256 .f32) (e : Vec Ideal S256x256 .f32) (e2 : Vec Ideal S1x256 .f32)
  (he : ∀ k i, e (ix2 k i) = P.emb k i) (he2 : ∀ k, e2 (ix2 0 k) = ∑ i, P.emb k i * P.emb k i)

include he he2

/-- The distances. -/
theorem dist_eq (r : Fin 2048) (k : Fin 256) : k0_pay41 z e e2 (ix2 r k) = dist P (fun i => z (ix2 r i)) k := by
  pointwise [k0_pay41]
  simp only [he, he2]; rfl

/-- The least distance. -/
theorem dmin_eq (r : Fin 2048) :
    k0_pay42 z e e2 (ix2 r 0) = dist P (fun i => z (ix2 r i)) (firstMin (dist P (fun i => z (ix2 r i)))) := by
  rw [← fold_min_eq (dist P fun i => z (ix2 r i))]
  pointwise [k0_pay42, k0_pay41]
  simp only [he, he2]; rfl

/-- The nearest row's indicator. -/
theorem hot_row (r : Fin 2048) (k : Fin 256) :
    k0_pay44 z e e2 (ix2 r k) = if k = firstMin (dist P (fun i => z (ix2 r i))) then (1 : EReal) else 0 := by
  rw [← hot_eq, ← fold_minsi_eq]
  pointwise [k0_pay44, k0_pay42, k0_pay41]
  simp only [he, he2]; rfl

/-- The nearest row. -/
theorem zq_row (r : Fin 2048) (c : Fin 256) :
    k0_pay45 z e e2 e (ix2 r c) = P.emb (firstMin (dist P (fun i => z (ix2 r i)))) c := by
  pointwise [k0_pay45]
  simp only [hot_row z e e2 he he2, he]
  exact sum_hot _ fun k => P.emb k c

/-- The nearest row, decoded. -/
theorem dq_row (t : Vec Ideal S256x128 .f32) (ht : ∀ k, t (ix2 k 0) = dec P (P.emb k)) (r : Fin 2048) :
    k0_pay2 (k0_pay44 z e e2) t (ix2 r 0) = dec P (P.emb (firstMin (dist P (fun i => z (ix2 r i))))) := by
  pointwise [k0_pay2]
  simp only [hot_row z e e2 he he2]
  refine Eq.trans (Finset.sum_congr rfl fun k _ => congrArg _ (ht k)) (sum_hot _ fun k => dec P (P.emb k))

end Nearest

end Cert.KernelIdeal.Hand
-- ==== Proof.KernelArrays.lean ====
/-
  The kernel's result arrays, at the extended reals: what every block of an operand reads, the padded weights as the
  model's, and the four results that are arrays over the rows.
-/
module

public import proofs.«01_k».proof.Proof.RunIdeal
public import proofs.«01_k».proof.Proof.KernelValue
public import Idealize.ShloMosaic.Lib.Pipeline.ValueKit

@[expose] public section

set_option maxRecDepth 16384

noncomputable section

namespace Cert.KernelIdeal.Hand

open Cert.KernelIdeal Cert.KernelIdeal.Gen
open Idealize.ShloMosaic Idealize.ShloMosaic.TcCoe Idealize.ShloMosaic.Pointwise
open Idealize.ShloMosaic.Pipeline (Dat)
open Cert.Spec

variable (m : (ℓ : Loc nD τ sig) → Buf (Elt Ideal) ℓ) (c : Dev nD)

/-- Where the blocks over the rows lie. -/
theorem idx_rows : ∀ t : Fin cfg0.N, win0_0.index t = ![t.val, 0] ∧ win0_1.index t = ![t.val, 0] ∧ win0_21.index t = ![t.val, 0]
    ∧ win0_22.index t = ![t.val, 0] ∧ win0_23.index t = ![t.val, 0] ∧ win0_24.index t = ![t.val, 0] :=
  (by decide +kernel : ∀ t : Fin grid0.N, _)

/-- The blocks that are whole operands. -/
theorem idx_whole : ∀ t : Fin cfg0.N, win0_2.index t = ![0, 0] ∧ win0_3.index t = ![0, 0] ∧ win0_4.index t = ![0, 0]
    ∧ win0_5.index t = ![0, 0] ∧ win0_6.index t = ![0, 0] ∧ win0_7.index t = ![0, 0] ∧ win0_8.index t = ![0, 0]
    ∧ win0_9.index t = ![0, 0] ∧ win0_10.index t = ![0, 0] ∧ win0_11.index t = ![0, 0] ∧ win0_12.index t = ![0, 0]
    ∧ win0_13.index t = ![0, 0] ∧ win0_14.index t = ![0, 0] ∧ win0_15.index t = ![0, 0] ∧ win0_16.index t = ![0, 0]
    ∧ win0_17.index t = ![0, 0] ∧ win0_18.index t = ![0, 0] ∧ win0_19.index t = ![0, 0] ∧ win0_20.index t = ![0, 0] :=
  (by decide +kernel : ∀ t : Fin grid0.N, _)

/-- The model's parameters. -/
def par : Params :=
  ofArgs (m ((c : Thread nD τ).loc main_arg1)) (m ((c : Thread nD τ).loc main_arg2)) (m ((c : Thread nD τ).loc main_arg3))
    (m ((c : Thread nD τ).loc main_arg4)) (m ((c : Thread nD τ).loc main_arg5)) (m ((c : Thread nD τ).loc main_arg6))
    (m ((c : Thread nD τ).loc main_arg7)) (m ((c : Thread nD τ).loc main_arg8)) (m ((c : Thread nD τ).loc main_arg9))
    (m ((c : Thread nD τ).loc main_arg10)) (m ((c : Thread nD τ).loc main_arg11)) (m ((c : Thread nD τ).loc main_arg12))
    (m ((c : Thread nD τ).loc main_arg13)) (m ((c : Thread nD τ).loc main_arg14)) (m ((c : Thread nD τ).loc main_arg15))
    (m ((c : Thread nD τ).loc main_arg16)) (m ((c : Thread nD τ).loc main_arg17))

/-! ## The weights' blocks -/

theorem read_w0 (t : Fin cfg0.N) (j : Fin 10) : (iblk m c 2 t : Vec Ideal S1x10 .f32) (ix2 0 j) = (par m c).w0 j := by
  refine Eq.trans (b := (V m c main_v3 : Vec Ideal S1x10 .f32) (ix2 0 j)) (by blk_ext [iblk, idx_whole t]) ?_
  show _ = (m ((c : Thread nD τ).loc main_arg1) : Vec Ideal S10x1 .f32) (ix2 j 0)
  entry_read
  pointwise []
theorem read_b0 (t : Fin cfg0.N) (j : Fin 10) : (iblk m c 3 t : Vec Ideal S1x10 .f32) (ix2 0 j) = (par m c).b0 j := by
  refine Eq.trans (b := (V m c main_v4 : Vec Ideal S1x10 .f32) (ix2 0 j)) (by blk_ext [iblk, idx_whole t]) ?_
  show _ = (m ((c : Thread nD τ).loc main_arg2) : Vec Ideal S10 .f32) (ix1 j)
  entry_read
  pointwise []
theorem read_w1 (t : Fin cfg0.N) (i : Fin 50) (j : Fin 10) : (iblk m c 4 t : Vec Ideal S50x10 .f32) (ix2 i j) = (par m c).w1 i j := by
  show _ = (m ((c : Thread nD τ).loc main_arg3) : Vec Ideal S50x10 .f32) (ix2 i j)
  blk_ext [iblk, V, idx_whole t]
theorem read_b1 (t : Fin cfg0.N) (j : Fin 50) : (iblk m c 5 t : Vec Ideal S1x50 .f32) (ix2 0 j) = (par m c).b1 j := by
  refine Eq.trans (b := (V m c main_v5 : Vec Ideal S1x50 .f32) (ix2 0 j)) (by blk_ext [iblk, idx_whole t]) ?_
  show _ = (m ((c : Thread nD τ).loc main_arg4) : Vec Ideal S50 .f32) (ix1 j)
  entry_read
  pointwise []
theorem read_wm (t : Fin cfg0.N) (i : Fin 256) (j : Fin 50) : (iblk m c 6 t : Vec Ideal S256x50 .f32) (ix2 i j) = (par m c).wm i j := by
  show _ = (m ((c : Thread nD τ).loc main_arg5) : Vec Ideal S256x50 .f32) (ix2 i j)
  blk_ext [iblk, V, idx_whole t]
theorem read_bm (t : Fin cfg0.N) (j : Fin 256) : (iblk m c 7 t : Vec Ideal S1x256 .f32) (ix2 0 j) = (par m c).bm j := by
  refine Eq.trans (b := (V m c main_v6 : Vec Ideal S1x256 .f32) (ix2 0 j)) (by blk_ext [iblk, idx_whole t]) ?_
  show _ = (m ((c : Thread nD τ).loc main_arg6) : Vec Ideal S256 .f32) (ix1 j)
  entry_read
  pointwise []
theorem read_wv (t : Fin cfg0.N) (i : Fin 256) (j : Fin 50) : (iblk m c 8 t : Vec Ideal S256x50 .f32) (ix2 i j) = (par m c).wv i j := by
  show _ = (m ((c : Thread nD τ).loc main_arg7) : Vec Ideal S256x50 .f32) (ix2 i j)
  blk_ext [iblk, V, idx_whole t]
theorem read_bv (t : Fin cfg0.N) (j : Fin 256) : (iblk m c 9 t : Vec Ideal S1x256 .f32) (ix2 0 j) = (par m c).bv j := by
  refine Eq.trans (b := (V m c main_v7 : Vec Ideal S1x256 .f32) (ix2 0 j)) (by blk_ext [iblk, idx_whole t]) ?_
  show _ = (m ((c : Thread nD τ).loc main_arg8) : Vec Ideal S256 .f32) (ix1 j)
  entry_read
  pointwise []
theorem read_emb (t : Fin cfg0.N) (i : Fin 256) (j : Fin 256) : (iblk m c 10 t : Vec Ideal S256x256 .f32) (ix2 i j) = (par m c).emb i j := by
  show _ = (m ((c : Thread nD τ).loc main_arg17) : Vec Ideal S256x256 .f32) (ix2 i j)
  blk_ext [iblk, V, idx_whole t]
theorem read_e2 (t : Fin cfg0.N) (j : Fin 256) : (iblk m c 11 t : Vec Ideal S1x256 .f32) (ix2 0 j)
    = ∑ i, (par m c).emb j i * (par m c).emb j i := by
  refine Eq.trans (b := (V m c main_v2 : Vec Ideal S1x256 .f32) (ix2 0 j)) (by blk_ext [iblk, idx_whole t]) ?_
  entry_read
  pointwise []
  rfl
theorem read_d0 (t : Fin cfg0.N) (i : Fin 100) (j : Fin 256) : (iblk m c 13 t : Vec Ideal S100x256 .f32) (ix2 i j) = (par m c).d0 i j := by
  show _ = (m ((c : Thread nD τ).loc main_arg9) : Vec Ideal S100x256 .f32) (ix2 i j)
  blk_ext [iblk, V, idx_whole t]
theorem read_c0 (t : Fin cfg0.N) (j : Fin 100) : (iblk m c 14 t : Vec Ideal S1x100 .f32) (ix2 0 j) = (par m c).c0 j := by
  refine Eq.trans (b := (V m c main_v8 : Vec Ideal S1x100 .f32) (ix2 0 j)) (by blk_ext [iblk, idx_whole t]) ?_
  show _ = (m ((c : Thread nD τ).loc main_arg10) : Vec Ideal S100 .f32) (ix1 j)
  entry_read
  pointwise []
theorem read_d1 (t : Fin cfg0.N) (i : Fin 60) (j : Fin 100) : (iblk m c 15 t : Vec Ideal S60x100 .f32) (ix2 i j) = (par m c).d1 i j := by
  show _ = (m ((c : Thread nD τ).loc main_arg11) : Vec Ideal S60x100 .f32) (ix2 i j)
  blk_ext [iblk, V, idx_whole t]
theorem read_c1 (t : Fin cfg0.N) (j : Fin 60) : (iblk m c 16 t : Vec Ideal S1x60 .f32) (ix2 0 j) = (par m c).c1 j := by
  refine Eq.trans (b := (V m c main_v9 : Vec Ideal S1x60 .f32) (ix2 0 j)) (by blk_ext [iblk, idx_whole t]) ?_
  show _ = (m ((c : Thread nD τ).loc main_arg12) : Vec Ideal S60 .f32) (ix1 j)
  entry_read
  pointwise []
theorem read_d2 (t : Fin cfg0.N) (i : Fin 30) (j : Fin 60) : (iblk m c 17 t : Vec Ideal S30x60 .f32) (ix2 i j) = (par m c).d2 i j := by
  show _ = (m ((c : Thread nD τ).loc main_arg13) : Vec Ideal S30x60 .f32) (ix2 i j)
  blk_ext [iblk, V, idx_whole t]
theorem read_c2 (t : Fin cfg0.N) (j : Fin 30) : (iblk m c 18 t : Vec Ideal S1x30 .f32) (ix2 0 j) = (par m c).c2 j := by
  refine Eq.trans (b := (V m c main_v10 : Vec Ideal S1x30 .f32) (ix2 0 j)) (by blk_ext [iblk, idx_whole t]) ?_
  show _ = (m ((c : Thread nD τ).loc main_arg14) : Vec Ideal S30 .f32) (ix1 j)
  entry_read
  pointwise []
theorem read_d3 (t : Fin cfg0.N) (i : Fin 1) (j : Fin 30) : (iblk m c 19 t : Vec Ideal S1x30 .f32) (ix2 i j) = (par m c).d3 i j := by
  show _ = (m ((c : Thread nD τ).loc main_arg15) : Vec Ideal S1x30 .f32) (ix2 i j)
  blk_ext [iblk, V, idx_whole t]
theorem read_c3 (t : Fin cfg0.N) (j : Fin 1) : (iblk m c 20 t : Vec Ideal S1x1 .f32) (ix2 0 j) = (par m c).c3 j := by
  refine Eq.trans (b := (V m c main_v11 : Vec Ideal S1x1 .f32) (ix2 0 j)) (by blk_ext [iblk, idx_whole t]) ?_
  show _ = (m ((c : Thread nD τ).loc main_arg16) : Vec Ideal S1 .f32) (ix1 j)
  obtain rfl : j = 0 := Subsingleton.elim _ _
  entry_read
  pointwise []

/-! ## The scratch buffers -/

theorem encBufs : EncBufs (par m c) (scr0 m c) (scr1 m c) (scr2 m c) (scr3 m c) (scr4 m c) (scr5 m c) where
  w0 j := ((pad0_padded _).inside 0 j).trans (read_w0 m c _ j)
  b0 j := ((pad1_padded _).inside 0 j).trans (read_b0 m c _ j)
  w1 := (pad2_padded _).of_eq (read_w1 m c _)
  b1 j := ((pad3_padded _).inside 0 j).trans (read_b1 m c _ j)
  wm := (pad4_mean _ _).of_eq (read_wm m c _)
  wv := (pad4_logvar _ _).of_eq (read_wv m c _)
  bm j := (pad5_mean _ _ j).trans (read_bm m c _ j)
  bv j := (pad5_logvar _ _ j).trans (read_bv m c _ j)

theorem decBufs : DecBufs (par m c) (scr6 m c) (scr7 m c) (scr8 m c) (scr9 m c) (scr10 m c) (scr11 m c) (scr12 m c) (scr13 m c) where
  d0 := (pad6_padded _).of_eq (read_d0 m c _)
  c0 j := ((pad7_padded _).inside 0 j).trans (read_c0 m c _ j)
  d1 := (pad8_padded _).of_eq (read_d1 m c _)
  c1 j := ((pad9_padded _).inside 0 j).trans (read_c1 m c _ j)
  d2 := (pad10_padded _).of_eq (read_d2 m c _)
  c2 j := ((pad11_padded _).inside 0 j).trans (read_c2 m c _ j)
  d3 := (pad12_padded _).of_eq (read_d3 m c _)
  c3 j := ((pad13_padded _).inside 0 j).trans (read_c3 m c _ j)

/-! ## The rows of a block -/

/-- The row of the whole array that row `r` of block `t` is. -/
def at_ (t : Fin cfg0.N) (r : Fin 2048) : Fin 16384 :=
  ⟨2048 * t.val + r.val, by have := t.isLt; have : cfg0.N = 8 := N_0; omega⟩

theorem read_x (t : Fin cfg0.N) (i : Fin 2048) : (iblk m c 0 t : Vec Ideal S2048x1 .f32) (ix2 i 0)
    = (m ((c : Thread nD τ).loc main_arg0) : Vec Ideal S16384x1 .f32) (ix2 (at_ t i) 0) := by
  blk_ext [iblk, V, idx_rows t, at_]
theorem read_eps (t : Fin cfg0.N) (i : Fin 2048) (j : Fin 256) : (iblk m c 1 t : Vec Ideal S2048x256 .f32) (ix2 i j)
    = (m ((c : Thread nD τ).loc main_arg18) : Vec Ideal S16384x256 .f32) (ix2 (at_ t i) j) := by
  blk_ext [iblk, V, idx_rows t, at_]

/-- Row `r` of the encoding. -/
def zeRow (r : Fin 16384) : Fin 256 → EReal :=
  ze (par m c) ((m ((c : Thread nD τ).loc main_arg0) : Vec Ideal S16384x1 .f32) (ix2 r 0))
    (row (m ((c : Thread nD τ).loc main_arg18)) r)
/-- The number of the nearest row of the table. -/
def near (r : Fin 16384) : Fin 256 := firstMin (dist (par m c) (zeRow m c r))

theorem zeAt_row (t : Fin cfg0.N) (r : Fin 2048) (j : Fin 256) : zeAt m c t (ix2 r j) = zeRow m c (at_ t r) j := by
  unfold zeAt
  refine (zeOf_eq (encBufs m c) _ _ r j).trans ?_
  rw [read_x]
  simp only [read_eps]
  rfl
theorem zeAt_row' (t : Fin cfg0.N) (r : Fin 2048) : (fun i => zeAt m c t (ix2 r i)) = zeRow m c (at_ t r) :=
  funext fun j => zeAt_row m c t r j

theorem zqAt_row (t : Fin cfg0.N) (r : Fin 2048) (j : Fin 256) : zqAt m c t (ix2 r j) = (par m c).emb (near m c (at_ t r)) j := by
  unfold zqAt
  refine (zq_row _ _ _ (read_emb m c t) (read_e2 m c t) r j).trans ?_
  rw [zeAt_row']
  rfl

theorem deAt_row (t : Fin cfg0.N) (r : Fin 2048) : deAt m c t (ix2 r 0) = dec (par m c) (zeRow m c (at_ t r)) := by
  unfold deAt
  refine (deOf_eq (decBufs m c) _ r).trans ?_
  rw [zeAt_row']

theorem table_row (k : Fin 256) : scr14 m c (ix2 k 0) = dec (par m c) ((par m c).emb k) := by
  unfold scr14
  refine (table_eq (decBufs m c) _ k).trans ?_
  simp only [read_emb]

theorem dqAt_row (t : Fin cfg0.N) (r : Fin 2048) : dqAt m c t (ix2 r 0) = dec (par m c) ((par m c).emb (near m c (at_ t r))) := by
  unfold dqAt
  refine (dq_row _ _ _ (read_emb m c t) (read_e2 m c t) _ (table_row m c) r).trans ?_
  rw [zeAt_row']
  rfl

/-! ## The result arrays after the run -/

theorem final_ze : (dats m 0 c).arrAt 21 (cfgs 0).N = ofRows (zeRow m c) := by
  refine (dats m 0 c).arrAt_eq_of_covers 21 _ (by decide +kernel) fun t _ y => ?_
  blk_simp
  obtain ⟨r, j, rfl⟩ : ∃ (r : Fin 2048) (j : Fin 256), y = ix2 r j := ⟨y 0, y 1, eq_ix2 y⟩
  refine Eq.trans (b := zeAt m c t (ix2 r j)) rfl ?_
  rw [zeAt_row m c t r j]
  have e : (win0_21.blk t).view.emb (ix2 r j) = ix2 (at_ t r) j := by blk_ext [idx_rows t, at_]
  rw [e]
  rfl

theorem final_zq : (dats m 0 c).arrAt 22 (cfgs 0).N = ofRows (fun r => (par m c).emb (near m c r)) := by
  refine (dats m 0 c).arrAt_eq_of_covers 22 _ (by decide +kernel) fun t _ y => ?_
  blk_simp
  obtain ⟨r, j, rfl⟩ : ∃ (r : Fin 2048) (j : Fin 256), y = ix2 r j := ⟨y 0, y 1, eq_ix2 y⟩
  refine Eq.trans (b := zqAt m c t (ix2 r j)) rfl ?_
  rw [zqAt_row m c t r j]
  have e : (win0_22.blk t).view.emb (ix2 r j) = ix2 (at_ t r) j := by blk_ext [idx_rows t, at_]
  rw [e]
  rfl

theorem final_de : (dats m 0 c).arrAt 23 (cfgs 0).N = ofRows (fun r _ => dec (par m c) (zeRow m c r)) := by
  refine (dats m 0 c).arrAt_eq_of_covers 23 _ (by decide +kernel) fun t _ y => ?_
  blk_simp
  obtain ⟨r, j, rfl⟩ : ∃ (r : Fin 2048) (j : Fin 1), y = ix2 r j := ⟨y 0, y 1, eq_ix2 y⟩
  obtain rfl : j = 0 := Subsingleton.elim _ _
  refine Eq.trans (b := deAt m c t (ix2 r 0)) rfl ?_
  rw [deAt_row m c t r]
  have e : (win0_23.blk t).view.emb (ix2 r 0) = ix2 (at_ t r) 0 := by blk_ext [idx_rows t, at_]
  rw [e]
  rfl

theorem final_dq : (dats m 0 c).arrAt 24 (cfgs 0).N = ofRows (fun r _ => dec (par m c) ((par m c).emb (near m c r))) := by
  refine (dats m 0 c).arrAt_eq_of_covers 24 _ (by decide +kernel) fun t _ y => ?_
  blk_simp
  obtain ⟨r, j, rfl⟩ : ∃ (r : Fin 2048) (j : Fin 1), y = ix2 r j := ⟨y 0, y 1, eq_ix2 y⟩
  obtain rfl : j = 0 := Subsingleton.elim _ _
  refine Eq.trans (b := dqAt m c t (ix2 r 0)) rfl ?_
  rw [dqAt_row m c t r]
  have e : (win0_24.blk t).view.emb (ix2 r 0) = ix2 (at_ t r) 0 := by blk_ext [idx_rows t, at_]
  rw [e]
  rfl

end Cert.KernelIdeal.Hand
-- ==== Proof.KernelResults.lean ====
/-
  What the kernel's launch ends with: the four row results in closed form, the arguments unchanged.
-/
module

public import proofs.«01_k».proof.Proof.KernelArrays

@[expose] public section

set_option maxRecDepth 16384

noncomputable section

namespace Cert.KernelIdeal.Hand

open Cert.KernelIdeal Cert.KernelIdeal.Gen
open Idealize.ShloMosaic Idealize.ShloMosaic.TcCoe Idealize.SL.Sem
open Cert.Spec

variable (m : (ℓ : Loc nD τ sig) → Buf (Elt Ideal) ℓ) (ρ : Dev nD → PrngReg)

/-- The four row results at the end of the launch. -/
theorem results : θ_run defs (onTc (τ := τ) (main (F := Ideal))) ⟨m, fun _ => 0, ρ⟩ (fun r => ∀ c : Dev nD,
      r.2.mem ((c.tc : Thread nD τ).loc main_v12_0) = ofRows (zeRow m c)
      ∧ r.2.mem ((c.tc : Thread nD τ).loc main_v12_1) = ofRows (fun r => (par m c).emb (near m c r))
      ∧ r.2.mem ((c.tc : Thread nD τ).loc main_v12_2) = ofRows (fun r (_ : Fin 1) => dec (par m c) (zeRow m c r))
      ∧ r.2.mem ((c.tc : Thread nD τ).loc main_v12_3) = ofRows (fun r (_ : Fin 1) => dec (par m c) ((par m c).emb (near m c r)))) :=
  (θ_run defs _ _).mono (fun r h c => ⟨((h c).1 21).trans (final_ze m c), ((h c).1 22).trans (final_zq m c),
    ((h c).1 23).trans (final_de m c), ((h c).1 24).trans (final_dq m c)⟩) (run m ρ)

end Cert.KernelIdeal.Hand
-- ==== Proof.Steps.lean ====
/- A line of host operations in which every operation writes one new buffer: what each operation says of the
   memory still holds when the whole line has run. -/
module

public import Idealize.ShloMosaic.Lib.StableHlo.Run

@[expose] public section

noncomputable section

namespace Cert.Steps

open Idealize.ShloMosaic Idealize.ShloMosaic.TcCoe Idealize.SL.Sem Idealize.ShloMosaic.StableHlo

variable {τ : Topo} {sig : RefSig} {Val : EltTy → Type}

/-- What the operation is, the buffers it reads, the one it writes, and the value it writes there. -/
structure Step (τ : Topo) (sig : RefSig) (Val : EltTy → Type) where
  op : HloOp τ sig Val
  src : List (Ref sig .tc)
  dst : Ref sig .tc
  val : Valuation τ sig Val → (Proc.devRef (τ := τ) .tc dst).ty.Contents Val
  writes : op.writes = {Proc.devRef .tc dst}
  result : ∀ V, op.result V (Proc.devRef .tc dst) = val V
  reads : ∀ V W : Valuation τ sig Val, (∀ r ∈ src, V (Proc.devRef .tc r) = W (Proc.devRef .tc r)) → val V = val W
  sub : op.bufs ⊆ tcRefs τ sig
  fresh : op.fresh = ∅

namespace Step

/-- The step's equation, in the memory `V`. -/
def holds (s : Step τ sig Val) (V : Valuation τ sig Val) : Prop := V (Proc.devRef .tc s.dst) = s.val V

abbrev nullary (y : Ref sig .tc) (v : y.ty.Contents Val)
    (hy : y.space ≠ .host ∧ (y : DevRef τ sig).isScoped = false := by exact ⟨by decide, rfl⟩) : Step τ sig Val where
  op := StableHlo.nullary y v hy
  src := []
  dst := y
  val _ := v
  writes := rfl
  result V := nullary_result ..
  reads _ _ _ := rfl
  sub := nullary_bufs_sub ..
  fresh := rfl

abbrev unary (x y : Ref sig .tc) (f : x.ty.Contents Val → y.ty.Contents Val)
    (hx : x.space ≠ .host ∧ (x : DevRef τ sig).isScoped = false := by exact ⟨by decide, rfl⟩)
    (hy : y.space ≠ .host ∧ (y : DevRef τ sig).isScoped = false := by exact ⟨by decide, rfl⟩) : Step τ sig Val where
  op := StableHlo.unary x y f hx hy
  src := [x]
  dst := y
  val V := f (V x)
  writes := rfl
  result V := unary_result ..
  reads V W h := by rw [h x (by simp)]
  sub := unary_bufs_sub ..
  fresh := rfl

abbrev reshape (x y : Ref sig .tc) (he : x.ty.elt = y.ty.elt) (hn : x.ty.shape.ShapeCasts y.ty.shape)
    (hx : x.space ≠ .host ∧ (x : DevRef τ sig).isScoped = false := by exact ⟨by decide, rfl⟩)
    (hy : y.space ≠ .host ∧ (y : DevRef τ sig).isScoped = false := by exact ⟨by decide, rfl⟩) : Step τ sig Val where
  op := StableHlo.reshape x y he hn hx hy
  src := [x]
  dst := y
  val V := fun i => he ▸ shapeCast y.ty.shape (V x) hn i
  writes := rfl
  result V := reshape_result ..
  reads V W h := by rw [h x (by simp)]
  sub := reshape_bufs_sub ..
  fresh := rfl

abbrev binary (a b y : Ref sig .tc) (f : a.ty.Contents Val → b.ty.Contents Val → y.ty.Contents Val)
    (ha : a.space ≠ .host ∧ (a : DevRef τ sig).isScoped = false := by exact ⟨by decide, rfl⟩)
    (hb : b.space ≠ .host ∧ (b : DevRef τ sig).isScoped = false := by exact ⟨by decide, rfl⟩)
    (hy : y.space ≠ .host ∧ (y : DevRef τ sig).isScoped = false := by exact ⟨by decide, rfl⟩) : Step τ sig Val where
  op := StableHlo.binary a b y f ha hb hy
  src := [a, b]
  dst := y
  val V := f (V a) (V b)
  writes := rfl
  result V := binary_result ..
  reads V W h := by rw [h a (by simp), h b (by simp)]
  sub := binary_bufs_sub ..
  fresh := rfl

abbrev ternary (c a b y : Ref sig .tc)
    (f : c.ty.Contents Val → a.ty.Contents Val → b.ty.Contents Val → y.ty.Contents Val)
    (hc : c.space ≠ .host ∧ (c : DevRef τ sig).isScoped = false := by exact ⟨by decide, rfl⟩)
    (ha : a.space ≠ .host ∧ (a : DevRef τ sig).isScoped = false := by exact ⟨by decide, rfl⟩)
    (hb : b.space ≠ .host ∧ (b : DevRef τ sig).isScoped = false := by exact ⟨by decide, rfl⟩)
    (hy : y.space ≠ .host ∧ (y : DevRef τ sig).isScoped = false := by exact ⟨by decide, rfl⟩) : Step τ sig Val where
  op := StableHlo.ternary c a b y f hc ha hb hy
  src := [c, a, b]
  dst := y
  val V := f (V c) (V a) (V b)
  writes := rfl
  result V := ternary_result ..
  reads V W h := by rw [h c (by simp), h a (by simp), h b (by simp)]
  sub := ternary_bufs_sub ..
  fresh := rfl

abbrev quaternary (a b c e y : Ref sig .tc)
    (f : a.ty.Contents Val → b.ty.Contents Val → c.ty.Contents Val → e.ty.Contents Val → y.ty.Contents Val)
    (ha : a.space ≠ .host ∧ (a : DevRef τ sig).isScoped = false := by exact ⟨by decide, rfl⟩)
    (hb : b.space ≠ .host ∧ (b : DevRef τ sig).isScoped = false := by exact ⟨by decide, rfl⟩)
    (hc : c.space ≠ .host ∧ (c : DevRef τ sig).isScoped = false := by exact ⟨by decide, rfl⟩)
    (he : e.space ≠ .host ∧ (e : DevRef τ sig).isScoped = false := by exact ⟨by decide, rfl⟩)
    (hy : y.space ≠ .host ∧ (y : DevRef τ sig).isScoped = false := by exact ⟨by decide, rfl⟩) : Step τ sig Val where
  op := StableHlo.quaternary a b c e y f ha hb hc he hy
  src := [a, b, c, e]
  dst := y
  val V := f (V a) (V b) (V c) (V e)
  writes := rfl
  result V := quaternary_result ..
  reads V W h := by rw [h a (by simp), h b (by simp), h c (by simp), h e (by simp)]
  sub := quaternary_bufs_sub ..
  fresh := rfl

abbrev nary {n : Nat} (xs : Fin n → Ref sig .tc) (y : Ref sig .tc)
    (f : ((k : Fin n) → (xs k).ty.Contents Val) → y.ty.Contents Val)
    (hxs : ∀ k, (xs k).space ≠ .host ∧ ((xs k : Ref sig .tc) : DevRef τ sig).isScoped = false)
    (hy : y.space ≠ .host ∧ (y : DevRef τ sig).isScoped = false) : Step τ sig Val where
  op := StableHlo.nary xs y f hxs hy
  src := List.ofFn xs
  dst := y
  val V := f fun k => V (xs k)
  writes := rfl
  result V := nary_result ..
  reads V W h := by
    have : (fun k => V (xs k)) = fun k => W (xs k) := funext fun k => h _ (List.mem_ofFn.mpr ⟨k, rfl⟩)
    rw [this]
  sub := nary_bufs_sub ..
  fresh := rfl

end Step

/-- From number `n` on, the operations write the buffers numbered `n`, `n + 1`, …, each reading lower ones only. -/
def inOrder : ℕ → List (Step τ sig Val) → Bool
  | _, [] => true
  | n, s :: l => (s.dst.idx.val == n) && (s.src.all fun r => Nat.blt r.idx.val n) && inOrder (n + 1) l

theorem inOrder_append (n : ℕ) (l₁ l₂ : List (Step τ sig Val)) (h₁ : inOrder n l₁ = true)
    (h₂ : inOrder (n + l₁.length) l₂ = true) : inOrder n (l₁ ++ l₂) = true := by
  induction l₁ generalizing n with
  | nil => simpa using h₂
  | cons s l ih =>
    simp only [List.cons_append, inOrder, Bool.and_eq_true] at h₁ ⊢
    refine ⟨h₁.1, ih _ h₁.2 ?_⟩
    rwa [List.length_cons, show n + (l.length + 1) = n + 1 + l.length by omega] at h₂

/-- The line leaves the lower-numbered buffers alone. -/
theorem after_low {n : ℕ} {l : List (Step τ sig Val)} (h : inOrder n l = true) (V : Valuation τ sig Val)
    (r : Ref sig .tc) (hr : r.idx.val < n) :
    after (l.map Step.op) V (Proc.devRef .tc r) = V (Proc.devRef .tc r) := by
  induction l generalizing n V with
  | nil => rfl
  | cons s l ih =>
    simp only [inOrder, Bool.and_eq_true, beq_iff_eq] at h
    rw [List.map_cons, after_cons, ih h.2 _ (by omega)]
    refine HloOp.result_of_not_mem _ _ ?_
    rw [s.writes, Finset.mem_singleton]
    refine devRef_ne_of_ne fun e => ?_
    rw [← h.1.1, e] at hr
    exact lt_irrefl _ hr

/-- Every step's equation holds when the line has run. -/
theorem holds_after {n : ℕ} {l : List (Step τ sig Val)} (h : inOrder n l = true) (V : Valuation τ sig Val)
    (s : Step τ sig Val) (hs : s ∈ l) : s.holds (after (l.map Step.op) V) := by
  induction l generalizing n V with
  | nil => cases hs
  | cons a l ih =>
    have h' := h
    simp only [inOrder, Bool.and_eq_true, beq_iff_eq, List.all_eq_true] at h
    rw [List.map_cons, after_cons]
    rcases List.mem_cons.mp hs with rfl | hs
    · unfold Step.holds
      rw [after_low h.2 _ _ (by omega), s.result]
      refine s.reads _ _ fun r hr => ?_
      have hlt : r.idx.val < n := Nat.le_of_ble_eq_true (h.1.2 r hr)
      rw [after_low h.2 _ _ (by omega)]
      refine (HloOp.result_of_not_mem _ _ ?_).symm
      rw [s.writes, Finset.mem_singleton]
      refine devRef_ne_of_ne fun e => ?_
      rw [← h.1.1, e] at hlt
      exact lt_irrefl _ hlt
    · exact ih h.2 _ hs

end Cert.Steps

end
-- ==== Proof.RefRun.lean ====
/- The reference program as a list of its host operations, and its run: every buffer ends with the value its operation
   gives it, and the arguments are unchanged. -/
module

public import proofs.«01_k».proof.Proof.Gen.ReferenceIdeal
public import proofs.«01_k».proof.Proof.Steps

@[expose] public section

noncomputable section

namespace Cert.ReferenceIdeal.Hand

open Cert.ReferenceIdeal Cert.ReferenceIdeal.Gen Idealize.ShloMosaic Idealize.ShloMosaic.TcCoe Idealize.SL.Sem Idealize.ShloMosaic.StableHlo Cert.Steps

variable {F : FTy → Type} [FloatOps F]

/-- The contents of a buffer of shape `s` and element type `e`. -/
abbrev C (F : FTy → Type) (s : Shape) (e : EltTy) := (⟨s, e⟩ : BufTy).Contents (Elt F)

/-- The operations of the program's part 0, in order. -/
def steps0 : List (Step τ sig (Elt F)) :=
  [ .unary main_arg1 main_v0 ((transpose S1x10 [1, 0] · transposes_S10x1_S1x10_1_0) : C F S10x1 .f32 → C F S1x10 .f32),
    .binary main_arg0 main_v0 main_v1 ((fun l r => Host.dotGeneral dot_S16384x1_S1x10_S16384x10_1_0_0_1_n_n none l r) : C F S16384x1 .f32 → C F S1x10 .f32 → C F S16384x10 .f32),
    .unary main_arg2 main_v2 (broadcastInDim S1x10 ![1] bcast_S10_S1x10_1 : C F S10 .f32 → C F S1x10 .f32),
    .unary main_v2 main_v3 (broadcastInDim S16384x10 ![0, 1] bcast_S1x10_S16384x10_0_1 : C F S1x10 .f32 → C F S16384x10 .f32),
    .binary main_v1 main_v3 main_v4 (addf : C F S16384x10 .f32 → C F S16384x10 .f32 → C F S16384x10 .f32),
    .nullary main_cst (constant S_ .f32 0x3C23D70A#32),
    .nullary main_call0_cst ((constant S_ .f32 0x00000000#32) : C F S_ .f32),
    .unary main_call0_cst main_call0_v0 ((broadcastInDim S16384x10 ![] bcast_S_S16384x10) : C F S_ .f32 → C F S16384x10 .f32),
    .binary main_v4 main_call0_v0 main_call0_v1 ((cmpf .oge) : C F S16384x10 .f32 → C F S16384x10 .f32 → C F S16384x10 .i1),
    .unary main_cst main_call0_v2 (id : C F S_ .f32 → C F S_ .f32),
    .unary main_call0_v2 main_call0_v3 ((broadcastInDim S16384x10 ![] bcast_S_S16384x10) : C F S_ .f32 → C F S16384x10 .f32),
    .binary main_call0_v3 main_v4 main_call0_v4 (mulf : C F S16384x10 .f32 → C F S16384x10 .f32 → C F S16384x10 .f32),
    .ternary main_call0_v1 main_v4 main_call0_v4 main_v5 (select : C F S16384x10 .i1 → C F S16384x10 .f32 → C F S16384x10 .f32 → C F S16384x10 .f32),
    .unary main_arg3 main_v6 ((transpose S10x50 [1, 0] · transposes_S50x10_S10x50_1_0) : C F S50x10 .f32 → C F S10x50 .f32),
    .binary main_v5 main_v6 main_v7 ((fun l r => Host.dotGeneral dot_S16384x10_S10x50_S16384x50_1_0_0_1_n_n none l r) : C F S16384x10 .f32 → C F S10x50 .f32 → C F S16384x50 .f32),
    .unary main_arg4 main_v8 (broadcastInDim S1x50 ![1] bcast_S50_S1x50_1 : C F S50 .f32 → C F S1x50 .f32),
    .unary main_v8 main_v9 (broadcastInDim S16384x50 ![0, 1] bcast_S1x50_S16384x50_0_1 : C F S1x50 .f32 → C F S16384x50 .f32),
    .binary main_v7 main_v9 main_v10 (addf : C F S16384x50 .f32 → C F S16384x50 .f32 → C F S16384x50 .f32),
    .nullary main_cst_0 (constant S_ .f32 0x3C23D70A#32),
    .nullary main_call1_cst ((constant S_ .f32 0x00000000#32) : C F S_ .f32),
    .unary main_call1_cst main_call1_v0 ((broadcastInDim S16384x50 ![] bcast_S_S16384x50) : C F S_ .f32 → C F S16384x50 .f32),
    .binary main_v10 main_call1_v0 main_call1_v1 ((cmpf .oge) : C F S16384x50 .f32 → C F S16384x50 .f32 → C F S16384x50 .i1),
    .unary main_cst_0 main_call1_v2 (id : C F S_ .f32 → C F S_ .f32),
    .unary main_call1_v2 main_call1_v3 ((broadcastInDim S16384x50 ![] bcast_S_S16384x50) : C F S_ .f32 → C F S16384x50 .f32),
    .binary main_call1_v3 main_v10 main_call1_v4 (mulf : C F S16384x50 .f32 → C F S16384x50 .f32 → C F S16384x50 .f32),
    .ternary main_call1_v1 main_v10 main_call1_v4 main_v11 (select : C F S16384x50 .i1 → C F S16384x50 .f32 → C F S16384x50 .f32 → C F S16384x50 .f32),
    .unary main_arg5 main_v12 ((transpose S50x256 [1, 0] · transposes_S256x50_S50x256_1_0) : C F S256x50 .f32 → C F S50x256 .f32),
    .binary main_v11 main_v12 main_v13 ((fun l r => Host.dotGeneral dot_S16384x50_S50x256_S16384x256_1_0_0_1_n_n none l r) : C F S16384x50 .f32 → C F S50x256 .f32 → C F S16384x256 .f32),
    .unary main_arg6 main_v14 (broadcastInDim S1x256 ![1] bcast_S256_S1x256_1 : C F S256 .f32 → C F S1x256 .f32),
    .unary main_v14 main_v15 (broadcastInDim S16384x256 ![0, 1] bcast_S1x256_S16384x256_0_1 : C F S1x256 .f32 → C F S16384x256 .f32),
    .binary main_v13 main_v15 main_v16 (addf : C F S16384x256 .f32 → C F S16384x256 .f32 → C F S16384x256 .f32),
    .unary main_arg7 main_v17 ((transpose S50x256 [1, 0] · transposes_S256x50_S50x256_1_0) : C F S256x50 .f32 → C F S50x256 .f32),
    .binary main_v11 main_v17 main_v18 ((fun l r => Host.dotGeneral dot_S16384x50_S50x256_S16384x256_1_0_0_1_n_n none l r) : C F S16384x50 .f32 → C F S50x256 .f32 → C F S16384x256 .f32),
    .unary main_arg8 main_v19 (broadcastInDim S1x256 ![1] bcast_S256_S1x256_1 : C F S256 .f32 → C F S1x256 .f32),
    .unary main_v19 main_v20 (broadcastInDim S16384x256 ![0, 1] bcast_S1x256_S16384x256_0_1 : C F S1x256 .f32 → C F S16384x256 .f32),
    .binary main_v18 main_v20 main_v21 (addf : C F S16384x256 .f32 → C F S16384x256 .f32 → C F S16384x256 .f32),
    .nullary main_cst_1 (constant S_ .f32 0x3F000000#32),
    .unary main_cst_1 main_v22 (broadcastInDim S16384x256 ![] bcast_S_S16384x256 : C F S_ .f32 → C F S16384x256 .f32),
    .binary main_v22 main_v21 main_v23 (mulf : C F S16384x256 .f32 → C F S16384x256 .f32 → C F S16384x256 .f32),
    .unary main_v23 main_v24 (Host.exp : C F S16384x256 .f32 → C F S16384x256 .f32),
    .binary main_arg18 main_v24 main_v25 (mulf : C F S16384x256 .f32 → C F S16384x256 .f32 → C F S16384x256 .f32),
    .binary main_v16 main_v25 main_v26 (addf : C F S16384x256 .f32 → C F S16384x256 .f32 → C F S16384x256 .f32),
    .binary main_v26 main_v26 main_v27 (mulf : C F S16384x256 .f32 → C F S16384x256 .f32 → C F S16384x256 .f32),
    .nullary main_cst_2 (constant S_ .f32 0x00000000#32),
    .binary main_v27 main_cst_2 main_v28 ((fun x v => Host.reduceAdd x v reducesTo_S16384x256_S16384_d1 h_S_) : C F S16384x256 .f32 → C F S_ .f32 → C F S16384 .f32),
    .unary main_v28 main_v29 (broadcastInDim S16384x1 ![0] bcast_S16384_S16384x1_0 : C F S16384 .f32 → C F S16384x1 .f32),
    .unary main_arg17 main_v30 ((transpose S256x256 [1, 0] · transposes_S256x256_S256x256_1_0) : C F S256x256 .f32 → C F S256x256 .f32),
    .binary main_v26 main_v30 main_v31 ((fun l r => Host.dotGeneral dot_S16384x256_S256x256_S16384x256_1_0_0_1_n_n none l r) : C F S16384x256 .f32 → C F S256x256 .f32 → C F S16384x256 .f32),
    .nullary main_cst_3 (constant S_ .f32 0x40000000#32),
    .unary main_cst_3 main_v32 (broadcastInDim S16384x256 ![] bcast_S_S16384x256 : C F S_ .f32 → C F S16384x256 .f32),
    .binary main_v32 main_v31 main_v33 (mulf : C F S16384x256 .f32 → C F S16384x256 .f32 → C F S16384x256 .f32),
    .unary main_v29 main_v34 (broadcastInDim S16384x256 ![0, 1] bcast_S16384x1_S16384x256_0_1 : C F S16384x1 .f32 → C F S16384x256 .f32),
    .binary main_v34 main_v33 main_v35 (subf : C F S16384x256 .f32 → C F S16384x256 .f32 → C F S16384x256 .f32),
    .binary main_arg17 main_arg17 main_v36 (mulf : C F S256x256 .f32 → C F S256x256 .f32 → C F S256x256 .f32),
    .nullary main_cst_4 (constant S_ .f32 0x00000000#32),
    .binary main_v36 main_cst_4 main_v37 ((fun x v => Host.reduceAdd x v reducesTo_S256x256_S256_d1 h_S_) : C F S256x256 .f32 → C F S_ .f32 → C F S256 .f32),
    .unary main_v37 main_v38 (broadcastInDim S1x256 ![1] bcast_S256_S1x256_1 : C F S256 .f32 → C F S1x256 .f32),
    .unary main_v38 main_v39 (broadcastInDim S16384x256 ![0, 1] bcast_S1x256_S16384x256_0_1 : C F S1x256 .f32 → C F S16384x256 .f32),
    .binary main_v35 main_v39 main_v40 (addf : C F S16384x256 .f32 → C F S16384x256 .f32 → C F S16384x256 .f32),
    .nullary main_call2_v0 ((iotaInDim S16384x256 32 1) : C F S16384x256 .i32),
    .nullary main_call2_cst ((constant S_ .f32 0x7F800000#32) : C F S_ .f32),
    .nullary main_call2_c ((constantI S_ 32 0#32) : C F S_ .i32),
    .quaternary main_v40 main_call2_v0 main_call2_cst main_call2_c main_call2_v1_0 ((fun x y u v j => (Host.argReduce reducer_argmin_f32_i32 x y u v reducesTo_S16384x256_S16384_d1 h_S_ j).1) : C F S16384x256 .f32 → C F S16384x256 .i32 → C F S_ .f32 → C F S_ .i32 → C F S16384 .f32),
    .quaternary main_v40 main_call2_v0 main_call2_cst main_call2_c main_v41 ((fun x y u v j => (Host.argReduce reducer_argmin_f32_i32 x y u v reducesTo_S16384x256_S16384_d1 h_S_ j).2) : C F S16384x256 .f32 → C F S16384x256 .i32 → C F S_ .f32 → C F S_ .i32 → C F S16384 .i32),
    .nullary main_call3_c ((constantI S_ 32 0#32) : C F S_ .i32),
    .unary main_call3_c main_call3_v0 ((broadcastInDim S16384 ![] bcast_S_S16384) : C F S_ .i32 → C F S16384 .i32),
    .binary main_v41 main_call3_v0 main_call3_v1 ((cmpi .slt) : C F S16384 .i32 → C F S16384 .i32 → C F S16384 .i1),
    .nullary main_call3_c_0 ((constantI S_ 32 256#32) : C F S_ .i32),
    .unary main_call3_c_0 main_call3_v2 ((broadcastInDim S16384 ![] bcast_S_S16384) : C F S_ .i32 → C F S16384 .i32),
    .binary main_v41 main_call3_v2 main_call3_v3 (addi : C F S16384 .i32 → C F S16384 .i32 → C F S16384 .i32),
    .ternary main_call3_v1 main_call3_v3 main_v41 main_call3_v4 (select : C F S16384 .i1 → C F S16384 .i32 → C F S16384 .i32 → C F S16384 .i32),
    .unary main_call3_v4 main_call3_v5 ((broadcastInDim S16384x1 ![0] bcast_S16384_S16384x1_0) : C F S16384 .i32 → C F S16384x1 .i32),
    .nullary main_call3_c_1 ((constantI S1 32 255#32) : C F S1 .i32),
    .nullary main_call3_c_2 ((constantI S_ 32 0#32) : C F S_ .i32),
    .unary main_call3_c_2 main_call3_v6 ((broadcastInDim S16384x1 ![] bcast_S_S16384x1) : C F S_ .i32 → C F S16384x1 .i32),
    .binary main_call3_v5 main_call3_v6 main_call3_v7 ((cmpi .sge) : C F S16384x1 .i32 → C F S16384x1 .i32 → C F S16384x1 .i1),
    .unary main_call3_c_1 main_call3_v8 ((broadcastInDim S1x1 ![1] bcast_S1_S1x1_1) : C F S1 .i32 → C F S1x1 .i32),
    .unary main_call3_v8 main_call3_v9 ((broadcastInDim S16384x1 ![0, 1] bcast_S1x1_S16384x1_0_1) : C F S1x1 .i32 → C F S16384x1 .i32),
    .binary main_call3_v5 main_call3_v9 main_call3_v10 ((cmpi .sle) : C F S16384x1 .i32 → C F S16384x1 .i32 → C F S16384x1 .i1),
    .binary main_call3_v7 main_call3_v10 main_call3_v11 (andi : C F S16384x1 .i1 → C F S16384x1 .i1 → C F S16384x1 .i1),
    .nullary main_call3_c_3 ((constantI S_ 1 1#1) : C F S_ .i1),
    .binary main_call3_v11 main_call3_c_3 main_call3_v12 ((fun x v => Host.reduce IntOp.andi x v reducesTo_S16384x1_S16384_d1 h_S_) : C F S16384x1 .i1 → C F S_ .i1 → C F S16384 .i1),
    .binary main_arg17 main_call3_v5 main_call3_v13 ((fun x i => Host.gather gather_S256x256_S16384x1_S16384x256_1_0_n_n_0_1_1256 x i) : C F S256x256 .f32 → C F S16384x1 .i32 → C F S16384x256 .f32),
    .unary main_call3_v12 main_call3_v14 ((broadcastInDim S16384x256 ![0] bcast_S16384_S16384x256_0) : C F S16384 .i1 → C F S16384x256 .i1),
    .nullary main_call3_cst ((constant S_ .f32 0x7FC00000#32) : C F S_ .f32),
    .unary main_call3_cst main_call3_v15 ((broadcastInDim S16384x256 ![] bcast_S_S16384x256) : C F S_ .f32 → C F S16384x256 .f32),
    .ternary main_call3_v14 main_call3_v13 main_call3_v15 main_v42 (select : C F S16384x256 .i1 → C F S16384x256 .f32 → C F S16384x256 .f32 → C F S16384x256 .f32),
    .binary main_v26 main_v42 main_v43 (subf : C F S16384x256 .f32 → C F S16384x256 .f32 → C F S16384x256 .f32),
    .binary main_v43 main_v43 main_v44 (mulf : C F S16384x256 .f32 → C F S16384x256 .f32 → C F S16384x256 .f32),
    .nullary main_cst_5 (constant S_ .f32 0x00000000#32),
    .binary main_v44 main_cst_5 main_v45 ((fun x v => Host.reduceAdd x v reducesTo_S16384x256_S_d0_1 h_S_) : C F S16384x256 .f32 → C F S_ .f32 → C F S_ .f32),
    .nullary main_cst_6 (constant S_ .f32 0x4A800000#32),
    .binary main_v45 main_cst_6 main_v46 (Host.divf : C F S_ .f32 → C F S_ .f32 → C F S_ .f32),
    .binary main_v26 main_v42 main_v47 (subf : C F S16384x256 .f32 → C F S16384x256 .f32 → C F S16384x256 .f32),
    .binary main_v47 main_v47 main_v48 (mulf : C F S16384x256 .f32 → C F S16384x256 .f32 → C F S16384x256 .f32),
    .nullary main_cst_7 (constant S_ .f32 0x00000000#32),
    .binary main_v48 main_cst_7 main_v49 ((fun x v => Host.reduceAdd x v reducesTo_S16384x256_S_d0_1 h_S_) : C F S16384x256 .f32 → C F S_ .f32 → C F S_ .f32),
    .nullary main_cst_8 (constant S_ .f32 0x4A800000#32) ]

/-- The operations of the program's part 1, in order. -/
def steps1 : List (Step τ sig (Elt F)) :=
  [ .binary main_v49 main_cst_8 main_v50 (Host.divf : C F S_ .f32 → C F S_ .f32 → C F S_ .f32),
    .binary main_v46 main_v50 main_v51 (addf : C F S_ .f32 → C F S_ .f32 → C F S_ .f32),
    .nullary main_c (constantI S_ 32 16#32),
    .unary main_c main_call4_v0 (id : C F S_ .i32 → C F S_ .i32),
    .unary main_call4_v0 main_call4_v1 ((broadcastInDim S16384 ![] bcast_S_S16384) : C F S_ .i32 → C F S16384 .i32),
    .binary main_v41 main_call4_v1 main_call4_v2 (Host.divsi : C F S16384 .i32 → C F S16384 .i32 → C F S16384 .i32),
    .unary main_v41 main_call4_v3 (signi : C F S16384 .i32 → C F S16384 .i32),
    .unary main_call4_v0 main_call4_v4 (signi : C F S_ .i32 → C F S_ .i32),
    .unary main_call4_v4 main_call4_v5 ((broadcastInDim S16384 ![] bcast_S_S16384) : C F S_ .i32 → C F S16384 .i32),
    .binary main_call4_v3 main_call4_v5 main_call4_v6 ((cmpi .ne) : C F S16384 .i32 → C F S16384 .i32 → C F S16384 .i1),
    .unary main_call4_v0 main_call4_v7 ((broadcastInDim S16384 ![] bcast_S_S16384) : C F S_ .i32 → C F S16384 .i32),
    .binary main_v41 main_call4_v7 main_call4_v8 (Host.remsi : C F S16384 .i32 → C F S16384 .i32 → C F S16384 .i32),
    .nullary main_call4_c ((constantI S_ 32 0#32) : C F S_ .i32),
    .unary main_call4_c main_call4_v9 ((broadcastInDim S16384 ![] bcast_S_S16384) : C F S_ .i32 → C F S16384 .i32),
    .binary main_call4_v8 main_call4_v9 main_call4_v10 ((cmpi .ne) : C F S16384 .i32 → C F S16384 .i32 → C F S16384 .i1),
    .binary main_call4_v6 main_call4_v10 main_call4_v11 (andi : C F S16384 .i1 → C F S16384 .i1 → C F S16384 .i1),
    .nullary main_call4_c_0 ((constantI S_ 32 1#32) : C F S_ .i32),
    .unary main_call4_c_0 main_call4_v12 ((broadcastInDim S16384 ![] bcast_S_S16384) : C F S_ .i32 → C F S16384 .i32),
    .binary main_call4_v2 main_call4_v12 main_call4_v13 (subi : C F S16384 .i32 → C F S16384 .i32 → C F S16384 .i32),
    .ternary main_call4_v11 main_call4_v13 main_call4_v2 main_v52 (select : C F S16384 .i1 → C F S16384 .i32 → C F S16384 .i32 → C F S16384 .i32),
    .nullary main_c_9 (constantI S_ 32 16#32),
    .unary main_c_9 main_call5_v0 (id : C F S_ .i32 → C F S_ .i32),
    .nullary main_call5_c ((constantI S_ 32 0#32) : C F S_ .i32),
    .binary main_call5_v0 main_call5_c main_call5_v1 ((cmpi .eq) : C F S_ .i32 → C F S_ .i32 → C F S_ .i1),
    .nullary main_call5_c_0 ((constantI S_ 32 1#32) : C F S_ .i32),
    .ternary main_call5_v1 main_call5_c_0 main_call5_v0 main_call5_v2 (select : C F S_ .i1 → C F S_ .i32 → C F S_ .i32 → C F S_ .i32),
    .unary main_call5_v2 main_call5_v3 ((broadcastInDim S16384 ![] bcast_S_S16384) : C F S_ .i32 → C F S16384 .i32),
    .binary main_v41 main_call5_v3 main_call5_v4 (Host.remsi : C F S16384 .i32 → C F S16384 .i32 → C F S16384 .i32),
    .nullary main_call5_c_1 ((constantI S_ 32 0#32) : C F S_ .i32),
    .unary main_call5_c_1 main_call5_v5 ((broadcastInDim S16384 ![] bcast_S_S16384) : C F S_ .i32 → C F S16384 .i32),
    .binary main_call5_v4 main_call5_v5 main_call5_v6 ((cmpi .ne) : C F S16384 .i32 → C F S16384 .i32 → C F S16384 .i1),
    .nullary main_call5_c_2 ((constantI S_ 32 0#32) : C F S_ .i32),
    .unary main_call5_c_2 main_call5_v7 ((broadcastInDim S16384 ![] bcast_S_S16384) : C F S_ .i32 → C F S16384 .i32),
    .binary main_call5_v4 main_call5_v7 main_call5_v8 ((cmpi .slt) : C F S16384 .i32 → C F S16384 .i32 → C F S16384 .i1),
    .nullary main_call5_c_3 ((constantI S_ 32 0#32) : C F S_ .i32),
    .binary main_call5_v2 main_call5_c_3 main_call5_v9 ((cmpi .slt) : C F S_ .i32 → C F S_ .i32 → C F S_ .i1),
    .unary main_call5_v9 main_call5_v10 ((broadcastInDim S16384 ![] bcast_S_S16384) : C F S_ .i1 → C F S16384 .i1),
    .binary main_call5_v8 main_call5_v10 main_call5_v11 ((cmpi .ne) : C F S16384 .i1 → C F S16384 .i1 → C F S16384 .i1),
    .binary main_call5_v11 main_call5_v6 main_call5_v12 (andi : C F S16384 .i1 → C F S16384 .i1 → C F S16384 .i1),
    .unary main_call5_v2 main_call5_v13 ((broadcastInDim S16384 ![] bcast_S_S16384) : C F S_ .i32 → C F S16384 .i32),
    .binary main_call5_v4 main_call5_v13 main_call5_v14 (addi : C F S16384 .i32 → C F S16384 .i32 → C F S16384 .i32),
    .ternary main_call5_v12 main_call5_v14 main_call5_v4 main_v53 (select : C F S16384 .i1 → C F S16384 .i32 → C F S16384 .i32 → C F S16384 .i32),
    .nullary main_c_10 (constantI S_ 32 1#32),
    .unary main_c_10 main_v54 (broadcastInDim S16384 ![] bcast_S_S16384 : C F S_ .i32 → C F S16384 .i32),
    .binary main_v52 main_v54 main_v55 (subi : C F S16384 .i32 → C F S16384 .i32 → C F S16384 .i32),
    .nullary main_c_11 (constantI S_ 32 0#32),
    .nullary main_c_12 (constantI S_ 32 15#32),
    .unary main_c_11 main_call6_v0 (id : C F S_ .i32 → C F S_ .i32),
    .unary main_call6_v0 main_call6_v1 ((broadcastInDim S16384 ![] bcast_S_S16384) : C F S_ .i32 → C F S16384 .i32),
    .binary main_call6_v1 main_v55 main_call6_v2 (maxsi : C F S16384 .i32 → C F S16384 .i32 → C F S16384 .i32),
    .unary main_c_12 main_call6_v3 (id : C F S_ .i32 → C F S_ .i32),
    .unary main_call6_v3 main_call6_v4 ((broadcastInDim S16384 ![] bcast_S_S16384) : C F S_ .i32 → C F S16384 .i32),
    .binary main_call6_v4 main_call6_v2 main_v56 (minsi : C F S16384 .i32 → C F S16384 .i32 → C F S16384 .i32),
    .nullary main_c_13 (constantI S_ 32 1#32),
    .unary main_c_13 main_v57 (broadcastInDim S16384 ![] bcast_S_S16384 : C F S_ .i32 → C F S16384 .i32),
    .binary main_v52 main_v57 main_v58 (addi : C F S16384 .i32 → C F S16384 .i32 → C F S16384 .i32),
    .nullary main_c_14 (constantI S_ 32 0#32),
    .nullary main_c_15 (constantI S_ 32 15#32),
    .unary main_c_14 main_call7_v0 (id : C F S_ .i32 → C F S_ .i32),
    .unary main_call7_v0 main_call7_v1 ((broadcastInDim S16384 ![] bcast_S_S16384) : C F S_ .i32 → C F S16384 .i32),
    .binary main_call7_v1 main_v58 main_call7_v2 (maxsi : C F S16384 .i32 → C F S16384 .i32 → C F S16384 .i32),
    .unary main_c_15 main_call7_v3 (id : C F S_ .i32 → C F S_ .i32),
    .unary main_call7_v3 main_call7_v4 ((broadcastInDim S16384 ![] bcast_S_S16384) : C F S_ .i32 → C F S16384 .i32),
    .binary main_call7_v4 main_call7_v2 main_v59 (minsi : C F S16384 .i32 → C F S16384 .i32 → C F S16384 .i32),
    .nullary main_c_16 (constantI S_ 32 1#32),
    .unary main_c_16 main_v60 (broadcastInDim S16384 ![] bcast_S_S16384 : C F S_ .i32 → C F S16384 .i32),
    .binary main_v53 main_v60 main_v61 (subi : C F S16384 .i32 → C F S16384 .i32 → C F S16384 .i32),
    .nullary main_c_17 (constantI S_ 32 0#32),
    .nullary main_c_18 (constantI S_ 32 15#32),
    .unary main_c_17 main_call8_v0 (id : C F S_ .i32 → C F S_ .i32),
    .unary main_call8_v0 main_call8_v1 ((broadcastInDim S16384 ![] bcast_S_S16384) : C F S_ .i32 → C F S16384 .i32),
    .binary main_call8_v1 main_v61 main_call8_v2 (maxsi : C F S16384 .i32 → C F S16384 .i32 → C F S16384 .i32),
    .unary main_c_18 main_call8_v3 (id : C F S_ .i32 → C F S_ .i32),
    .unary main_call8_v3 main_call8_v4 ((broadcastInDim S16384 ![] bcast_S_S16384) : C F S_ .i32 → C F S16384 .i32),
    .binary main_call8_v4 main_call8_v2 main_v62 (minsi : C F S16384 .i32 → C F S16384 .i32 → C F S16384 .i32),
    .nullary main_c_19 (constantI S_ 32 1#32),
    .unary main_c_19 main_v63 (broadcastInDim S16384 ![] bcast_S_S16384 : C F S_ .i32 → C F S16384 .i32),
    .binary main_v53 main_v63 main_v64 (addi : C F S16384 .i32 → C F S16384 .i32 → C F S16384 .i32),
    .nullary main_c_20 (constantI S_ 32 0#32),
    .nullary main_c_21 (constantI S_ 32 15#32),
    .unary main_c_20 main_call9_v0 (id : C F S_ .i32 → C F S_ .i32),
    .unary main_call9_v0 main_call9_v1 ((broadcastInDim S16384 ![] bcast_S_S16384) : C F S_ .i32 → C F S16384 .i32),
    .binary main_call9_v1 main_v64 main_call9_v2 (maxsi : C F S16384 .i32 → C F S16384 .i32 → C F S16384 .i32),
    .unary main_c_21 main_call9_v3 (id : C F S_ .i32 → C F S_ .i32),
    .unary main_call9_v3 main_call9_v4 ((broadcastInDim S16384 ![] bcast_S_S16384) : C F S_ .i32 → C F S16384 .i32),
    .binary main_call9_v4 main_call9_v2 main_v65 (minsi : C F S16384 .i32 → C F S16384 .i32 → C F S16384 .i32),
    .nullary main_c_22 (constantI S_ 32 16#32),
    .unary main_c_22 main_v66 (broadcastInDim S16384 ![] bcast_S_S16384 : C F S_ .i32 → C F S16384 .i32),
    .binary main_v56 main_v66 main_v67 (muli : C F S16384 .i32 → C F S16384 .i32 → C F S16384 .i32),
    .binary main_v67 main_v53 main_v68 (addi : C F S16384 .i32 → C F S16384 .i32 → C F S16384 .i32),
    .nullary main_c_23 (constantI S_ 32 16#32),
    .unary main_c_23 main_v69 (broadcastInDim S16384 ![] bcast_S_S16384 : C F S_ .i32 → C F S16384 .i32),
    .binary main_v59 main_v69 main_v70 (muli : C F S16384 .i32 → C F S16384 .i32 → C F S16384 .i32),
    .binary main_v70 main_v53 main_v71 (addi : C F S16384 .i32 → C F S16384 .i32 → C F S16384 .i32),
    .nullary main_c_24 (constantI S_ 32 16#32),
    .unary main_c_24 main_v72 (broadcastInDim S16384 ![] bcast_S_S16384 : C F S_ .i32 → C F S16384 .i32),
    .binary main_v52 main_v72 main_v73 (muli : C F S16384 .i32 → C F S16384 .i32 → C F S16384 .i32),
    .binary main_v73 main_v62 main_v74 (addi : C F S16384 .i32 → C F S16384 .i32 → C F S16384 .i32),
    .nullary main_c_25 (constantI S_ 32 16#32),
    .unary main_c_25 main_v75 (broadcastInDim S16384 ![] bcast_S_S16384 : C F S_ .i32 → C F S16384 .i32),
    .binary main_v52 main_v75 main_v76 (muli : C F S16384 .i32 → C F S16384 .i32 → C F S16384 .i32),
    .binary main_v76 main_v65 main_v77 (addi : C F S16384 .i32 → C F S16384 .i32 → C F S16384 .i32),
    .unary main_v68 main_v78 (broadcastInDim S16384x1 ![0] bcast_S16384_S16384x1_0 : C F S16384 .i32 → C F S16384x1 .i32),
    .unary main_v71 main_v79 (broadcastInDim S16384x1 ![0] bcast_S16384_S16384x1_0 : C F S16384 .i32 → C F S16384x1 .i32),
    .unary main_v74 main_v80 (broadcastInDim S16384x1 ![0] bcast_S16384_S16384x1_0 : C F S16384 .i32 → C F S16384x1 .i32),
    .unary main_v77 main_v81 (broadcastInDim S16384x1 ![0] bcast_S16384_S16384x1_0 : C F S16384 .i32 → C F S16384x1 .i32),
    .nary ![main_v78, main_v79, main_v80, main_v81] main_v82 (fun u => (concatenate S16384x4 1 [⟨S16384x1, (u 0 : C F S16384x1 .i32)⟩, ⟨S16384x1, (u 1 : C F S16384x1 .i32)⟩, ⟨S16384x1, (u 2 : C F S16384x1 .i32)⟩, ⟨S16384x1, (u 3 : C F S16384x1 .i32)⟩] concatenates_S16384x1_S16384x1_S16384x1_S16384x1_S16384x4_d1 : C F S16384x4 .i32)) (by intro k; fin_cases k <;> exact ⟨by decide, rfl⟩) ⟨by decide, rfl⟩,
    .nullary main_call10_c ((constantI S_ 32 0#32) : C F S_ .i32),
    .unary main_call10_c main_call10_v0 ((broadcastInDim S16384x4 ![] bcast_S_S16384x4) : C F S_ .i32 → C F S16384x4 .i32),
    .binary main_v82 main_call10_v0 main_call10_v1 ((cmpi .slt) : C F S16384x4 .i32 → C F S16384x4 .i32 → C F S16384x4 .i1),
    .nullary main_call10_c_0 ((constantI S_ 32 256#32) : C F S_ .i32),
    .unary main_call10_c_0 main_call10_v2 ((broadcastInDim S16384x4 ![] bcast_S_S16384x4) : C F S_ .i32 → C F S16384x4 .i32),
    .binary main_v82 main_call10_v2 main_call10_v3 (addi : C F S16384x4 .i32 → C F S16384x4 .i32 → C F S16384x4 .i32),
    .ternary main_call10_v1 main_call10_v3 main_v82 main_call10_v4 (select : C F S16384x4 .i1 → C F S16384x4 .i32 → C F S16384x4 .i32 → C F S16384x4 .i32),
    .unary main_call10_v4 main_call10_v5 ((broadcastInDim S16384x4x1 ![0, 1] bcast_S16384x4_S16384x4x1_0_1) : C F S16384x4 .i32 → C F S16384x4x1 .i32),
    .nullary main_call10_c_1 ((constantI S1 32 255#32) : C F S1 .i32),
    .nullary main_call10_c_2 ((constantI S_ 32 0#32) : C F S_ .i32),
    .unary main_call10_c_2 main_call10_v6 ((broadcastInDim S16384x4x1 ![] bcast_S_S16384x4x1) : C F S_ .i32 → C F S16384x4x1 .i32),
    .binary main_call10_v5 main_call10_v6 main_call10_v7 ((cmpi .sge) : C F S16384x4x1 .i32 → C F S16384x4x1 .i32 → C F S16384x4x1 .i1),
    .unary main_call10_c_1 main_call10_v8 ((broadcastInDim S1x1x1 ![2] bcast_S1_S1x1x1_2) : C F S1 .i32 → C F S1x1x1 .i32),
    .unary main_call10_v8 main_call10_v9 ((broadcastInDim S16384x4x1 ![0, 1, 2] bcast_S1x1x1_S16384x4x1_0_1_2) : C F S1x1x1 .i32 → C F S16384x4x1 .i32),
    .binary main_call10_v5 main_call10_v9 main_call10_v10 ((cmpi .sle) : C F S16384x4x1 .i32 → C F S16384x4x1 .i32 → C F S16384x4x1 .i1),
    .binary main_call10_v7 main_call10_v10 main_call10_v11 (andi : C F S16384x4x1 .i1 → C F S16384x4x1 .i1 → C F S16384x4x1 .i1),
    .nullary main_call10_c_3 ((constantI S_ 1 1#1) : C F S_ .i1),
    .binary main_call10_v11 main_call10_c_3 main_call10_v12 ((fun x v => Host.reduce IntOp.andi x v reducesTo_S16384x4x1_S16384x4_d2 h_S_) : C F S16384x4x1 .i1 → C F S_ .i1 → C F S16384x4 .i1),
    .binary main_arg17 main_call10_v5 main_call10_v13 ((fun x i => Host.gather gather_S256x256_S16384x4x1_S16384x4x256_2_0_n_n_0_2_1256 x i) : C F S256x256 .f32 → C F S16384x4x1 .i32 → C F S16384x4x256 .f32),
    .unary main_call10_v12 main_call10_v14 ((broadcastInDim S16384x4x256 ![0, 1] bcast_S16384x4_S16384x4x256_0_1) : C F S16384x4 .i1 → C F S16384x4x256 .i1),
    .nullary main_call10_cst ((constant S_ .f32 0x7FC00000#32) : C F S_ .f32),
    .unary main_call10_cst main_call10_v15 ((broadcastInDim S16384x4x256 ![] bcast_S_S16384x4x256) : C F S_ .f32 → C F S16384x4x256 .f32),
    .ternary main_call10_v14 main_call10_v13 main_call10_v15 main_v83 (select : C F S16384x4x256 .i1 → C F S16384x4x256 .f32 → C F S16384x4x256 .f32 → C F S16384x4x256 .f32),
    .unary main_v26 main_v84 (broadcastInDim S16384x1x256 ![0, 2] bcast_S16384x256_S16384x1x256_0_2 : C F S16384x256 .f32 → C F S16384x1x256 .f32),
    .unary main_v84 main_v85 (broadcastInDim S16384x4x256 ![0, 1, 2] bcast_S16384x1x256_S16384x4x256_0_1_2 : C F S16384x1x256 .f32 → C F S16384x4x256 .f32),
    .binary main_v85 main_v83 main_v86 (subf : C F S16384x4x256 .f32 → C F S16384x4x256 .f32 → C F S16384x4x256 .f32),
    .binary main_v86 main_v86 main_v87 (mulf : C F S16384x4x256 .f32 → C F S16384x4x256 .f32 → C F S16384x4x256 .f32),
    .nullary main_cst_26 (constant S_ .f32 0x00000000#32),
    .binary main_v87 main_cst_26 main_v88 ((fun x v => Host.reduceAdd x v reducesTo_S16384x4x256_S_d0_1_2 h_S_) : C F S16384x4x256 .f32 → C F S_ .f32 → C F S_ .f32),
    .nullary main_cst_27 (constant S_ .f32 0x4B800000#32),
    .binary main_v88 main_cst_27 main_v89 (Host.divf : C F S_ .f32 → C F S_ .f32 → C F S_ .f32) ]

/-- The operations of the program's part 2, in order. -/
def steps2 : List (Step τ sig (Elt F)) :=
  [ .unary main_arg9 main_v90 ((transpose S256x100 [1, 0] · transposes_S100x256_S256x100_1_0) : C F S100x256 .f32 → C F S256x100 .f32),
    .binary main_v26 main_v90 main_v91 ((fun l r => Host.dotGeneral dot_S16384x256_S256x100_S16384x100_1_0_0_1_n_n none l r) : C F S16384x256 .f32 → C F S256x100 .f32 → C F S16384x100 .f32),
    .unary main_arg10 main_v92 (broadcastInDim S1x100 ![1] bcast_S100_S1x100_1 : C F S100 .f32 → C F S1x100 .f32),
    .unary main_v92 main_v93 (broadcastInDim S16384x100 ![0, 1] bcast_S1x100_S16384x100_0_1 : C F S1x100 .f32 → C F S16384x100 .f32),
    .binary main_v91 main_v93 main_v94 (addf : C F S16384x100 .f32 → C F S16384x100 .f32 → C F S16384x100 .f32),
    .nullary main_cst_28 (constant S_ .f32 0x3C23D70A#32),
    .nullary main_call11_cst ((constant S_ .f32 0x00000000#32) : C F S_ .f32),
    .unary main_call11_cst main_call11_v0 ((broadcastInDim S16384x100 ![] bcast_S_S16384x100) : C F S_ .f32 → C F S16384x100 .f32),
    .binary main_v94 main_call11_v0 main_call11_v1 ((cmpf .oge) : C F S16384x100 .f32 → C F S16384x100 .f32 → C F S16384x100 .i1),
    .unary main_cst_28 main_call11_v2 (id : C F S_ .f32 → C F S_ .f32),
    .unary main_call11_v2 main_call11_v3 ((broadcastInDim S16384x100 ![] bcast_S_S16384x100) : C F S_ .f32 → C F S16384x100 .f32),
    .binary main_call11_v3 main_v94 main_call11_v4 (mulf : C F S16384x100 .f32 → C F S16384x100 .f32 → C F S16384x100 .f32),
    .ternary main_call11_v1 main_v94 main_call11_v4 main_v95 (select : C F S16384x100 .i1 → C F S16384x100 .f32 → C F S16384x100 .f32 → C F S16384x100 .f32),
    .unary main_arg11 main_v96 ((transpose S100x60 [1, 0] · transposes_S60x100_S100x60_1_0) : C F S60x100 .f32 → C F S100x60 .f32),
    .binary main_v95 main_v96 main_v97 ((fun l r => Host.dotGeneral dot_S16384x100_S100x60_S16384x60_1_0_0_1_n_n none l r) : C F S16384x100 .f32 → C F S100x60 .f32 → C F S16384x60 .f32),
    .unary main_arg12 main_v98 (broadcastInDim S1x60 ![1] bcast_S60_S1x60_1 : C F S60 .f32 → C F S1x60 .f32),
    .unary main_v98 main_v99 (broadcastInDim S16384x60 ![0, 1] bcast_S1x60_S16384x60_0_1 : C F S1x60 .f32 → C F S16384x60 .f32),
    .binary main_v97 main_v99 main_v100 (addf : C F S16384x60 .f32 → C F S16384x60 .f32 → C F S16384x60 .f32),
    .nullary main_cst_29 (constant S_ .f32 0x3C23D70A#32),
    .nullary main_call12_cst ((constant S_ .f32 0x00000000#32) : C F S_ .f32),
    .unary main_call12_cst main_call12_v0 ((broadcastInDim S16384x60 ![] bcast_S_S16384x60) : C F S_ .f32 → C F S16384x60 .f32),
    .binary main_v100 main_call12_v0 main_call12_v1 ((cmpf .oge) : C F S16384x60 .f32 → C F S16384x60 .f32 → C F S16384x60 .i1),
    .unary main_cst_29 main_call12_v2 (id : C F S_ .f32 → C F S_ .f32),
    .unary main_call12_v2 main_call12_v3 ((broadcastInDim S16384x60 ![] bcast_S_S16384x60) : C F S_ .f32 → C F S16384x60 .f32),
    .binary main_call12_v3 main_v100 main_call12_v4 (mulf : C F S16384x60 .f32 → C F S16384x60 .f32 → C F S16384x60 .f32),
    .ternary main_call12_v1 main_v100 main_call12_v4 main_v101 (select : C F S16384x60 .i1 → C F S16384x60 .f32 → C F S16384x60 .f32 → C F S16384x60 .f32),
    .unary main_arg13 main_v102 ((transpose S60x30 [1, 0] · transposes_S30x60_S60x30_1_0) : C F S30x60 .f32 → C F S60x30 .f32),
    .binary main_v101 main_v102 main_v103 ((fun l r => Host.dotGeneral dot_S16384x60_S60x30_S16384x30_1_0_0_1_n_n none l r) : C F S16384x60 .f32 → C F S60x30 .f32 → C F S16384x30 .f32),
    .unary main_arg14 main_v104 (broadcastInDim S1x30 ![1] bcast_S30_S1x30_1 : C F S30 .f32 → C F S1x30 .f32),
    .unary main_v104 main_v105 (broadcastInDim S16384x30 ![0, 1] bcast_S1x30_S16384x30_0_1 : C F S1x30 .f32 → C F S16384x30 .f32),
    .binary main_v103 main_v105 main_v106 (addf : C F S16384x30 .f32 → C F S16384x30 .f32 → C F S16384x30 .f32),
    .nullary main_cst_30 (constant S_ .f32 0x3C23D70A#32),
    .nullary main_call13_cst ((constant S_ .f32 0x00000000#32) : C F S_ .f32),
    .unary main_call13_cst main_call13_v0 ((broadcastInDim S16384x30 ![] bcast_S_S16384x30) : C F S_ .f32 → C F S16384x30 .f32),
    .binary main_v106 main_call13_v0 main_call13_v1 ((cmpf .oge) : C F S16384x30 .f32 → C F S16384x30 .f32 → C F S16384x30 .i1),
    .unary main_cst_30 main_call13_v2 (id : C F S_ .f32 → C F S_ .f32),
    .unary main_call13_v2 main_call13_v3 ((broadcastInDim S16384x30 ![] bcast_S_S16384x30) : C F S_ .f32 → C F S16384x30 .f32),
    .binary main_call13_v3 main_v106 main_call13_v4 (mulf : C F S16384x30 .f32 → C F S16384x30 .f32 → C F S16384x30 .f32),
    .ternary main_call13_v1 main_v106 main_call13_v4 main_v107 (select : C F S16384x30 .i1 → C F S16384x30 .f32 → C F S16384x30 .f32 → C F S16384x30 .f32),
    .unary main_arg15 main_v108 ((transpose S30x1 [1, 0] · transposes_S1x30_S30x1_1_0) : C F S1x30 .f32 → C F S30x1 .f32),
    .binary main_v107 main_v108 main_v109 ((fun l r => Host.dotGeneral dot_S16384x30_S30x1_S16384x1_1_0_0_1_n_n none l r) : C F S16384x30 .f32 → C F S30x1 .f32 → C F S16384x1 .f32),
    .unary main_arg16 main_v110 (broadcastInDim S1x1 ![1] bcast_S1_S1x1_1 : C F S1 .f32 → C F S1x1 .f32),
    .unary main_v110 main_v111 (broadcastInDim S16384x1 ![0, 1] bcast_S1x1_S16384x1_0_1 : C F S1x1 .f32 → C F S16384x1 .f32),
    .binary main_v109 main_v111 main_v112 (addf : C F S16384x1 .f32 → C F S16384x1 .f32 → C F S16384x1 .f32),
    .nullary main_cst_31 (constant S_ .f32 0x3C23D70A#32),
    .nullary main_call14_cst ((constant S_ .f32 0x00000000#32) : C F S_ .f32),
    .unary main_call14_cst main_call14_v0 ((broadcastInDim S16384x1 ![] bcast_S_S16384x1) : C F S_ .f32 → C F S16384x1 .f32),
    .binary main_v112 main_call14_v0 main_call14_v1 ((cmpf .oge) : C F S16384x1 .f32 → C F S16384x1 .f32 → C F S16384x1 .i1),
    .unary main_cst_31 main_call14_v2 (id : C F S_ .f32 → C F S_ .f32),
    .unary main_call14_v2 main_call14_v3 ((broadcastInDim S16384x1 ![] bcast_S_S16384x1) : C F S_ .f32 → C F S16384x1 .f32),
    .binary main_call14_v3 main_v112 main_call14_v4 (mulf : C F S16384x1 .f32 → C F S16384x1 .f32 → C F S16384x1 .f32),
    .ternary main_call14_v1 main_v112 main_call14_v4 main_v113 (select : C F S16384x1 .i1 → C F S16384x1 .f32 → C F S16384x1 .f32 → C F S16384x1 .f32),
    .unary main_arg9 main_v114 ((transpose S256x100 [1, 0] · transposes_S100x256_S256x100_1_0) : C F S100x256 .f32 → C F S256x100 .f32),
    .binary main_v42 main_v114 main_v115 ((fun l r => Host.dotGeneral dot_S16384x256_S256x100_S16384x100_1_0_0_1_n_n none l r) : C F S16384x256 .f32 → C F S256x100 .f32 → C F S16384x100 .f32),
    .unary main_arg10 main_v116 (broadcastInDim S1x100 ![1] bcast_S100_S1x100_1 : C F S100 .f32 → C F S1x100 .f32),
    .unary main_v116 main_v117 (broadcastInDim S16384x100 ![0, 1] bcast_S1x100_S16384x100_0_1 : C F S1x100 .f32 → C F S16384x100 .f32),
    .binary main_v115 main_v117 main_v118 (addf : C F S16384x100 .f32 → C F S16384x100 .f32 → C F S16384x100 .f32),
    .nullary main_cst_32 (constant S_ .f32 0x3C23D70A#32),
    .nullary main_call15_cst ((constant S_ .f32 0x00000000#32) : C F S_ .f32),
    .unary main_call15_cst main_call15_v0 ((broadcastInDim S16384x100 ![] bcast_S_S16384x100) : C F S_ .f32 → C F S16384x100 .f32),
    .binary main_v118 main_call15_v0 main_call15_v1 ((cmpf .oge) : C F S16384x100 .f32 → C F S16384x100 .f32 → C F S16384x100 .i1),
    .unary main_cst_32 main_call15_v2 (id : C F S_ .f32 → C F S_ .f32),
    .unary main_call15_v2 main_call15_v3 ((broadcastInDim S16384x100 ![] bcast_S_S16384x100) : C F S_ .f32 → C F S16384x100 .f32),
    .binary main_call15_v3 main_v118 main_call15_v4 (mulf : C F S16384x100 .f32 → C F S16384x100 .f32 → C F S16384x100 .f32),
    .ternary main_call15_v1 main_v118 main_call15_v4 main_v119 (select : C F S16384x100 .i1 → C F S16384x100 .f32 → C F S16384x100 .f32 → C F S16384x100 .f32),
    .unary main_arg11 main_v120 ((transpose S100x60 [1, 0] · transposes_S60x100_S100x60_1_0) : C F S60x100 .f32 → C F S100x60 .f32),
    .binary main_v119 main_v120 main_v121 ((fun l r => Host.dotGeneral dot_S16384x100_S100x60_S16384x60_1_0_0_1_n_n none l r) : C F S16384x100 .f32 → C F S100x60 .f32 → C F S16384x60 .f32),
    .unary main_arg12 main_v122 (broadcastInDim S1x60 ![1] bcast_S60_S1x60_1 : C F S60 .f32 → C F S1x60 .f32),
    .unary main_v122 main_v123 (broadcastInDim S16384x60 ![0, 1] bcast_S1x60_S16384x60_0_1 : C F S1x60 .f32 → C F S16384x60 .f32),
    .binary main_v121 main_v123 main_v124 (addf : C F S16384x60 .f32 → C F S16384x60 .f32 → C F S16384x60 .f32),
    .nullary main_cst_33 (constant S_ .f32 0x3C23D70A#32),
    .nullary main_call16_cst ((constant S_ .f32 0x00000000#32) : C F S_ .f32),
    .unary main_call16_cst main_call16_v0 ((broadcastInDim S16384x60 ![] bcast_S_S16384x60) : C F S_ .f32 → C F S16384x60 .f32),
    .binary main_v124 main_call16_v0 main_call16_v1 ((cmpf .oge) : C F S16384x60 .f32 → C F S16384x60 .f32 → C F S16384x60 .i1),
    .unary main_cst_33 main_call16_v2 (id : C F S_ .f32 → C F S_ .f32),
    .unary main_call16_v2 main_call16_v3 ((broadcastInDim S16384x60 ![] bcast_S_S16384x60) : C F S_ .f32 → C F S16384x60 .f32),
    .binary main_call16_v3 main_v124 main_call16_v4 (mulf : C F S16384x60 .f32 → C F S16384x60 .f32 → C F S16384x60 .f32),
    .ternary main_call16_v1 main_v124 main_call16_v4 main_v125 (select : C F S16384x60 .i1 → C F S16384x60 .f32 → C F S16384x60 .f32 → C F S16384x60 .f32),
    .unary main_arg13 main_v126 ((transpose S60x30 [1, 0] · transposes_S30x60_S60x30_1_0) : C F S30x60 .f32 → C F S60x30 .f32),
    .binary main_v125 main_v126 main_v127 ((fun l r => Host.dotGeneral dot_S16384x60_S60x30_S16384x30_1_0_0_1_n_n none l r) : C F S16384x60 .f32 → C F S60x30 .f32 → C F S16384x30 .f32),
    .unary main_arg14 main_v128 (broadcastInDim S1x30 ![1] bcast_S30_S1x30_1 : C F S30 .f32 → C F S1x30 .f32),
    .unary main_v128 main_v129 (broadcastInDim S16384x30 ![0, 1] bcast_S1x30_S16384x30_0_1 : C F S1x30 .f32 → C F S16384x30 .f32),
    .binary main_v127 main_v129 main_v130 (addf : C F S16384x30 .f32 → C F S16384x30 .f32 → C F S16384x30 .f32),
    .nullary main_cst_34 (constant S_ .f32 0x3C23D70A#32),
    .nullary main_call17_cst ((constant S_ .f32 0x00000000#32) : C F S_ .f32),
    .unary main_call17_cst main_call17_v0 ((broadcastInDim S16384x30 ![] bcast_S_S16384x30) : C F S_ .f32 → C F S16384x30 .f32),
    .binary main_v130 main_call17_v0 main_call17_v1 ((cmpf .oge) : C F S16384x30 .f32 → C F S16384x30 .f32 → C F S16384x30 .i1),
    .unary main_cst_34 main_call17_v2 (id : C F S_ .f32 → C F S_ .f32),
    .unary main_call17_v2 main_call17_v3 ((broadcastInDim S16384x30 ![] bcast_S_S16384x30) : C F S_ .f32 → C F S16384x30 .f32),
    .binary main_call17_v3 main_v130 main_call17_v4 (mulf : C F S16384x30 .f32 → C F S16384x30 .f32 → C F S16384x30 .f32),
    .ternary main_call17_v1 main_v130 main_call17_v4 main_v131 (select : C F S16384x30 .i1 → C F S16384x30 .f32 → C F S16384x30 .f32 → C F S16384x30 .f32),
    .unary main_arg15 main_v132 ((transpose S30x1 [1, 0] · transposes_S1x30_S30x1_1_0) : C F S1x30 .f32 → C F S30x1 .f32),
    .binary main_v131 main_v132 main_v133 ((fun l r => Host.dotGeneral dot_S16384x30_S30x1_S16384x1_1_0_0_1_n_n none l r) : C F S16384x30 .f32 → C F S30x1 .f32 → C F S16384x1 .f32),
    .unary main_arg16 main_v134 (broadcastInDim S1x1 ![1] bcast_S1_S1x1_1 : C F S1 .f32 → C F S1x1 .f32),
    .unary main_v134 main_v135 (broadcastInDim S16384x1 ![0, 1] bcast_S1x1_S16384x1_0_1 : C F S1x1 .f32 → C F S16384x1 .f32),
    .binary main_v133 main_v135 main_v136 (addf : C F S16384x1 .f32 → C F S16384x1 .f32 → C F S16384x1 .f32),
    .nullary main_cst_35 (constant S_ .f32 0x3C23D70A#32),
    .nullary main_call18_cst ((constant S_ .f32 0x00000000#32) : C F S_ .f32),
    .unary main_call18_cst main_call18_v0 ((broadcastInDim S16384x1 ![] bcast_S_S16384x1) : C F S_ .f32 → C F S16384x1 .f32),
    .binary main_v136 main_call18_v0 main_call18_v1 ((cmpf .oge) : C F S16384x1 .f32 → C F S16384x1 .f32 → C F S16384x1 .i1),
    .unary main_cst_35 main_call18_v2 (id : C F S_ .f32 → C F S_ .f32),
    .unary main_call18_v2 main_call18_v3 ((broadcastInDim S16384x1 ![] bcast_S_S16384x1) : C F S_ .f32 → C F S16384x1 .f32),
    .binary main_call18_v3 main_v136 main_call18_v4 (mulf : C F S16384x1 .f32 → C F S16384x1 .f32 → C F S16384x1 .f32),
    .ternary main_call18_v1 main_v136 main_call18_v4 main_v137 (select : C F S16384x1 .i1 → C F S16384x1 .f32 → C F S16384x1 .f32 → C F S16384x1 .f32),
    .reshape main_v51 main_v138 (rfl : (.f32 : EltTy) = .f32) shapeCasts_S_S1x1,
    .reshape main_v89 main_v139 (rfl : (.f32 : EltTy) = .f32) shapeCasts_S_S1x1 ]

/-- All the program's operations, in order. -/
def steps : List (Step τ sig (Elt F)) := steps0 ++ (steps1 ++ steps2)

set_option maxRecDepth 100000 in
set_option maxHeartbeats 4000000 in
theorem main_part0_eq (c : Dev nD) : main_part0 (F := F) c = seq (steps0.map Step.op) := rfl

set_option maxRecDepth 100000 in
set_option maxHeartbeats 4000000 in
theorem main_part1_eq (c : Dev nD) : main_part1 (F := F) c = seq (steps1.map Step.op) := rfl

set_option maxRecDepth 100000 in
set_option maxHeartbeats 4000000 in
theorem main_part2_eq (c : Dev nD) : main_part2 (F := F) c = seq (steps2.map Step.op) := rfl

set_option maxRecDepth 100000 in
theorem steps0_inOrder : inOrder 19 (steps0 (F := F)) = true := rfl

set_option maxRecDepth 100000 in
theorem steps1_inOrder : inOrder 117 (steps1 (F := F)) = true := rfl

set_option maxRecDepth 100000 in
theorem steps2_inOrder : inOrder 255 (steps2 (F := F)) = true := rfl

theorem main_eq (c : Dev nD) : main (F := F) c = seq (steps.map Step.op) := by
  rw [steps, List.map_append, List.map_append, seq_append, seq_append, ← main_part0_eq c, ← main_part1_eq c,
    ← main_part2_eq c]
  rfl

theorem steps_inOrder : inOrder 19 (steps (F := F)) = true :=
  inOrder_append _ _ _ steps0_inOrder (inOrder_append _ _ _ steps1_inOrder steps2_inOrder)

theorem scopedRefs_eq : (Finset.univ.filter fun b : Ref sig .tc => b.isScoped) = ∅ := by decide
theorem scopedSems_eq : (Finset.univ.filter fun sm : SemLoc sig => sm.isScoped .tc) = ∅ := by decide

/-- The memory the program leaves on device `c`. -/
def fin (m : (ℓ : Loc nD τ sig) → Buf (Elt F) ℓ) (c : Dev nD) : Valuation τ sig (Elt F) :=
  after (steps.map Step.op) (launchContents m c)

theorem run (m : (ℓ : Loc nD τ sig) → Buf (Elt F) ℓ) (ρ : Dev nD → PrngReg) :
    θ_run defs (onTc (τ := τ) main) ⟨m, fun _ => 0, ρ⟩ fun r =>
      ∀ (c : Dev nD) (b : Ref sig .tc), r.2.mem ((c.tc : Thread nD τ).loc b) = fin m c (Proc.devRef .tc b) :=
  run_seq scopedRefs_eq scopedSems_eq defs main (fun _ => steps.map Step.op) main_eq
    (fun _ => List.forall_iff_forall_mem.mpr fun op h => by
      obtain ⟨s, -, rfl⟩ := List.mem_map.mp h
      exact s.sub)
    m ρ fun _ op h => by
      obtain ⟨s, -, rfl⟩ := List.mem_map.mp h
      exact s.fresh

/-- A buffer numbered below the operations' own, an argument, is unchanged. -/
theorem fin_arg (m : (ℓ : Loc nD τ sig) → Buf (Elt F) ℓ) (c : Dev nD) (r : Ref sig .tc) (hr : r.idx.val < 19) :
    fin m c (Proc.devRef .tc r) = m ((c.tc : Thread nD τ).loc r) :=
  after_low steps_inOrder _ r hr

/-- Every operation's equation holds in the memory the program leaves. -/
theorem fin_holds (m : (ℓ : Loc nD τ sig) → Buf (Elt F) ℓ) (c : Dev nD) (s : Step τ sig (Elt F)) (hs : s ∈ steps) :
    s.holds (fin m c) := holds_after steps_inOrder _ s hs

theorem eq0 (m : (ℓ : Loc nD τ sig) → Buf (Elt F) ℓ) (c : Dev nD) (k : ℕ) (s : Step τ sig (Elt F))
    (h : steps0[k]? = some s) : s.holds (fin m c) :=
  fin_holds m c s (have h := List.mem_of_getElem? h; List.mem_append_left _ h)

theorem eq1 (m : (ℓ : Loc nD τ sig) → Buf (Elt F) ℓ) (c : Dev nD) (k : ℕ) (s : Step τ sig (Elt F))
    (h : steps1[k]? = some s) : s.holds (fin m c) :=
  fin_holds m c s (have h := List.mem_of_getElem? h; List.mem_append_right _ (List.mem_append_left _ h))

theorem eq2 (m : (ℓ : Loc nD τ sig) → Buf (Elt F) ℓ) (c : Dev nD) (k : ℕ) (s : Step τ sig (Elt F))
    (h : steps2[k]? = some s) : s.holds (fin m c) :=
  fin_holds m c s (have h := List.mem_of_getElem? h; List.mem_append_right _ (List.mem_append_right _ h))

end Cert.ReferenceIdeal.Hand

end
-- ==== Proof.RefValue.lean ====
/-
  What the reference computes, row by row, in terms of the model: the encoding, the distances, the first nearest row and
  the two decoded values.
-/
module

public import proofs.«01_k».proof.Proof.RefRun
public import proofs.«01_k».proof.Proof.Spec
public import Idealize.ShloMosaic.Lib.Routing.Ops

@[expose] public section

set_option maxRecDepth 16384

noncomputable section

namespace Cert.ReferenceIdeal.Hand

open Cert.ReferenceIdeal
open Idealize.ShloMosaic Idealize.ShloMosaic.Pointwise
open Cert.Steps
open Cert.Spec

variable (m : (ℓ : Loc nD τ sig) → Buf (Elt Ideal) ℓ) (c : Dev nD)

/-- The equation of operation `k` of the first part. -/
theorem at0 (k : ℕ) (s : Step τ sig (Elt Ideal)) (h : steps0[k]? = some s) :
    fin m c (Proc.devRef .tc s.dst) = s.val (fin m c) := eq0 m c k s h
/-- The equation of operation `k` of the second part. -/
theorem at1 (k : ℕ) (s : Step τ sig (Elt Ideal)) (h : steps1[k]? = some s) :
    fin m c (Proc.devRef .tc s.dst) = s.val (fin m c) := eq1 m c k s h
/-- The equation of operation `k` of the third part. -/
theorem at2 (k : ℕ) (s : Step τ sig (Elt Ideal)) (h : steps2[k]? = some s) :
    fin m c (Proc.devRef .tc s.dst) = s.val (fin m c) := eq2 m c k s h

/-- The model's parameters. -/
def par : Params :=
  ofArgs (fin m c (Proc.devRef .tc main_arg1)) (fin m c (Proc.devRef .tc main_arg2)) (fin m c (Proc.devRef .tc main_arg3))
    (fin m c (Proc.devRef .tc main_arg4)) (fin m c (Proc.devRef .tc main_arg5)) (fin m c (Proc.devRef .tc main_arg6))
    (fin m c (Proc.devRef .tc main_arg7)) (fin m c (Proc.devRef .tc main_arg8)) (fin m c (Proc.devRef .tc main_arg9))
    (fin m c (Proc.devRef .tc main_arg10)) (fin m c (Proc.devRef .tc main_arg11)) (fin m c (Proc.devRef .tc main_arg12))
    (fin m c (Proc.devRef .tc main_arg13)) (fin m c (Proc.devRef .tc main_arg14)) (fin m c (Proc.devRef .tc main_arg15))
    (fin m c (Proc.devRef .tc main_arg16)) (fin m c (Proc.devRef .tc main_arg17))

/-- Row `r` of the encoding. -/
def zeRow (r : Fin 16384) : Fin 256 → EReal :=
  ze (par m c) (row (fin m c (Proc.devRef .tc main_arg0)) r 0) (row (fin m c (Proc.devRef .tc main_arg18)) r)

/-- The row nearest to row `r`. -/
def near (r : Fin 16384) : Fin 256 := firstMin (dist (par m c) (zeRow m c r))

/-! ## The encoder -/

theorem v5_row (r : Fin 16384) : row (fin m c (Proc.devRef .tc main_v5)) r
    = enc0 (par m c) (row (fin m c (Proc.devRef .tc main_arg0)) r 0) := by
  funext j
  simp only [row, at0 m c 0 _ rfl, at0 m c 1 _ rfl, at0 m c 2 _ rfl, at0 m c 3 _ rfl, at0 m c 4 _ rfl, at0 m c 5 _ rfl,
    at0 m c 6 _ rfl, at0 m c 7 _ rfl, at0 m c 8 _ rfl, at0 m c 9 _ rfl, at0 m c 10 _ rfl, at0 m c 11 _ rfl, at0 m c 12 _ rfl]
  pointwise [id]
  rw [Fin.sum_univ_one]
  exact lrelu_eq_ite _

theorem v11_row (r : Fin 16384) : row (fin m c (Proc.devRef .tc main_v11)) r
    = enc1 (par m c) (row (fin m c (Proc.devRef .tc main_arg0)) r 0) := by
  rw [enc1, ← v5_row]
  funext j
  simp only [row, at0 m c 13 _ rfl, at0 m c 14 _ rfl, at0 m c 15 _ rfl, at0 m c 16 _ rfl, at0 m c 17 _ rfl, at0 m c 18 _ rfl,
    at0 m c 19 _ rfl, at0 m c 20 _ rfl, at0 m c 21 _ rfl, at0 m c 22 _ rfl, at0 m c 23 _ rfl, at0 m c 24 _ rfl, at0 m c 25 _ rfl]
  pointwise [id]
  exact lrelu_eq_ite _

theorem v26_row (r : Fin 16384) : row (fin m c (Proc.devRef .tc main_v26)) r = zeRow m c r := by
  funext j
  rw [zeRow, ze, ← v11_row]
  simp only [row, at0 m c 26 _ rfl, at0 m c 27 _ rfl, at0 m c 28 _ rfl, at0 m c 29 _ rfl, at0 m c 30 _ rfl, at0 m c 31 _ rfl,
    at0 m c 32 _ rfl, at0 m c 33 _ rfl, at0 m c 34 _ rfl, at0 m c 35 _ rfl, at0 m c 36 _ rfl, at0 m c 37 _ rfl, at0 m c 38 _ rfl,
    at0 m c 39 _ rfl, at0 m c 40 _ rfl, at0 m c 41 _ rfl]
  pointwise []
  rfl

/-! ## The nearest row -/

theorem v40_row (r : Fin 16384) : row (fin m c (Proc.devRef .tc main_v40)) r = dist (par m c) (zeRow m c r) := by
  rw [← v26_row]
  funext k
  simp only [row, at0 m c 42 _ rfl, at0 m c 43 _ rfl, at0 m c 44 _ rfl, at0 m c 45 _ rfl, at0 m c 46 _ rfl, at0 m c 47 _ rfl,
    at0 m c 48 _ rfl, at0 m c 49 _ rfl, at0 m c 50 _ rfl, at0 m c 51 _ rfl, at0 m c 52 _ rfl, at0 m c 53 _ rfl, at0 m c 54 _ rfl,
    at0 m c 55 _ rfl, at0 m c 56 _ rfl, at0 m c 57 _ rfl, at0 m c 58 _ rfl]
  pointwise []
  rfl

end Cert.ReferenceIdeal.Hand
-- ==== Proof.RefNear.lean ====
/-
  The reference's arg-min and row gather: the nearest row of the table, for every row of the encoding.
-/
module

public import proofs.«01_k».proof.Proof.RefValue

@[expose] public section

set_option maxRecDepth 16384

noncomputable section

namespace Cert.ReferenceIdeal.Hand

open Cert.ReferenceIdeal
open Idealize.ShloMosaic Idealize.ShloMosaic.Pointwise
open Cert.Steps
open Cert.Spec

/-- The printed reducer keeps the pair that comes first. -/
theorem reducer_before (a b : EReal × BitVec 32) :
    (reducer_argmin_f32_i32 (F := Ideal) a b = a ∨ reducer_argmin_f32_i32 (F := Ideal) a b = b)
      ∧ Before (reducer_argmin_f32_i32 (F := Ideal) a b) a ∧ Before (reducer_argmin_f32_i32 (F := Ideal) a b) b := by
  obtain ⟨a1, a2⟩ := a
  obtain ⟨b1, b2⟩ := b
  have hlt : (FloatOps.cmpf (F := Ideal) (φ := .f32) .olt a1 b1 : BitVec 1) = BitVec.ofBool (decide (a1 < b1)) := rfl
  have hne : (FloatOps.cmpf (F := Ideal) (φ := .f32) .une a1 a1 : BitVec 1) = 0#1 := by simp [Ideal.cmpf_def, Ideal.cmp]
  have heq : (FloatOps.cmpf (F := Ideal) (φ := .f32) .oeq a1 b1 : BitVec 1) = BitVec.ofBool (decide (a1 = b1)) := rfl
  have hs : IntOp.cmpi .slt a2 b2 = BitVec.ofBool (decide (a2.toInt < b2.toInt)) := rfl
  unfold reducer_argmin_f32_i32
  dsimp only
  rw [hlt, hne, heq, hs]
  have hor : ∀ b : BitVec 1, 1#1 ||| b = 1#1 := by decide
  rcases lt_trichotomy a1 b1 with h | h | h
  · simp [h, h.ne, hor, IntOp.ori, IntOp.andi, Scalar.select, Before]
  · subst h
    by_cases h2 : a2.toInt < b2.toInt
    · simp [h2, IntOp.ori, IntOp.andi, Scalar.select, Before]; omega
    · simp [h2, IntOp.ori, IntOp.andi, Scalar.select, Before]; omega
  · simp [h, h.not_gt, h.ne', IntOp.ori, IntOp.andi, Scalar.select, Before]

/-- The printed arg-min of a row is its first least position. -/
theorem argmin_row (x : Vec Ideal S16384x256 .f32) (h : S16384x256.ReducesTo [1] S16384) (hu : 0 < S_.numel) (r : Fin 16384) :
    (Host.argReduce (reducer_argmin_f32_i32 (F := Ideal)) x (iotaInDim S16384x256 32 1) (constant S_ .f32 0x7F800000#32)
      (constantI S_ 32 0#32) h hu (ix1 r)).2 = BitVec.ofNat 32 (firstMin (row x r)).val := by
  rw [Ideal.argReduce_eq_reduce2, Host.reduce2_eq_foldl_fiber]
  have hfib : ∀ p : EReal × BitVec 32, p ∈ Host.argReduceFiber (α := EReal) x (iotaInDim S16384x256 32 1) h (ix1 r)
      ↔ ∃ k : Fin 256, p = (row x r k, BitVec.ofNat 32 k.val) := by
    intro p
    unfold Host.argReduceFiber
    simp only [List.mem_map, List.mem_filter, List.mem_finRange, true_and, decide_eq_true_eq]
    constructor
    · rintro ⟨n, hn, rfl⟩
      obtain ⟨k, hk⟩ := (h.fiber_r2_a1 _ _).mp hn
      exact ⟨k, by rw [← hk]; rfl⟩
    · rintro ⟨k, rfl⟩
      refine ⟨S16384x256.rowMajor (ix2 r k), (h.fiber_r2_a1 _ _).mpr ⟨k, ?_⟩, ?_⟩
      · rw [Equiv.symm_apply_apply]; rfl
      · rw [Equiv.symm_apply_apply]; rfl
  obtain ⟨h1, h2, h3⟩ := foldl_before _ reducer_before (Host.argReduceFiber (α := EReal) x (iotaInDim S16384x256 32 1) h (ix1 r))
    (⊤, 0#32)
  have hinit : ((constant (F := Ideal) S_ .f32 0x7F800000#32 (Shape.Idx.first hu) : EReal), constantI S_ 32 0#32 (Shape.Idx.first hu))
      = ((⊤ : EReal), 0#32) := by
    rw [← ofBits_inf]; rfl
  refine firstMin_of_before _ _ ?_ fun k => ?_
  · erw [hinit]
    rcases h1 with h1 | h1
    · exact Or.inl h1
    · exact Or.inr ((hfib _).mp h1)
  · erw [hinit]
    exact h3 _ ((hfib _).mpr ⟨k, rfl⟩)

attribute [local irreducible] fin

variable (m : (ℓ : Loc nD τ sig) → Buf (Elt Ideal) ℓ) (c : Dev nD)

/-- The indices the reference takes along. -/
theorem v41_eq : fin m c (Proc.devRef .tc main_v41) = (fun i => (Host.argReduce (reducer_argmin_f32_i32 (F := Ideal))
    (fin m c (Proc.devRef .tc main_v40)) (iotaInDim S16384x256 32 1) (constant S_ .f32 0x7F800000#32) (constantI S_ 32 0#32)
    Gen.reducesTo_S16384x256_S16384_d1 Gen.h_S_ i).2) := by
  simp only [at0 m c 59 _ rfl, at0 m c 60 _ rfl, at0 m c 61 _ rfl, at0 m c 63 _ rfl]

theorem v41_row (r : Fin 16384) :
    (fin m c (Proc.devRef .tc main_v41) : IVec S16384 32) (ix1 r) = BitVec.ofNat 32 (near m c r).val := by
  have h := v40_row m c r
  have h' := v41_eq m c
  rw [near]
  generalize fin m c (Proc.devRef .tc main_v41) = k at *
  generalize fin m c (Proc.devRef .tc main_v40) = d at *
  subst h'
  rw [← h]
  exact argmin_row _ _ _ r

/-! ## The gather -/

/-- A row number passes the reference's wrap of negative indices unchanged. -/
theorem wrap_row (k : Fin 256) : Scalar.select (IntOp.cmpi .slt (BitVec.ofNat 32 k.val) 0#32)
    (IntOp.addi (BitVec.ofNat 32 k.val) 256#32) (BitVec.ofNat 32 k.val) = BitVec.ofNat 32 k.val := by
  have h : IntOp.cmpi .slt (BitVec.ofNat 32 k.val) 0#32 = BitVec.ofBool (decide ((BitVec.ofNat 32 k.val).toInt < 0)) := rfl
  rw [h, toInt_ofNat, decide_eq_false (by omega)]
  rfl
/-- A row number is inside the table. -/
theorem inside_row (k : Fin 256) : IntOp.andi (IntOp.cmpi .sge (BitVec.ofNat 32 k.val) 0#32)
    (IntOp.cmpi .sle (BitVec.ofNat 32 k.val) 255#32) = 1#1 := by
  have h : IntOp.cmpi .sge (BitVec.ofNat 32 k.val) 0#32 = BitVec.ofBool (decide (0 ≤ (BitVec.ofNat 32 k.val).toInt)) := rfl
  have h' : IntOp.cmpi .sle (BitVec.ofNat 32 k.val) 255#32 = BitVec.ofBool (decide ((BitVec.ofNat 32 k.val).toInt ≤ 255)) := rfl
  have := k.isLt
  rw [h, h', toInt_ofNat, decide_eq_true (by omega), decide_eq_true (by omega)]
  rfl

/-- The row of the table gathered for row `r` is the nearest one. -/
theorem v42_row (r : Fin 16384) : row (fin m c (Proc.devRef .tc main_v42)) r = (par m c).emb (near m c r) := by
  have hk := v41_row m c r
  funext j
  simp only [row, at0 m c 64 _ rfl, at0 m c 65 _ rfl, at0 m c 66 _ rfl, at0 m c 67 _ rfl, at0 m c 68 _ rfl, at0 m c 69 _ rfl,
    at0 m c 70 _ rfl, at0 m c 71 _ rfl, at0 m c 72 _ rfl, at0 m c 73 _ rfl, at0 m c 74 _ rfl, at0 m c 75 _ rfl, at0 m c 76 _ rfl,
    at0 m c 77 _ rfl, at0 m c 78 _ rfl, at0 m c 79 _ rfl, at0 m c 80 _ rfl, at0 m c 81 _ rfl, at0 m c 82 _ rfl, at0 m c 83 _ rfl,
    at0 m c 84 _ rfl, at0 m c 85 _ rfl, at0 m c 86 _ rfl]
  pointwise []
  generalize fin m c (Proc.devRef .tc main_v41) = k at *
  have hg := Routing.gather_row gather_S256x256_S16384x1_S16384x256_1_0_n_n_0_1_1256 rfl rfl rfl rfl rfl
    (fin m c (Proc.devRef .tc main_arg17))
    (broadcastInDim S16384x1 ![0] Gen.bcast_S16384_S16384x1_0
      (select (cmpi .slt k (broadcastInDim S16384 ![] Gen.bcast_S_S16384 (constantI S_ 32 0#32)))
        (addi k (broadcastInDim S16384 ![] Gen.bcast_S_S16384 (constantI S_ 32 256#32))) k))
    r j (near m c r) (by pointwise []; rw [hk]; exact wrap_row _) (by decide)
  rw [hk, wrap_row, inside_row]
  rw [show (Finset.univ : Finset (Fin 1)).fold IntOp.andi (1#1) (fun _ => 1#1) = 1#1 from rfl]
  exact hg

end Cert.ReferenceIdeal.Hand
-- ==== Proof.RefDecode.lean ====
/-
  The reference's two decoders, row by row: the decoded encoding and the decoded nearest row.
-/
module

public import proofs.«01_k».proof.Proof.RefValue

@[expose] public section

set_option maxRecDepth 16384

noncomputable section

namespace Cert.ReferenceIdeal.Hand

open Cert.ReferenceIdeal
open Idealize.ShloMosaic Idealize.ShloMosaic.Pointwise
open Cert.Steps
open Cert.Spec

attribute [local irreducible] fin

variable (m : (ℓ : Loc nD τ sig) → Buf (Elt Ideal) ℓ) (c : Dev nD)

/-! ## The decoded encoding -/

theorem v95_layer (r : Fin 16384) : row (fin m c (Proc.devRef .tc main_v95)) r
    = layer (par m c).d0 (par m c).c0 (row (fin m c (Proc.devRef .tc main_v26)) r) := by
  funext j
  simp only [row, at2 m c 0 _ rfl, at2 m c 1 _ rfl, at2 m c 2 _ rfl, at2 m c 3 _ rfl, at2 m c 4 _ rfl, at2 m c 5 _ rfl, at2 m c
    6 _ rfl, at2 m c 7 _ rfl, at2 m c 8 _ rfl, at2 m c 9 _ rfl, at2 m c 10 _ rfl, at2 m c 11 _ rfl, at2 m c 12 _ rfl]
  pointwise [id]
  exact lrelu_eq_ite _

theorem v101_layer (r : Fin 16384) : row (fin m c (Proc.devRef .tc main_v101)) r
    = layer (par m c).d1 (par m c).c1 (row (fin m c (Proc.devRef .tc main_v95)) r) := by
  funext j
  simp only [row, at2 m c 13 _ rfl, at2 m c 14 _ rfl, at2 m c 15 _ rfl, at2 m c 16 _ rfl, at2 m c 17 _ rfl, at2 m c 18 _ rfl,
    at2 m c 19 _ rfl, at2 m c 20 _ rfl, at2 m c 21 _ rfl, at2 m c 22 _ rfl, at2 m c 23 _ rfl, at2 m c 24 _ rfl, at2 m c 25 _ rfl]
  pointwise [id]
  exact lrelu_eq_ite _

theorem v107_layer (r : Fin 16384) : row (fin m c (Proc.devRef .tc main_v107)) r
    = layer (par m c).d2 (par m c).c2 (row (fin m c (Proc.devRef .tc main_v101)) r) := by
  funext j
  simp only [row, at2 m c 26 _ rfl, at2 m c 27 _ rfl, at2 m c 28 _ rfl, at2 m c 29 _ rfl, at2 m c 30 _ rfl, at2 m c 31 _ rfl,
    at2 m c 32 _ rfl, at2 m c 33 _ rfl, at2 m c 34 _ rfl, at2 m c 35 _ rfl, at2 m c 36 _ rfl, at2 m c 37 _ rfl, at2 m c 38 _ rfl]
  pointwise [id]
  exact lrelu_eq_ite _

theorem v113_layer (r : Fin 16384) : row (fin m c (Proc.devRef .tc main_v113)) r
    = layer (par m c).d3 (par m c).c3 (row (fin m c (Proc.devRef .tc main_v107)) r) := by
  funext j
  obtain rfl : j = 0 := Subsingleton.elim _ _
  simp only [row, at2 m c 39 _ rfl, at2 m c 40 _ rfl, at2 m c 41 _ rfl, at2 m c 42 _ rfl, at2 m c 43 _ rfl, at2 m c 44 _ rfl,
    at2 m c 45 _ rfl, at2 m c 46 _ rfl, at2 m c 47 _ rfl, at2 m c 48 _ rfl, at2 m c 49 _ rfl, at2 m c 50 _ rfl, at2 m c 51 _ rfl]
  pointwise [id]
  exact lrelu_eq_ite _

theorem v113_row (r : Fin 16384) : row (fin m c (Proc.devRef .tc main_v113)) r 0 = dec (par m c) (zeRow m c r) := by
  have h1 := v26_row m c r
  have h2 := v95_layer m c r
  have h3 := v101_layer m c r
  have h4 := v107_layer m c r
  have h5 := v113_layer m c r
  generalize row (fin m c (Proc.devRef .tc main_v113)) r = z5 at *
  generalize row (fin m c (Proc.devRef .tc main_v107)) r = z4 at *
  generalize row (fin m c (Proc.devRef .tc main_v101)) r = z3 at *
  generalize row (fin m c (Proc.devRef .tc main_v95)) r = z2 at *
  generalize row (fin m c (Proc.devRef .tc main_v26)) r = z1 at *
  subst h5 h4 h3 h2 h1
  exact (dec.eq_1 _ _).symm

/-! ## The decoded nearest row -/

theorem v119_layer (r : Fin 16384) : row (fin m c (Proc.devRef .tc main_v119)) r
    = layer (par m c).d0 (par m c).c0 (row (fin m c (Proc.devRef .tc main_v42)) r) := by
  funext j
  simp only [row, at2 m c 52 _ rfl, at2 m c 53 _ rfl, at2 m c 54 _ rfl, at2 m c 55 _ rfl, at2 m c 56 _ rfl, at2 m c 57 _ rfl,
    at2 m c 58 _ rfl, at2 m c 59 _ rfl, at2 m c 60 _ rfl, at2 m c 61 _ rfl, at2 m c 62 _ rfl, at2 m c 63 _ rfl, at2 m c 64 _ rfl]
  pointwise [id]
  exact lrelu_eq_ite _

theorem v125_layer (r : Fin 16384) : row (fin m c (Proc.devRef .tc main_v125)) r
    = layer (par m c).d1 (par m c).c1 (row (fin m c (Proc.devRef .tc main_v119)) r) := by
  funext j
  simp only [row, at2 m c 65 _ rfl, at2 m c 66 _ rfl, at2 m c 67 _ rfl, at2 m c 68 _ rfl, at2 m c 69 _ rfl, at2 m c 70 _ rfl,
    at2 m c 71 _ rfl, at2 m c 72 _ rfl, at2 m c 73 _ rfl, at2 m c 74 _ rfl, at2 m c 75 _ rfl, at2 m c 76 _ rfl, at2 m c 77 _ rfl]
  pointwise [id]
  exact lrelu_eq_ite _

theorem v131_layer (r : Fin 16384) : row (fin m c (Proc.devRef .tc main_v131)) r
    = layer (par m c).d2 (par m c).c2 (row (fin m c (Proc.devRef .tc main_v125)) r) := by
  funext j
  simp only [row, at2 m c 78 _ rfl, at2 m c 79 _ rfl, at2 m c 80 _ rfl, at2 m c 81 _ rfl, at2 m c 82 _ rfl, at2 m c 83 _ rfl,
    at2 m c 84 _ rfl, at2 m c 85 _ rfl, at2 m c 86 _ rfl, at2 m c 87 _ rfl, at2 m c 88 _ rfl, at2 m c 89 _ rfl, at2 m c 90 _ rfl]
  pointwise [id]
  exact lrelu_eq_ite _

theorem v137_layer (r : Fin 16384) : row (fin m c (Proc.devRef .tc main_v137)) r
    = layer (par m c).d3 (par m c).c3 (row (fin m c (Proc.devRef .tc main_v131)) r) := by
  funext j
  obtain rfl : j = 0 := Subsingleton.elim _ _
  simp only [row, at2 m c 91 _ rfl, at2 m c 92 _ rfl, at2 m c 93 _ rfl, at2 m c 94 _ rfl, at2 m c 95 _ rfl, at2 m c 96 _ rfl,
    at2 m c 97 _ rfl, at2 m c 98 _ rfl, at2 m c 99 _ rfl, at2 m c 100 _ rfl, at2 m c 101 _ rfl, at2 m c 102 _ rfl, at2 m c 103 _
    rfl]
  pointwise [id]
  exact lrelu_eq_ite _

theorem v137_row (r : Fin 16384) : row (fin m c (Proc.devRef .tc main_v137)) r 0
    = dec (par m c) (row (fin m c (Proc.devRef .tc main_v42)) r) := by
  have h2 := v119_layer m c r
  have h3 := v125_layer m c r
  have h4 := v131_layer m c r
  have h5 := v137_layer m c r
  generalize row (fin m c (Proc.devRef .tc main_v137)) r = z5 at *
  generalize row (fin m c (Proc.devRef .tc main_v131)) r = z4 at *
  generalize row (fin m c (Proc.devRef .tc main_v125)) r = z3 at *
  generalize row (fin m c (Proc.devRef .tc main_v119)) r = z2 at *
  generalize row (fin m c (Proc.devRef .tc main_v42)) r = z1 at *
  subst h5 h4 h3 h2
  exact (dec.eq_1 _ _).symm

end Cert.ReferenceIdeal.Hand
-- ==== Proof.RefResults.lean ====
/-
  What the reference ends with: its four row results in closed form, the arguments unchanged, and the semaphores at zero.
-/
module

public import proofs.«01_k».proof.Proof.RefNear
public import proofs.«01_k».proof.Proof.RefDecode
public import Idealize.ShloMosaic.Lib.Quiescent

@[expose] public section

set_option maxRecDepth 16384

noncomputable section

namespace Cert.ReferenceIdeal.Hand

open Cert.ReferenceIdeal
open Idealize.ShloMosaic Idealize.ShloMosaic.Pointwise Idealize.SL.Sem
open Cert.Spec

attribute [local irreducible] fin

variable (m : (ℓ : Loc nD τ sig) → Buf (Elt Ideal) ℓ) (c : Dev nD) (ρ : Dev nD → PrngReg)

/-- Every argument keeps its contents, and every semaphore ends at zero. -/
theorem frame : θ_run defs (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18))
    ∧ r.2.sem = fun _ => 0) :=
  (θ_run defs _ _).mono (fun r h => ⟨fun c => ⟨(h c main_arg0).trans (fin_arg m c _ (by decide)),
    (h c main_arg1).trans (fin_arg m c _ (by decide)),
    (h c main_arg2).trans (fin_arg m c _ (by decide)),
    (h c main_arg3).trans (fin_arg m c _ (by decide)),
    (h c main_arg4).trans (fin_arg m c _ (by decide)),
    (h c main_arg5).trans (fin_arg m c _ (by decide)),
    (h c main_arg6).trans (fin_arg m c _ (by decide)),
    (h c main_arg7).trans (fin_arg m c _ (by decide)),
    (h c main_arg8).trans (fin_arg m c _ (by decide)),
    (h c main_arg9).trans (fin_arg m c _ (by decide)),
    (h c main_arg10).trans (fin_arg m c _ (by decide)),
    (h c main_arg11).trans (fin_arg m c _ (by decide)),
    (h c main_arg12).trans (fin_arg m c _ (by decide)),
    (h c main_arg13).trans (fin_arg m c _ (by decide)),
    (h c main_arg14).trans (fin_arg m c _ (by decide)),
    (h c main_arg15).trans (fin_arg m c _ (by decide)),
    (h c main_arg16).trans (fin_arg m c _ (by decide)),
    (h c main_arg17).trans (fin_arg m c _ (by decide)),
    (h c main_arg18).trans (fin_arg m c _ (by decide))⟩,
    sem_eq_zero_of_no_sems (by decide) _⟩) (run m ρ)

theorem final_ze : fin m c (Proc.devRef .tc main_v26) = ofRows (zeRow m c) := by
  generalize hx : fin m c (Proc.devRef .tc main_v26) = x
  funext i
  obtain ⟨r, j, rfl⟩ : ∃ (r : Fin 16384) (j : Fin 256), i = ix2 r j := ⟨i 0, i 1, eq_ix2 i⟩
  subst hx
  exact congrFun (v26_row m c r) j

theorem final_zq : fin m c (Proc.devRef .tc main_v42) = ofRows (fun r => (par m c).emb (near m c r)) := by
  generalize hx : fin m c (Proc.devRef .tc main_v42) = x
  funext i
  obtain ⟨r, j, rfl⟩ : ∃ (r : Fin 16384) (j : Fin 256), i = ix2 r j := ⟨i 0, i 1, eq_ix2 i⟩
  subst hx
  exact congrFun (v42_row m c r) j

theorem final_de : fin m c (Proc.devRef .tc main_v113) = ofRows (fun r (_ : Fin 1) => dec (par m c) (zeRow m c r)) := by
  generalize hx : fin m c (Proc.devRef .tc main_v113) = x
  funext i
  obtain ⟨r, j, rfl⟩ : ∃ (r : Fin 16384) (j : Fin 1), i = ix2 r j := ⟨i 0, i 1, eq_ix2 i⟩
  subst hx
  obtain rfl : j = 0 := Subsingleton.elim _ _
  exact v113_row m c r

theorem final_dq : fin m c (Proc.devRef .tc main_v137) = ofRows (fun r (_ : Fin 1) => dec (par m c) ((par m c).emb (near m c r))) := by
  generalize hx : fin m c (Proc.devRef .tc main_v137) = x
  funext i
  obtain ⟨r, j, rfl⟩ : ∃ (r : Fin 16384) (j : Fin 1), i = ix2 r j := ⟨i 0, i 1, eq_ix2 i⟩
  subst hx
  obtain rfl : j = 0 := Subsingleton.elim _ _
  refine (v137_row m c r).trans ?_
  rw [v42_row]
  rfl

/-- The four row results at the end of the run. -/
theorem results : θ_run defs (onTc (τ := τ) (main (F := Ideal))) ⟨m, fun _ => 0, ρ⟩ (fun r => ∀ c : Dev nD,
      r.2.mem ((c.tc : Thread nD τ).loc main_v26) = ofRows (zeRow m c)
      ∧ r.2.mem ((c.tc : Thread nD τ).loc main_v42) = ofRows (fun r => (par m c).emb (near m c r))
      ∧ r.2.mem ((c.tc : Thread nD τ).loc main_v113) = ofRows (fun r (_ : Fin 1) => dec (par m c) (zeRow m c r))
      ∧ r.2.mem ((c.tc : Thread nD τ).loc main_v137) = ofRows (fun r (_ : Fin 1) => dec (par m c) ((par m c).emb (near m c r)))) :=
  (θ_run defs _ _).mono (fun r h c => ⟨(h c main_v26).trans (final_ze m c), (h c main_v42).trans (final_zq m c),
    (h c main_v113).trans (final_de m c), (h c main_v137).trans (final_dq m c)⟩) (run m ρ)

end Cert.ReferenceIdeal.Hand
-- ==== Proof.SpecLoss.lean ====
/-
  The two losses, over the extended reals, when the encodings and the table hold real numbers: the squared distance in its
  expanded and in its plain form, the neighbours of a row of the table, and the sums over blocks and over the whole batch.
-/
module

public import proofs.«01_k».proof.Proof.Spec

@[expose] public section

set_option maxRecDepth 16384

noncomputable section

namespace Cert.Spec

open Idealize.ShloMosaic Idealize.ShloMosaic.Pointwise

/-! ## Real numbers among the extended reals -/

/-- `v` is a real number. -/
def IsReal (v : EReal) : Prop := ∃ x : ℝ, v = x

theorem IsReal.add {a b : EReal} : IsReal a → IsReal b → IsReal (a + b) := by
  rintro ⟨x, rfl⟩ ⟨y, rfl⟩; exact ⟨x + y, (EReal.coe_add x y).symm⟩
theorem IsReal.mul {a b : EReal} : IsReal a → IsReal b → IsReal (a * b) := by
  rintro ⟨x, rfl⟩ ⟨y, rfl⟩; exact ⟨x * y, (EReal.coe_mul x y).symm⟩
theorem IsReal.max {a b : EReal} (ha : IsReal a) (hb : IsReal b) : IsReal (max a b) := by
  rcases max_choice a b with h | h <;> rw [h] <;> assumption
theorem coe_sum {ι : Type*} (s : Finset ι) (f : ι → ℝ) : ((∑ i ∈ s, f i : ℝ) : EReal) = ∑ i ∈ s, (f i : EReal) :=
  map_sum (⟨⟨Real.toEReal, EReal.coe_zero⟩, EReal.coe_add⟩ : ℝ →+ EReal) f s
theorem IsReal.sum {ι : Type*} [Fintype ι] {f : ι → EReal} (h : ∀ i, IsReal (f i)) : IsReal (∑ i, f i) := by
  choose g hg using h
  exact ⟨∑ i, g i, by rw [coe_sum]; exact Finset.sum_congr rfl fun i _ => hg i⟩
theorem IsReal.lrelu {a : EReal} (h : IsReal a) : IsReal (lrelu a) := h.max (IsReal.mul ⟨_, slope_eq⟩ h)
theorem IsReal.exp {a : EReal} : IsReal a → IsReal (Ideal.exp a) := by
  rintro ⟨x, rfl⟩; exact ⟨Real.exp x, rfl⟩

theorem IsReal.dense {n k : ℕ} {W : Fin n → Fin k → EReal} {b : Fin n → EReal} {x : Fin k → EReal}
    (hW : ∀ j i, IsReal (W j i)) (hb : ∀ j, IsReal (b j)) (hx : ∀ i, IsReal (x i)) (j : Fin n) : IsReal (dense W b x j) :=
  (IsReal.sum fun i => (hx i).mul (hW j i)).add (hb j)

/-- The parameters the encoding depends on, and the table, are real. -/
structure Params.Real (P : Params) : Prop where
  w0 : ∀ j, IsReal (P.w0 j)
  b0 : ∀ j, IsReal (P.b0 j)
  w1 : ∀ j i, IsReal (P.w1 j i)
  b1 : ∀ j, IsReal (P.b1 j)
  wm : ∀ j i, IsReal (P.wm j i)
  bm : ∀ j, IsReal (P.bm j)
  wv : ∀ j i, IsReal (P.wv j i)
  bv : ∀ j, IsReal (P.bv j)
  emb : ∀ k i, IsReal (P.emb k i)

theorem half_eq : Ideal.ofBits .f32 0x3F000000#32 = ((1 / 2 : ℝ) : EReal) := by
  simp [Ideal.ofBits, Ideal.ieee, -EReal.coe_mul]; norm_num
theorem two_eq : Ideal.ofBits .f32 0x40000000#32 = ((2 : ℝ) : EReal) := by
  simp [Ideal.ofBits, Ideal.ieee, -EReal.coe_mul]; norm_num
theorem cells_eq : Ideal.ofBits .f32 0x4A800000#32 = ((4194304 : ℝ) : EReal) := by
  simp [Ideal.ofBits, Ideal.ieee, -EReal.coe_mul]; norm_num
theorem cells4_eq : Ideal.ofBits .f32 0x4B800000#32 = ((16777216 : ℝ) : EReal) := by
  simp [Ideal.ofBits, Ideal.ieee, -EReal.coe_mul]; norm_num
theorem scale_eq : Ideal.ofBits .f32 0x35000000#32 = ((1 / 2097152 : ℝ) : EReal) := by
  simp [Ideal.ofBits, Ideal.ieee, -EReal.coe_mul]; norm_num
theorem scale4_eq : Ideal.ofBits .f32 0x33800000#32 = ((1 / 16777216 : ℝ) : EReal) := by
  simp [Ideal.ofBits, Ideal.ieee, -EReal.coe_mul]; norm_num

/-- The encoding of real numbers is real. -/
theorem ze_real {P : Params} (h : P.Real) {x : EReal} (hx : IsReal x) {eps : Fin 256 → EReal} (he : ∀ i, IsReal (eps i))
    (j : Fin 256) : IsReal (ze P x eps j) := by
  have h0 : ∀ i, IsReal (enc0 P x i) := fun i => ((hx.mul (h.w0 i)).add (h.b0 i)).lrelu
  have h1 : ∀ i, IsReal (enc1 P x i) := fun i => (IsReal.dense h.w1 h.b1 h0 i).lrelu
  exact (IsReal.dense h.wm h.bm h1 j).add ((he j).mul ((IsReal.mul ⟨_, half_eq⟩ (IsReal.dense h.wv h.bv h1 j)).exp))

/-- The squared distance, plainly. -/
def sqd (P : Params) (z : Fin 256 → EReal) (k : Fin 256) : EReal := ∑ i, (z i - P.emb k i) * (z i - P.emb k i)

theorem sqd_coe {P : Params} {z : Fin 256 → EReal} {k : Fin 256} {x y : Fin 256 → ℝ} (hx : ∀ i, z i = x i)
    (hy : ∀ i, P.emb k i = y i) : sqd P z k = ((∑ i, (x i - y i) * (x i - y i) : ℝ) : EReal) := by
  rw [coe_sum]
  refine Finset.sum_congr rfl fun i _ => ?_
  rw [hx, hy, EReal.coe_mul, EReal.coe_sub]

/-- On real numbers the expanded squared distance is the plain one. -/
theorem dist_eq_sqd {P : Params} {z : Fin 256 → EReal} (hz : ∀ i, IsReal (z i)) (he : ∀ k i, IsReal (P.emb k i))
    (k : Fin 256) : dist P z k = sqd P z k := by
  choose x hx using hz
  choose y hy using he
  rw [sqd_coe hx (hy k)]
  unfold dist
  simp only [hx, hy, two_eq, ← EReal.coe_mul, ← coe_sum, ← EReal.coe_sub, ← EReal.coe_add]
  congr 1
  rw [Finset.mul_sum, ← Finset.sum_sub_distrib, ← Finset.sum_add_distrib]
  exact Finset.sum_congr rfl fun i _ => by ring

theorem sqd_real {P : Params} {z : Fin 256 → EReal} (hz : ∀ i, IsReal (z i)) (he : ∀ k i, IsReal (P.emb k i))
    (k : Fin 256) : IsReal (sqd P z k) := by
  choose x hx using hz
  choose y hy using he
  exact ⟨_, sqd_coe hx (hy k)⟩

/-! ## Neighbours -/

/-- The table is a square map of 16 rows of 16; the neighbour of place `n` above, below, to the left and to the right,
    a place at the border standing for the one that is missing. -/
def place (n j : ℕ) : ℕ :=
  match j with
  | 0 => (n / 16 - 1) * 16 + n % 16
  | 1 => (min (n / 16 + 1) 15) * 16 + n % 16
  | 2 => n / 16 * 16 + (n % 16 - 1)
  | _ => n / 16 * 16 + (min (n % 16 + 1) 15)

theorem place_lt (n j : ℕ) (h : n < 256) : place n j < 256 := by
  unfold place; split <;> omega

/-- The neighbour, as a row of the table. -/
def nbr (n : Fin 256) (j : Fin 4) : Fin 256 := ⟨place n.val j.val, place_lt _ _ n.isLt⟩

/-- How often `k` is a neighbour of `n`. -/
def times (n k : ℕ) : ℕ :=
  (Nat.beq (place n 0) k).toNat + (Nat.beq (place n 1) k).toNat + (Nat.beq (place n 2) k).toNat + (Nat.beq (place n 3) k).toNat

/-- The 32-bit word of the number 0, 1 or 2. -/
def word (c : ℕ) : BitVec 32 := bif Nat.beq c 0 then 0#32 else bif Nat.beq c 1 then 0x3F800000#32 else 0x40000000#32

theorem times_le : ∀ n k : Fin 256, times n.val k.val ≤ 2 := by decide +kernel

theorem word_eq (n k : Fin 256) : Ideal.ofBits .f32 (word (times n.val k.val)) = ((times n.val k.val : ℕ) : EReal) := by
  have h := times_le n k
  generalize times n.val k.val = c at h ⊢
  interval_cases c
  · show Ideal.ofBits .f32 0#32 = _
    simp [Ideal.ofBits, Ideal.ieee]
  · show Ideal.ofBits .f32 0x3F800000#32 = _
    simp [Ideal.ofBits, Ideal.ieee, -EReal.coe_mul]; norm_num
  · show Ideal.ofBits .f32 0x40000000#32 = _
    rw [two_eq]; rfl

theorem times_eq (n k : Fin 256) : ((times n.val k.val : ℕ) : EReal) = ∑ j : Fin 4, if k = nbr n j then (1 : EReal) else 0 := by
  have h : ∀ j : Fin 4, (((Nat.beq (place n.val j.val) k.val).toNat : ℕ) : EReal) = if k = nbr n j then (1 : EReal) else 0 := by
    intro j
    by_cases e : k = nbr n j
    · rw [if_pos e, e, show Nat.beq (place n.val j.val) (nbr n j).val = true from Nat.beq_refl _]; simp
    · rw [if_neg e, show Nat.beq (place n.val j.val) k.val = false from
        Bool.eq_false_iff.mpr fun hb => e (Fin.ext (Nat.eq_of_beq_eq_true hb).symm)]; simp
  rw [Fin.sum_univ_four, ← h, ← h, ← h, ← h]
  simp [times]

/-- The distances of the neighbours, as a sum over the table against the counts. -/
theorem sum_times (n : Fin 256) {d : Fin 256 → EReal} (hd : ∀ k, IsReal (d k)) :
    ∑ k, ((times n.val k.val : ℕ) : EReal) * d k = ∑ j, d (nbr n j) := by
  have h : ∀ k, ((times n.val k.val : ℕ) : EReal) * d k = ∑ j : Fin 4, (if k = nbr n j then (1 : EReal) else 0) * d k := by
    intro k
    rw [times_eq]
    obtain ⟨x, hx⟩ := hd k
    have hc : ∀ p : Prop, [Decidable p] → (if p then (1 : EReal) else 0) = ((if p then (1 : ℝ) else 0 : ℝ) : EReal) := by
      intro p _; split_ifs <;> simp
    simp only [hx, hc, ← coe_sum, ← EReal.coe_mul, Finset.sum_mul]
  simp only [h]
  rw [Finset.sum_comm]
  exact Finset.sum_congr rfl fun j _ => sum_hot _ _

/-! ## Sums over blocks -/

/-- Row `r` of block `t`. -/
def blockRow (t : Fin 8) (r : Fin 2048) : Fin 16384 := ⟨2048 * t.val + r.val, by omega⟩

theorem sum_blocks (f : Fin 16384 → EReal) : ∑ t, ∑ r, f (blockRow t r) = ∑ R, f R := by
  rw [← Finset.sum_product', Finset.univ_product_univ]
  refine (Equiv.sum_comp (finProdFinEquiv (m := 8) (n := 2048)) f).symm.trans ?_ |>.symm
  refine Finset.sum_congr rfl fun p _ => congrArg f (Fin.ext ?_)
  show p.2.val + 2048 * p.1.val = 2048 * p.1.val + p.2.val
  omega

/-- Block sums, each scaled, are the whole sum scaled. -/
theorem sum_scaled {f : Fin 16384 → EReal} (hf : ∀ R, IsReal (f R)) (s : ℝ) :
    ∑ t, (∑ r, f (blockRow t r)) * (s : EReal) = (∑ R, f R) * (s : EReal) := by
  rw [← sum_blocks]
  choose g hg using hf
  simp only [hg, ← coe_sum, ← EReal.coe_mul, Finset.sum_mul]

/-! ## The losses -/

theorem div_coe (x : ℝ) {y : ℝ} (hy : y ≠ 0) : Ideal.div (x : EReal) (y : EReal) = ((x / y : ℝ) : EReal) := by
  rw [Ideal.div, if_neg (by exact_mod_cast hy), div_eq_mul_inv, EReal.coe_mul, EReal.coe_inv]

variable (P : Params) (Z : Fin 16384 → Fin 256 → EReal) (n : Fin 16384 → Fin 256)

/-- The mean squared difference of the encodings and the rows of the table numbered `n`, twice. -/
def commit : EReal :=
  Ideal.div (∑ R, sqd P (Z R) (n R)) (Ideal.ofBits .f32 0x4A800000#32)
    + Ideal.div (∑ R, sqd P (Z R) (n R)) (Ideal.ofBits .f32 0x4A800000#32)
/-- The mean squared difference of the encodings and the neighbours of the rows numbered `n`. -/
def som : EReal := Ideal.div (∑ R, ∑ j, sqd P (Z R) (nbr (n R) j)) (Ideal.ofBits .f32 0x4B800000#32)

variable {P Z} (hZ : ∀ R i, IsReal (Z R i)) (he : ∀ k i, IsReal (P.emb k i))
include hZ he

/-- The commitment loss, from the blocks' scaled sums of least distances. -/
theorem commit_of_blocks :
    ∑ t, (∑ r, dist P (Z (blockRow t r)) (n (blockRow t r))) * Ideal.ofBits .f32 0x35000000#32 = commit P Z n := by
  simp only [dist_eq_sqd (hZ _) he]
  have hf : ∀ R, IsReal (sqd P (Z R) (n R)) := fun R => sqd_real (hZ R) he _
  rw [scale_eq, sum_scaled (f := fun R => sqd P (Z R) (n R)) hf, commit, cells_eq]
  obtain ⟨x, hx⟩ := IsReal.sum hf
  rw [hx, ← EReal.coe_mul, div_coe x (by norm_num : (4194304 : ℝ) ≠ 0), ← EReal.coe_add]
  exact congrArg _ (by ring)

/-- The map loss, from the blocks' scaled sums of distances against the counts of neighbours. -/
theorem som_of_blocks :
    ∑ t, (∑ r, ∑ k, ((times (n (blockRow t r)).val k.val : ℕ) : EReal) * dist P (Z (blockRow t r)) k) * Ideal.ofBits .f32 0x33800000#32
      = som P Z n := by
  simp only [dist_eq_sqd (hZ _) he, sum_times _ (sqd_real (hZ _) he)]
  have hf : ∀ R, IsReal (∑ j, sqd P (Z R) (nbr (n R) j)) := fun R => IsReal.sum fun j => sqd_real (hZ R) he _
  rw [scale4_eq, sum_scaled (f := fun R => ∑ j, sqd P (Z R) (nbr (n R) j)) hf, som, cells4_eq]
  obtain ⟨x, hx⟩ := IsReal.sum hf
  rw [hx, ← EReal.coe_mul, div_coe x (by norm_num : (16777216 : ℝ) ≠ 0)]
  exact congrArg _ (by ring)

end Cert.Spec
-- ==== Proof.TableRows.lean ====
/-
  What the kernel's constant table holds: entry `(n, k)` is the number of times `k` is a neighbour of `n`.
-/
module

public import proofs.«01_k».proof.KernelIdeal
public import proofs.«01_k».proof.Proof.SpecLoss

@[expose] public section

set_option maxRecDepth 100000
set_option maxHeartbeats 0

noncomputable section

namespace Cert.KernelIdeal.Hand

open Cert.KernelIdeal
open Idealize.ShloMosaic
open Cert.Spec

/-- The statement for the sixteen rows from `16 * a` on. -/
abbrev Rows (a : Fin 16) : Prop := ∀ b : Fin 16, ∀ k : Fin 256,
  lit0 ⟨(16 * a.val + b.val) * 256 + k.val, by have := a.isLt; have := b.isLt; have := k.isLt; show _ < 65536; omega⟩
    = word (times (16 * a.val + b.val) k.val)

end Cert.KernelIdeal.Hand
-- ==== Proof.Table0.lean ====
/-
  The first quarter of the kernel's constant table, entry by entry.
-/
module

public import proofs.«01_k».proof.Proof.TableRows

@[expose] public section

set_option maxRecDepth 100000
set_option maxHeartbeats 0

noncomputable section

namespace Cert.KernelIdeal.Hand

open Cert.KernelIdeal
open Idealize.ShloMosaic
open Cert.Spec

theorem first_quarter (a : Fin 4) : Rows ⟨4 * 0 + a.val, by have := a.isLt; omega⟩ := by
  fin_cases a <;> decide +kernel

end Cert.KernelIdeal.Hand
-- ==== Proof.Table1.lean ====
/-
  The second quarter of the kernel's constant table, entry by entry.
-/
module

public import proofs.«01_k».proof.Proof.TableRows

@[expose] public section

set_option maxRecDepth 100000
set_option maxHeartbeats 0

noncomputable section

namespace Cert.KernelIdeal.Hand

open Cert.KernelIdeal
open Idealize.ShloMosaic
open Cert.Spec

theorem second_quarter (a : Fin 4) : Rows ⟨4 * 1 + a.val, by have := a.isLt; omega⟩ := by
  fin_cases a <;> decide +kernel

end Cert.KernelIdeal.Hand
-- ==== Proof.Table2.lean ====
/-
  The third quarter of the kernel's constant table, entry by entry.
-/
module

public import proofs.«01_k».proof.Proof.TableRows

@[expose] public section

set_option maxRecDepth 100000
set_option maxHeartbeats 0

noncomputable section

namespace Cert.KernelIdeal.Hand

open Cert.KernelIdeal
open Idealize.ShloMosaic
open Cert.Spec

theorem third_quarter (a : Fin 4) : Rows ⟨4 * 2 + a.val, by have := a.isLt; omega⟩ := by
  fin_cases a <;> decide +kernel

end Cert.KernelIdeal.Hand
-- ==== Proof.Table3.lean ====
/-
  The fourth quarter of the kernel's constant table, entry by entry.
-/
module

public import proofs.«01_k».proof.Proof.TableRows

@[expose] public section

set_option maxRecDepth 100000
set_option maxHeartbeats 0

noncomputable section

namespace Cert.KernelIdeal.Hand

open Cert.KernelIdeal
open Idealize.ShloMosaic
open Cert.Spec

theorem fourth_quarter (a : Fin 4) : Rows ⟨4 * 3 + a.val, by have := a.isLt; omega⟩ := by
  fin_cases a <;> decide +kernel

end Cert.KernelIdeal.Hand
-- ==== Proof.Table.lean ====
/-
  The kernel's constant table: entry `(n, k)` is the number of times `k` is a neighbour of `n`.
-/
module

public import proofs.«01_k».proof.Proof.Table0
public import proofs.«01_k».proof.Proof.Table1
public import proofs.«01_k».proof.Proof.Table2
public import proofs.«01_k».proof.Proof.Table3

@[expose] public section

set_option maxRecDepth 100000
set_option maxHeartbeats 0

noncomputable section

namespace Cert.KernelIdeal.Hand

open Cert.KernelIdeal
open Idealize.ShloMosaic
open Cert.Spec

/-- The entries, sixteen rows of the table at a time. -/
theorem table_words (a : Fin 16) : Rows a := by
  fin_cases a
  · exact first_quarter 0
  · exact first_quarter 1
  · exact first_quarter 2
  · exact first_quarter 3
  · exact second_quarter 0
  · exact second_quarter 1
  · exact second_quarter 2
  · exact second_quarter 3
  · exact third_quarter 0
  · exact third_quarter 1
  · exact third_quarter 2
  · exact third_quarter 3
  · exact fourth_quarter 0
  · exact fourth_quarter 1
  · exact fourth_quarter 2
  · exact fourth_quarter 3

end Cert.KernelIdeal.Hand
-- ==== Proof.KernelLoss.lean ====
/-
  The kernel's two losses, at the extended reals: what every grid point adds to them, and their values after the last
  point when the encodings and the table are real.
-/
module

public import proofs.«01_k».proof.Proof.KernelArrays
public import proofs.«01_k».proof.Proof.Table

@[expose] public section

set_option maxRecDepth 16384

noncomputable section

namespace Cert.KernelIdeal.Hand

open Cert.KernelIdeal Cert.KernelIdeal.Gen
open Idealize.ShloMosaic Idealize.ShloMosaic.TcCoe Idealize.ShloMosaic.Pointwise
open Idealize.ShloMosaic.Pipeline (Dat)
open Cert.Spec

/-! ## The table -/

/-- One entry of the constant table: the number of times `k` is a neighbour of `n`. -/
theorem table_entry (n k : Fin 256) : lit0 (S256x256.rowMajor (ix2 n k)) = word (times n.val k.val) := by
  have hn := n.isLt
  have hd : 16 * (n.val / 16) + n.val % 16 = n.val := by omega
  have h := table_words ⟨n.val / 16, by omega⟩ ⟨n.val % 16, by omega⟩ k
  dsimp only at h
  rw [← hd]
  refine Eq.trans (congrArg lit0 (Fin.ext ?_)) h
  rw [Shape.rowMajor_val_two]
  exact congrArg (fun a => a * 256 + k.val) hd.symm

/-! ## The payloads -/

/-- The sum of a column, the way the payload spells it. -/
theorem sum_col (w : FVec Ideal S1x2048x1 .f32) : extractAt ![0, 0, 0] (shapeCast S1x1x1
      (multiReduction .add [1, 2] S1 w 0x00000000#32 reduces_S1x2048x1_S1 (.inl rfl) rfl) shapeCasts_S1_S1x1x1) inpos_S1x1x1_p0_0_0
    = ∑ r, w (ix3 0 r 0) := by
  pointwise []
  refine Finset.sum_congr rfl fun r _ => ?_
  rw [Fin.sum_univ_one]
theorem cast_col (v : FVec Ideal S2048x1 .f32) (r : Fin 2048) :
    shapeCast S1x2048x1 v shapeCasts_S2048x1_S1x2048x1 (ix3 0 r 0) = v (ix2 r 0) := by
  pointwise []
theorem scaled (s : EReal) : Scalar.mulf (F := Ideal) (φ := .f32) s (FloatOps.ofBits .f32 0x35000000#32)
    = s * Ideal.ofBits .f32 0x35000000#32 := rfl
/-- The scaled sum of the block's least distances. -/
theorem pay43_eq (z : FVec Ideal S2048x256 .f32) (e : Vec Ideal S256x256 .f32) (e2 : Vec Ideal S1x256 .f32) :
    k0_pay43 z e e2 = (∑ r, k0_pay42 z e e2 (ix2 r 0)) * Ideal.ofBits .f32 0x35000000#32 := by
  unfold k0_pay43
  dsimp only
  generalize k0_pay42 z e e2 = v
  rw [sum_col]
  simp only [cast_col]
  exact scaled _

/-- The scaled sum of the block's distances, each against the count of its column. -/
theorem pay47_eq (z : FVec Ideal S2048x256 .f32) (e : Vec Ideal S256x256 .f32) (e2 : Vec Ideal S1x256 .f32) (a : Vec Ideal S256x256 .f32) :
    k0_pay47 (k0_pay46 z e e2 a) = (∑ r, ∑ k, (∑ n, k0_pay44 z e e2 (ix2 r n) * a (ix2 n k)) * k0_pay41 z e e2 (ix2 r k))
      * Ideal.ofBits .f32 0x33800000#32 := by
  pointwise [k0_pay47, k0_pay46]

/-- One point's contribution added to the commitment loss so far. -/
theorem pay5_eq (s : EReal) (a : Vec Ideal S1x1 .f32) : k0_pay5 (F := Ideal) s a (ix2 0 0) = a (ix2 0 0) + s := by
  pointwise [k0_pay5]
/-- One point's contribution added to the map loss so far. -/
theorem pay6_eq (s : EReal) (a : Vec Ideal S1x1 .f32) : k0_pay6 (F := Ideal) s a (ix2 0 0) = a (ix2 0 0) + s := by
  pointwise [k0_pay6]
theorem pay3_eq : k0_pay3 (F := Ideal) (ix2 0 0) = (0 : EReal) := by
  pointwise [k0_pay3]
theorem pay4_eq : k0_pay4 (F := Ideal) (ix2 0 0) = (0 : EReal) := by
  pointwise [k0_pay4]

/-! ## What a point adds -/

variable (m : (ℓ : Loc nD τ sig) → Buf (Elt Ideal) ℓ) (c : Dev nD)

/-- The constant table's block: the counts of neighbours. -/
theorem read_adj (t : Fin cfg0.N) (n k : Fin 256) : (iblk m c 12 t : Vec Ideal S256x256 .f32) (ix2 n k)
    = ((times n.val k.val : ℕ) : EReal) := by
  refine Eq.trans (b := (V m c main_cst : Vec Ideal S256x256 .f32) (ix2 n k)) (by blk_ext [iblk, idx_whole t]) ?_
  entry_read
  pointwise []
  rw [table_entry, word_eq]

/-- What point `t` adds to the commitment loss. -/
theorem csPt_eq (t : Fin cfg0.N) : csPt m c t
    = (∑ r, dist (par m c) (zeRow m c (at_ t r)) (near m c (at_ t r))) * Ideal.ofBits .f32 0x35000000#32 := by
  rw [csPt, pay43_eq]
  refine congrArg (fun x : EReal => x * Ideal.ofBits .f32 0x35000000#32) (Finset.sum_congr rfl fun r _ => ?_)
  refine (dmin_eq _ _ _ (read_emb m c t) (read_e2 m c t) r).trans ?_
  rw [zeAt_row', near]

/-- What point `t` adds to the map loss. -/
theorem ssPt_eq (t : Fin cfg0.N) : ssPt m c t
    = (∑ r, ∑ k, ((times (near m c (at_ t r)).val k.val : ℕ) : EReal) * dist (par m c) (zeRow m c (at_ t r)) k)
      * Ideal.ofBits .f32 0x33800000#32 := by
  rw [ssPt, pay47_eq]
  refine congrArg (fun x : EReal => x * Ideal.ofBits .f32 0x33800000#32)
    (Finset.sum_congr rfl fun r _ => Finset.sum_congr rfl fun k _ => ?_)
  refine congrArg₂ (fun x y : EReal => x * y) ?_ ?_
  · refine Eq.trans (Finset.sum_congr rfl fun n _ => ?_) (sum_hot (near m c (at_ t r)) fun n => ((times n.val k.val : ℕ) : EReal))
    refine congrArg₂ (fun x y : EReal => x * y) ?_ (read_adj m c t n k)
    refine (hot_row _ _ _ (read_emb m c t) (read_e2 m c t) r n).trans ?_
    rw [zeAt_row', near]
  · refine (dist_eq _ _ _ (read_emb m c t) (read_e2 m c t) r k).trans ?_
    rw [zeAt_row']

attribute [local irreducible] csPt ssPt

/-- The commitment loss so far is the sum of the points' contributions. -/
theorem csAt_eq (n : ℕ) (h : n < cfg0.N) : csAt m c n h (ix2 0 0)
    = ∑ i : Fin (n + 1), csPt m c ⟨i.val, lt_of_lt_of_le i.isLt h⟩ := by
  induction n with
  | zero =>
    rw [Fin.sum_univ_one]
    refine (pay5_eq _ _).trans ?_
    rw [pay3_eq, zero_add]
    rfl
  | succ n ih =>
    rw [Fin.sum_univ_castSucc]
    refine (pay5_eq _ _).trans ?_
    rw [ih]
    rfl

/-- The map loss so far is the sum of the points' contributions. -/
theorem ssAt_eq (n : ℕ) (h : n < cfg0.N) : ssAt m c n h (ix2 0 0)
    = ∑ i : Fin (n + 1), ssPt m c ⟨i.val, lt_of_lt_of_le i.isLt h⟩ := by
  induction n with
  | zero =>
    rw [Fin.sum_univ_one]
    refine (pay6_eq _ _).trans ?_
    rw [pay4_eq, zero_add]
    rfl
  | succ n ih =>
    rw [Fin.sum_univ_castSucc]
    refine (pay6_eq _ _).trans ?_
    rw [ih]
    rfl

/-! ## After the last point -/

theorem last_lt : 7 < cfg0.N := lt_of_lt_of_eq (by decide : 7 < 8) N_0.symm

/-- The blocks' rows, by either count. -/
theorem at_block (i : Fin (7 + 1)) (h : i.val < cfg0.N) (r : Fin 2048) : at_ ⟨i.val, h⟩ r = blockRow i r := rfl

/-- An array of one cell. -/
theorem one_cell {w : Vec Ideal S1x1 .f32} {v : EReal} (h : w (ix2 0 0) = v) : w = fun _ => v := by
  funext i
  obtain ⟨a, b, rfl⟩ : ∃ (a : Fin 1) (b : Fin 1), i = ix2 a b := ⟨i 0, i 1, eq_ix2 i⟩
  obtain rfl : a = 0 := Subsingleton.elim _ _
  obtain rfl : b = 0 := Subsingleton.elim _ _
  exact h

attribute [local irreducible] csAt ssAt

theorem after_cs : (dats m 0 c).after 25 t0_7 = csAt m c 7 last_lt := rfl
theorem after_ss : (dats m 0 c).after 26 t0_7 = ssAt m c 7 last_lt := rfl

theorem cell_cs (v : EReal) (h : csAt m c 7 last_lt (ix2 0 0) = v) :
    (dats m 0 c).arrAt 25 (cfgs 0).N = ofRows (N := 1) (n := 1) fun _ _ => v := by
  refine (dats m 0 c).arrAt_eq_of_after_last 25 t0_7 (by decide +kernel) _ fun j => ?_
  rw [after_cs, one_cell h]
  rfl

theorem cell_ss (v : EReal) (h : ssAt m c 7 last_lt (ix2 0 0) = v) :
    (dats m 0 c).arrAt 26 (cfgs 0).N = ofRows (N := 1) (n := 1) fun _ _ => v := by
  refine (dats m 0 c).arrAt_eq_of_after_last 26 t0_7 (by decide +kernel) _ fun j => ?_
  rw [after_ss, one_cell h]
  rfl

section Final

variable (hz : ∀ R i, IsReal (zeRow m c R i)) (he : ∀ k i, IsReal ((par m c).emb k i))
include hz he

/-- The commitment loss at the end of the launch. -/
theorem final_cs : (dats m 0 c).arrAt 25 (cfgs 0).N
    = ofRows (N := 1) (n := 1) fun _ _ => commit (par m c) (zeRow m c) (near m c) := by
  refine cell_cs m c _ ?_
  rw [csAt_eq]
  simp only [csPt_eq, at_block]
  exact commit_of_blocks (near m c) hz he

/-- The map loss at the end of the launch. -/
theorem final_ss : (dats m 0 c).arrAt 26 (cfgs 0).N
    = ofRows (N := 1) (n := 1) fun _ _ => som (par m c) (zeRow m c) (near m c) := by
  refine cell_ss m c _ ?_
  rw [ssAt_eq]
  simp only [ssPt_eq, at_block]
  exact som_of_blocks (near m c) hz he

end Final

/-- The two losses at the end of the launch. -/
theorem losses (m : (ℓ : Loc nD τ sig) → Buf (Elt Ideal) ℓ) (ρ : Dev nD → PrngReg)
    (hz : ∀ c R i, IsReal (zeRow m c R i)) (he : ∀ c k i, IsReal ((par m c).emb k i)) :
    θ_run (defs (F := Ideal)) (onTc (τ := τ) (main (F := Ideal))) ⟨m, fun _ => 0, ρ⟩ (fun r => ∀ c : Dev nD,
      r.2.mem ((c.tc : Thread nD τ).loc main_v12_4) = ofRows (N := 1) (n := 1) (fun _ _ => commit (par m c) (zeRow m c) (near m c))
      ∧ r.2.mem ((c.tc : Thread nD τ).loc main_v12_5) = ofRows (N := 1) (n := 1) (fun _ _ => som (par m c) (zeRow m c) (near m c))) :=
  (θ_run _ _ _).mono (fun r h c => ⟨((h c).1 25).trans (final_cs m c (hz c) (he c)),
    ((h c).1 26).trans (final_ss m c (hz c) (he c))⟩) (run m ρ)

end Cert.KernelIdeal.Hand
-- ==== Proof.RefLoss.lean ====
/-
  The reference's two losses: the neighbours' numbers as words, the rows gathered at them, and the two sums.
-/
module

public import proofs.«01_k».proof.Proof.RefResults
public import proofs.«01_k».proof.Proof.SpecLoss

@[expose] public section

set_option maxRecDepth 16384

noncomputable section

namespace Cert.ReferenceIdeal.Hand

open Cert.ReferenceIdeal
open Idealize.ShloMosaic Idealize.ShloMosaic.Pointwise
open Cert.Steps
open Cert.Spec

attribute [local irreducible] fin

variable (m : (ℓ : Loc nD τ sig) → Buf (Elt Ideal) ℓ) (c : Dev nD)

/-! ## The neighbours' numbers, as words -/

/-- The row of the map a place is in, rounded towards minus infinity. -/
theorem v52_row (r : Fin 16384) : (fin m c (Proc.devRef .tc main_v52) : IVec S16384 32) (ix1 r) = BitVec.ofNat 32 ((near m c r).val / 16) := by
  have hk := v41_row m c r
  simp only [at1 m c 2 _ rfl, at1 m c 3 _ rfl, at1 m c 4 _ rfl, at1 m c 5 _ rfl, at1 m c 6 _ rfl, at1 m c 7 _ rfl, at1 m c 8 _ rfl, at1 m c 9 _ rfl,
    at1 m c 10 _ rfl, at1 m c 11 _ rfl, at1 m c 12 _ rfl, at1 m c 13 _ rfl, at1 m c 14 _ rfl, at1 m c 15 _ rfl, at1 m c 16 _ rfl, at1 m c 17 _ rfl,
    at1 m c 18 _ rfl, at1 m c 19 _ rfl]
  generalize fin m c (Proc.devRef .tc main_v41) = k at *
  pointwise [id]
  rw [hk]
  generalize near m c r = n
  revert n
  decide +kernel

/-- The column of the map a place is in. -/
theorem v53_row (r : Fin 16384) : (fin m c (Proc.devRef .tc main_v53) : IVec S16384 32) (ix1 r) = BitVec.ofNat 32 ((near m c r).val % 16) := by
  have hk := v41_row m c r
  simp only [at1 m c 20 _ rfl, at1 m c 21 _ rfl, at1 m c 22 _ rfl, at1 m c 23 _ rfl, at1 m c 24 _ rfl, at1 m c 25 _ rfl, at1 m c 26 _ rfl, at1 m c 27 _ rfl, at1 m c 28 _ rfl, at1 m c 29 _ rfl,
    at1 m c 30 _ rfl, at1 m c 31 _ rfl, at1 m c 32 _ rfl, at1 m c 33 _ rfl, at1 m c 34 _ rfl, at1 m c 35 _ rfl, at1 m c 36 _ rfl, at1 m c 37 _ rfl,
    at1 m c 38 _ rfl, at1 m c 39 _ rfl, at1 m c 40 _ rfl, at1 m c 41 _ rfl]
  generalize fin m c (Proc.devRef .tc main_v41) = k at *
  pointwise [id]
  rw [hk]
  generalize near m c r = n
  revert n
  decide +kernel

/-- A coordinate moved down by one and kept inside the map, as words. -/
theorem less_word : ∀ q : Fin 16, IntOp.minsi (15#32) (IntOp.maxsi (0#32) (IntOp.subi (BitVec.ofNat 32 q.val) 1#32))
    = BitVec.ofNat 32 (q.val - 1) := by decide +kernel
/-- A coordinate moved up by one and kept inside the map, as words. -/
theorem more_word : ∀ q : Fin 16, IntOp.minsi (15#32) (IntOp.maxsi (0#32) (IntOp.addi (BitVec.ofNat 32 q.val) 1#32))
    = BitVec.ofNat 32 (min (q.val + 1) 15) := by decide +kernel
/-- A place from its two coordinates, as words. -/
theorem place_word : ∀ p q : Fin 16, IntOp.addi (IntOp.muli (BitVec.ofNat 32 p.val) 16#32) (BitVec.ofNat 32 q.val)
    = BitVec.ofNat 32 (p.val * 16 + q.val) := by decide +kernel

/-- The map's row and column of a place. -/
abbrev hi (n : Fin 256) : Fin 16 := ⟨n.val / 16, by omega⟩
abbrev lo (n : Fin 256) : Fin 16 := ⟨n.val % 16, by omega⟩

/-- The number of the neighbour above. -/
theorem v68_row (r : Fin 16384) : (fin m c (Proc.devRef .tc main_v68) : IVec S16384 32) (ix1 r) = BitVec.ofNat 32 (nbr (near m c r) 0).val := by
  have hq := v52_row m c r
  have hr := v53_row m c r
  simp only [at1 m c 42 _ rfl, at1 m c 43 _ rfl, at1 m c 44 _ rfl, at1 m c 45 _ rfl, at1 m c 46 _ rfl, at1 m c 47 _ rfl, at1 m c 48 _ rfl, at1 m c 49 _ rfl,
    at1 m c 50 _ rfl, at1 m c 51 _ rfl, at1 m c 52 _ rfl, at1 m c 86 _ rfl, at1 m c 87 _ rfl, at1 m c 88 _ rfl, at1 m c 89 _ rfl]
  generalize fin m c (Proc.devRef .tc main_v52) = k at *
  generalize fin m c (Proc.devRef .tc main_v53) = k' at *
  pointwise [id]
  rw [hq, hr]
  generalize near m c r = n
  rw [less_word (hi n)]
  exact place_word ⟨n.val / 16 - 1, by omega⟩ (lo n)

/-- The number of the neighbour below. -/
theorem v71_row (r : Fin 16384) : (fin m c (Proc.devRef .tc main_v71) : IVec S16384 32) (ix1 r) = BitVec.ofNat 32 (nbr (near m c r) 1).val := by
  have hq := v52_row m c r
  have hr := v53_row m c r
  simp only [at1 m c 53 _ rfl, at1 m c 54 _ rfl, at1 m c 55 _ rfl, at1 m c 56 _ rfl, at1 m c 57 _ rfl, at1 m c 58 _ rfl, at1 m c 59 _ rfl, at1 m c 60 _ rfl,
    at1 m c 61 _ rfl, at1 m c 62 _ rfl, at1 m c 63 _ rfl, at1 m c 90 _ rfl, at1 m c 91 _ rfl, at1 m c 92 _ rfl, at1 m c 93 _ rfl]
  generalize fin m c (Proc.devRef .tc main_v52) = k at *
  generalize fin m c (Proc.devRef .tc main_v53) = k' at *
  pointwise [id]
  rw [hq, hr]
  generalize near m c r = n
  rw [more_word (hi n)]
  exact place_word ⟨min (n.val / 16 + 1) 15, by omega⟩ (lo n)

/-- The number of the neighbour to the left. -/
theorem v74_row (r : Fin 16384) : (fin m c (Proc.devRef .tc main_v74) : IVec S16384 32) (ix1 r) = BitVec.ofNat 32 (nbr (near m c r) 2).val := by
  have hq := v52_row m c r
  have hr := v53_row m c r
  simp only [at1 m c 64 _ rfl, at1 m c 65 _ rfl, at1 m c 66 _ rfl, at1 m c 67 _ rfl, at1 m c 68 _ rfl, at1 m c 69 _ rfl, at1 m c 70 _ rfl, at1 m c 71 _ rfl,
    at1 m c 72 _ rfl, at1 m c 73 _ rfl, at1 m c 74 _ rfl, at1 m c 94 _ rfl, at1 m c 95 _ rfl, at1 m c 96 _ rfl, at1 m c 97 _ rfl]
  generalize fin m c (Proc.devRef .tc main_v52) = k at *
  generalize fin m c (Proc.devRef .tc main_v53) = k' at *
  pointwise [id]
  rw [hq, hr]
  generalize near m c r = n
  rw [less_word (lo n)]
  exact place_word (hi n) ⟨n.val % 16 - 1, by omega⟩

/-- The number of the neighbour to the right. -/
theorem v77_row (r : Fin 16384) : (fin m c (Proc.devRef .tc main_v77) : IVec S16384 32) (ix1 r) = BitVec.ofNat 32 (nbr (near m c r) 3).val := by
  have hq := v52_row m c r
  have hr := v53_row m c r
  simp only [at1 m c 75 _ rfl, at1 m c 76 _ rfl, at1 m c 77 _ rfl, at1 m c 78 _ rfl, at1 m c 79 _ rfl, at1 m c 80 _ rfl, at1 m c 81 _ rfl, at1 m c 82 _ rfl,
    at1 m c 83 _ rfl, at1 m c 84 _ rfl, at1 m c 85 _ rfl, at1 m c 98 _ rfl, at1 m c 99 _ rfl, at1 m c 100 _ rfl, at1 m c 101 _ rfl]
  generalize fin m c (Proc.devRef .tc main_v52) = k at *
  generalize fin m c (Proc.devRef .tc main_v53) = k' at *
  pointwise [id]
  rw [hq, hr]
  generalize near m c r = n
  rw [more_word (lo n)]
  exact place_word (hi n) ⟨min (n.val % 16 + 1) 15, by omega⟩

/-! ## The gathered rows -/

/-- The dimensions of the stacked gather. -/
abbrev dims := gather_S256x256_S16384x4x1_S16384x4x256_2_0_n_n_0_2_1256

/-- The stacked gather: entry `(r, j, i)` is entry `i` of the table's row whose number is held at `(r, j)`. -/
theorem gather_stack (x : Vec Ideal S256x256 .f32) (idx : IVec S16384x4x1 32) (r : Fin 16384) (j : Fin 4) (i : Fin 256)
    (b : Fin 256) (hb : idx (ix3 r j 0) = BitVec.ofNat 32 b.val) : Host.gather dims x idx (ix3 r j i) = x (ix2 b i) := by
  unfold Host.gather
  refine congrArg x (funext fun a => Fin.ext ?_)
  show dims.start (ix3 r j i) idx a + dims.batchCoord (ix3 r j i) a + dims.offCoord (ix3 r j i) a = _
  rw [dims.batchCoord_eq_zero _ _ List.not_mem_nil, Nat.add_zero]
  match a with
  | ⟨0, _⟩ =>
    show dims.start (ix3 r j i) idx (0 : Fin 2) + dims.offCoord (ix3 r j i) (0 : Fin 2) = b.val
    rw [dims.offCoord_eq_zero _ _ fun h => ((dims.mem_sKept _).mp h).1 (List.mem_singleton.mpr rfl), Nat.add_zero]
    unfold GatherDims.start
    rw [dif_pos (show (0 : Fin 2) ∈ dims.startIndexMap from List.mem_singleton.mpr rfl)]
    have hsi : dims.siIdx (ix3 r j i) ⟨dims.startIndexMap.idxOf 0, List.idxOf_lt_length_iff.2 (List.mem_singleton.mpr rfl)⟩
        = ix3 r j 0 := by
      funext b'; refine Fin.ext ?_
      match b' with
      | ⟨0, _⟩ => rfl
      | ⟨1, _⟩ => rfl
      | ⟨2, _⟩ => rfl
    have hbl := b.isLt
    refine Eq.trans (b := min (idx (ix3 r j 0)).toInt.toNat 255) (by rw [← hsi]; rfl) ?_
    rw [hb, toInt_ofNat]
    show min ((b.val : Int)).toNat 255 = b.val
    omega
  | ⟨1, _⟩ =>
    show dims.start (ix3 r j i) idx (1 : Fin 2) + dims.offCoord (ix3 r j i) (1 : Fin 2) = i.val
    unfold GatherDims.start
    rw [dif_neg (show (1 : Fin 2) ∉ dims.startIndexMap from by decide), Nat.zero_add]
    unfold GatherDims.offCoord
    rw [dif_pos ((dims.mem_sKept 1).2 ⟨by decide, List.not_mem_nil⟩)]
    rfl

/-- The stack of the four neighbours' numbers. -/
theorem v82_row (r : Fin 16384) (j : Fin 4) : (fin m c (Proc.devRef .tc main_v82) : IVec S16384x4 32) (ix2 r j)
    = BitVec.ofNat 32 (nbr (near m c r) j).val := by
  have h0 := v68_row m c r
  have h1 := v71_row m c r
  have h2 := v74_row m c r
  have h3 := v77_row m c r
  have e0 := at1 m c 102 _ rfl
  have e1 := at1 m c 103 _ rfl
  have e2 := at1 m c 104 _ rfl
  have e3 := at1 m c 105 _ rfl
  rw [at1 m c 106 _ rfl]
  match j with
  | ⟨0, _⟩ => pointwise []; rw [e0]; pointwise []; exact h0
  | ⟨1, _⟩ => pointwise []; rw [e1]; pointwise []; exact h1
  | ⟨2, _⟩ => pointwise []; rw [e2]; pointwise []; exact h2
  | ⟨3, _⟩ => pointwise []; rw [e3]; pointwise []; exact h3

/-- The rows of the table gathered for row `r` are the neighbours of the nearest one. -/
theorem v83_row (r : Fin 16384) (j : Fin 4) (i : Fin 256) : (fin m c (Proc.devRef .tc main_v83) : Vec Ideal S16384x4x256 .f32) (ix3 r j i)
    = (par m c).emb (nbr (near m c r) j) i := by
  have hk := v82_row m c r j
  simp only [at1 m c 107 _ rfl, at1 m c 108 _ rfl, at1 m c 109 _ rfl,
    at1 m c 110 _ rfl, at1 m c 111 _ rfl, at1 m c 112 _ rfl, at1 m c 113 _ rfl, at1 m c 114 _ rfl, at1 m c 115 _ rfl, at1 m c 116 _ rfl, at1 m c 117 _ rfl,
    at1 m c 118 _ rfl, at1 m c 119 _ rfl, at1 m c 120 _ rfl, at1 m c 121 _ rfl, at1 m c 122 _ rfl, at1 m c 123 _ rfl, at1 m c 124 _ rfl, at1 m c 125 _ rfl,
    at1 m c 126 _ rfl, at1 m c 127 _ rfl, at1 m c 128 _ rfl, at1 m c 129 _ rfl]
  pointwise []
  generalize fin m c (Proc.devRef .tc main_v82) = k at *
  have hg := gather_stack (fin m c (Proc.devRef .tc main_arg17))
    (broadcastInDim S16384x4x1 ![0, 1] Gen.bcast_S16384x4_S16384x4x1_0_1
      (select (cmpi .slt k (broadcastInDim S16384x4 ![] Gen.bcast_S_S16384x4 (constantI S_ 32 0#32)))
        (addi k (broadcastInDim S16384x4 ![] Gen.bcast_S_S16384x4 (constantI S_ 32 256#32))) k))
    r j i (nbr (near m c r) j) (by pointwise []; rw [hk]; exact wrap_row _)
  rw [hk, wrap_row, inside_row]
  rw [show (Finset.univ : Finset (Fin 1)).fold IntOp.andi (1#1) (fun _ => 1#1) = 1#1 from rfl]
  exact hg

/-! ## The losses -/

/-- The commitment loss. -/
theorem v138_cell : (fin m c (Proc.devRef .tc main_v138) : Vec Ideal S1x1 .f32) (ix2 0 0) = commit (par m c) (zeRow m c) (near m c) := by
  have hx := v26_row m c
  have hy := v42_row m c
  simp only [at2 m c 104 _ rfl, at1 m c 1 _ rfl, at1 m c 0 _ rfl, at0 m c 87 _ rfl, at0 m c 88 _ rfl, at0 m c 89 _ rfl, at0 m c 90 _ rfl,
   at0 m c 91 _ rfl, at0 m c 92 _ rfl, at0 m c 93 _ rfl, at0 m c 94 _ rfl, at0 m c 95 _ rfl, at0 m c 96 _ rfl, at0 m c 97 _ rfl]
  generalize fin m c (Proc.devRef .tc main_v26) = x at *
  generalize fin m c (Proc.devRef .tc main_v42) = y at *
  pointwise []
  have hx' : ∀ r i, x (ix2 r i) = zeRow m c r i := fun r i => congrFun (hx r) i
  have hy' : ∀ r i, y (ix2 r i) = (par m c).emb (near m c r) i := fun r i => congrFun (hy r) i
  simp only [hx', hy']
  rfl

/-- The map loss. -/
theorem v139_cell : (fin m c (Proc.devRef .tc main_v139) : Vec Ideal S1x1 .f32) (ix2 0 0) = som (par m c) (zeRow m c) (near m c) := by
  have hx := v26_row m c
  have hy' := v83_row m c
  simp only [at2 m c 105 _ rfl, at1 m c 130 _ rfl, at1 m c 131 _ rfl, at1 m c 132 _ rfl, at1 m c 133 _ rfl, at1 m c 134 _ rfl, at1 m c 135 _ rfl, at1 m c 136 _ rfl, at1 m c 137 _ rfl]
  generalize fin m c (Proc.devRef .tc main_v26) = x at *
  generalize fin m c (Proc.devRef .tc main_v83) = y at *
  pointwise []
  have hx' : ∀ r i, x (ix2 r i) = zeRow m c r i := fun r i => congrFun (hx r) i
  simp only [hx', hy']
  rfl

/-- An array of one cell from its cell. -/
theorem cell_eq (x : Vec Ideal S1x1 .f32) (v : EReal) (h : x (ix2 0 0) = v) : x = ofRows (N := 1) (n := 1) fun _ _ => v := by
  funext i
  obtain ⟨a, b, rfl⟩ : ∃ (a : Fin 1) (b : Fin 1), i = ix2 a b := ⟨i 0, i 1, eq_ix2 i⟩
  obtain rfl : a = 0 := Subsingleton.elim _ _
  obtain rfl : b = 0 := Subsingleton.elim _ _
  exact h

/-- The two losses as arrays, and after a run. -/
theorem final_commit : fin m c (Proc.devRef .tc main_v138) = ofRows (N := 1) (n := 1) fun _ _ => commit (par m c) (zeRow m c) (near m c) :=
  cell_eq _ _ (v138_cell m c)
theorem final_som : fin m c (Proc.devRef .tc main_v139) = ofRows (N := 1) (n := 1) fun _ _ => som (par m c) (zeRow m c) (near m c) :=
  cell_eq _ _ (v139_cell m c)

theorem losses (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v138) = ofRows (N := 1) (n := 1) (fun _ _ => commit (par m c) (zeRow m c) (near m c))
      ∧ r.2.mem ((c.tc : Thread nD τ).loc main_v139) = ofRows (N := 1) (n := 1) (fun _ _ => som (par m c) (zeRow m c) (near m c))) :=
  (θ_run _ _ _).mono (fun r h c => ⟨(h c main_v138).trans (final_commit m c), (h c main_v139).trans (final_som m c)⟩) (run m ρ)

end Cert.ReferenceIdeal.Hand
-- ==== Proof.Finite.lean ====
/-
  What the precondition says: the input, the noise, the encoder's parameters and the table hold real numbers, so that the
  encodings are real.
-/
module

public import proofs.«01_k».proof.Defs
public import proofs.«01_k».proof.Proof.KernelArrays
public import proofs.«01_k».proof.Proof.SpecLoss

@[expose] public section

set_option maxRecDepth 16384

noncomputable section

namespace Cert.KernelIdeal.Hand

open Cert.KernelIdeal
open Idealize.ShloMosaic Idealize.ShloMosaic.TcCoe Idealize.ShloMosaic.Pointwise
open Cert.Spec

/-- The facts of the precondition's program. -/
theorem preFacts : Cert.Pre_finite_inputs.Facts where
  bcast_S_S16384x1 := by decide
  bcast_S_S10x1 := by decide
  bcast_S_S10 := by decide
  bcast_S_S50x10 := by decide
  bcast_S_S50 := by decide
  bcast_S_S256x50 := by decide
  bcast_S_S256 := by decide
  bcast_S_S256x256 := by decide
  bcast_S_S16384x256 := by decide

/-- An extended real whose absolute value is below infinity is a real number. -/
theorem isReal_of_lt {v : EReal} (h : max v (-v) < ⊤) : IsReal v := by
  induction v with
  | bot => simp at h
  | top => simp at h
  | coe x => exact ⟨x, rfl⟩

/-- One entry of an array whose entries all have absolute values below infinity. -/
theorem real_entry {s : Shape} (x : FVec Ideal s .f32) (hb : (⟨0, ![]⟩ : Shape).BroadcastsInDim s (![] : Fin 0 → Fin s.rank))
    (h : cmpf .olt (Host.absf x) (broadcastInDim s ![] hb (constant ⟨0, ![]⟩ .f32 0x7F800000#32)) = fun _ => 1#1) (i : s.Idx) :
    IsReal (x i) := by
  have e : Ideal.cmp .olt (max (x i) (-(x i))) (Ideal.ofBits .f32 0x7F800000#32) = 1#1 := congrFun h i
  rw [ofBits_inf] at e
  refine isReal_of_lt ?_
  by_contra hn
  simp [Ideal.cmp, hn] at e

variable {m : (ℓ : Loc nD τ sig) → Buf (Elt Ideal) ℓ}

/-- Under the precondition the parameters and the encodings are real. -/
theorem real_of_pre (h : Pre_KernelIdeal_finite_inputs (hPre_finite_inputs := preFacts) m) (c : Dev nD) :
    (par m c).Real ∧ ∀ R i, IsReal (zeRow m c R i) := by
  obtain ⟨h0, h1, h2, h3, h4, h5, h6, h7, h8, h17, h18⟩ := h c
  have hp : (par m c).Real :=
    { w0 := fun j => real_entry _ _ h1 (ix2 j 0)
      b0 := fun j => real_entry _ _ h2 (ix1 j)
      w1 := fun j i => real_entry _ _ h3 (ix2 j i)
      b1 := fun j => real_entry _ _ h4 (ix1 j)
      wm := fun j i => real_entry _ _ h5 (ix2 j i)
      bm := fun j => real_entry _ _ h6 (ix1 j)
      wv := fun j i => real_entry _ _ h7 (ix2 j i)
      bv := fun j => real_entry _ _ h8 (ix1 j)
      emb := fun k i => real_entry _ _ h17 (ix2 k i) }
  exact ⟨hp, fun R i => ze_real hp (real_entry _ _ h0 (ix2 R 0)) (fun i => real_entry _ _ h18 (ix2 R i)) i⟩

end Cert.KernelIdeal.Hand
-- ==== Proof.lean ====
/-
  The claim: the kernel's two frames, the reference's, the equality of the four row results at the extended reals, and, for finite
  inputs, of all six.
-/
module

public import proofs.«01_k».proof.Defs
public import proofs.«01_k».proof.Proof.Run
public import proofs.«01_k».proof.Proof.KernelResults
public import proofs.«01_k».proof.Proof.RefResults
public import proofs.«01_k».proof.Proof.KernelLoss
public import proofs.«01_k».proof.Proof.RefLoss
public import proofs.«01_k».proof.Proof.Finite
public import proofs.«01_k».proof.Proof.Gen.Kernel
public import proofs.«01_k».proof.Proof.Gen.KernelIdeal
public import proofs.«01_k».proof.Proof.Gen.ReferenceIdeal
public import Idealize.ShloMosaic.Adequacy
public import Idealize.ShloMosaic.Init

@[expose] public section

set_option maxRecDepth 16384

noncomputable section

namespace Cert.Proof

open Idealize.ShloMosaic Idealize.SL.Sem
open Cert.Spec

/-- The facts of the mask's program. -/
theorem maskFacts : Cert.On_all_but_losses.Facts where
  bcast_S_S16384x256 := by decide
  bcast_S_S16384x1 := by decide
  bcast_S_S1x1 := by decide

section Agree

attribute [local irreducible] Cert.ReferenceIdeal.Hand.fin

variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ)
  (c : Dev Cert.KernelIdeal.nD)

/-- The two memories hold the same arguments on core `c`. -/
def Agree : Prop :=
  m' ((c.tc : Thread Cert.ReferenceIdeal.nD Cert.ReferenceIdeal.τ).loc Cert.ReferenceIdeal.main_arg0)
    = m ((c.tc : Thread Cert.KernelIdeal.nD Cert.KernelIdeal.τ).loc Cert.KernelIdeal.main_arg0)
  ∧ m' ((c.tc : Thread Cert.ReferenceIdeal.nD Cert.ReferenceIdeal.τ).loc Cert.ReferenceIdeal.main_arg1)
    = m ((c.tc : Thread Cert.KernelIdeal.nD Cert.KernelIdeal.τ).loc Cert.KernelIdeal.main_arg1)
  ∧ m' ((c.tc : Thread Cert.ReferenceIdeal.nD Cert.ReferenceIdeal.τ).loc Cert.ReferenceIdeal.main_arg2)
    = m ((c.tc : Thread Cert.KernelIdeal.nD Cert.KernelIdeal.τ).loc Cert.KernelIdeal.main_arg2)
  ∧ m' ((c.tc : Thread Cert.ReferenceIdeal.nD Cert.ReferenceIdeal.τ).loc Cert.ReferenceIdeal.main_arg3)
    = m ((c.tc : Thread Cert.KernelIdeal.nD Cert.KernelIdeal.τ).loc Cert.KernelIdeal.main_arg3)
  ∧ m' ((c.tc : Thread Cert.ReferenceIdeal.nD Cert.ReferenceIdeal.τ).loc Cert.ReferenceIdeal.main_arg4)
    = m ((c.tc : Thread Cert.KernelIdeal.nD Cert.KernelIdeal.τ).loc Cert.KernelIdeal.main_arg4)
  ∧ m' ((c.tc : Thread Cert.ReferenceIdeal.nD Cert.ReferenceIdeal.τ).loc Cert.ReferenceIdeal.main_arg5)
    = m ((c.tc : Thread Cert.KernelIdeal.nD Cert.KernelIdeal.τ).loc Cert.KernelIdeal.main_arg5)
  ∧ m' ((c.tc : Thread Cert.ReferenceIdeal.nD Cert.ReferenceIdeal.τ).loc Cert.ReferenceIdeal.main_arg6)
    = m ((c.tc : Thread Cert.KernelIdeal.nD Cert.KernelIdeal.τ).loc Cert.KernelIdeal.main_arg6)
  ∧ m' ((c.tc : Thread Cert.ReferenceIdeal.nD Cert.ReferenceIdeal.τ).loc Cert.ReferenceIdeal.main_arg7)
    = m ((c.tc : Thread Cert.KernelIdeal.nD Cert.KernelIdeal.τ).loc Cert.KernelIdeal.main_arg7)
  ∧ m' ((c.tc : Thread Cert.ReferenceIdeal.nD Cert.ReferenceIdeal.τ).loc Cert.ReferenceIdeal.main_arg8)
    = m ((c.tc : Thread Cert.KernelIdeal.nD Cert.KernelIdeal.τ).loc Cert.KernelIdeal.main_arg8)
  ∧ m' ((c.tc : Thread Cert.ReferenceIdeal.nD Cert.ReferenceIdeal.τ).loc Cert.ReferenceIdeal.main_arg9)
    = m ((c.tc : Thread Cert.KernelIdeal.nD Cert.KernelIdeal.τ).loc Cert.KernelIdeal.main_arg9)
  ∧ m' ((c.tc : Thread Cert.ReferenceIdeal.nD Cert.ReferenceIdeal.τ).loc Cert.ReferenceIdeal.main_arg10)
    = m ((c.tc : Thread Cert.KernelIdeal.nD Cert.KernelIdeal.τ).loc Cert.KernelIdeal.main_arg10)
  ∧ m' ((c.tc : Thread Cert.ReferenceIdeal.nD Cert.ReferenceIdeal.τ).loc Cert.ReferenceIdeal.main_arg11)
    = m ((c.tc : Thread Cert.KernelIdeal.nD Cert.KernelIdeal.τ).loc Cert.KernelIdeal.main_arg11)
  ∧ m' ((c.tc : Thread Cert.ReferenceIdeal.nD Cert.ReferenceIdeal.τ).loc Cert.ReferenceIdeal.main_arg12)
    = m ((c.tc : Thread Cert.KernelIdeal.nD Cert.KernelIdeal.τ).loc Cert.KernelIdeal.main_arg12)
  ∧ m' ((c.tc : Thread Cert.ReferenceIdeal.nD Cert.ReferenceIdeal.τ).loc Cert.ReferenceIdeal.main_arg13)
    = m ((c.tc : Thread Cert.KernelIdeal.nD Cert.KernelIdeal.τ).loc Cert.KernelIdeal.main_arg13)
  ∧ m' ((c.tc : Thread Cert.ReferenceIdeal.nD Cert.ReferenceIdeal.τ).loc Cert.ReferenceIdeal.main_arg14)
    = m ((c.tc : Thread Cert.KernelIdeal.nD Cert.KernelIdeal.τ).loc Cert.KernelIdeal.main_arg14)
  ∧ m' ((c.tc : Thread Cert.ReferenceIdeal.nD Cert.ReferenceIdeal.τ).loc Cert.ReferenceIdeal.main_arg15)
    = m ((c.tc : Thread Cert.KernelIdeal.nD Cert.KernelIdeal.τ).loc Cert.KernelIdeal.main_arg15)
  ∧ m' ((c.tc : Thread Cert.ReferenceIdeal.nD Cert.ReferenceIdeal.τ).loc Cert.ReferenceIdeal.main_arg16)
    = m ((c.tc : Thread Cert.KernelIdeal.nD Cert.KernelIdeal.τ).loc Cert.KernelIdeal.main_arg16)
  ∧ m' ((c.tc : Thread Cert.ReferenceIdeal.nD Cert.ReferenceIdeal.τ).loc Cert.ReferenceIdeal.main_arg17)
    = m ((c.tc : Thread Cert.KernelIdeal.nD Cert.KernelIdeal.τ).loc Cert.KernelIdeal.main_arg17)
  ∧ m' ((c.tc : Thread Cert.ReferenceIdeal.nD Cert.ReferenceIdeal.τ).loc Cert.ReferenceIdeal.main_arg18)
    = m ((c.tc : Thread Cert.KernelIdeal.nD Cert.KernelIdeal.τ).loc Cert.KernelIdeal.main_arg18)

variable {m m' c}

/-- The reference's parameters are the kernel's. -/
theorem par_eq (h : Agree m m' c) : Cert.ReferenceIdeal.Hand.par m' c = Cert.KernelIdeal.Hand.par m c := by
  obtain ⟨h0, h1, h2, h3, h4, h5, h6, h7, h8, h9, h10, h11, h12, h13, h14, h15, h16, h17, h18⟩ := h
  unfold Cert.ReferenceIdeal.Hand.par Cert.KernelIdeal.Hand.par
  rw [Cert.ReferenceIdeal.Hand.fin_arg m' c Cert.ReferenceIdeal.main_arg1 (by decide), h1,
    Cert.ReferenceIdeal.Hand.fin_arg m' c Cert.ReferenceIdeal.main_arg2 (by decide), h2,
    Cert.ReferenceIdeal.Hand.fin_arg m' c Cert.ReferenceIdeal.main_arg3 (by decide), h3,
    Cert.ReferenceIdeal.Hand.fin_arg m' c Cert.ReferenceIdeal.main_arg4 (by decide), h4,
    Cert.ReferenceIdeal.Hand.fin_arg m' c Cert.ReferenceIdeal.main_arg5 (by decide), h5,
    Cert.ReferenceIdeal.Hand.fin_arg m' c Cert.ReferenceIdeal.main_arg6 (by decide), h6,
    Cert.ReferenceIdeal.Hand.fin_arg m' c Cert.ReferenceIdeal.main_arg7 (by decide), h7,
    Cert.ReferenceIdeal.Hand.fin_arg m' c Cert.ReferenceIdeal.main_arg8 (by decide), h8,
    Cert.ReferenceIdeal.Hand.fin_arg m' c Cert.ReferenceIdeal.main_arg9 (by decide), h9,
    Cert.ReferenceIdeal.Hand.fin_arg m' c Cert.ReferenceIdeal.main_arg10 (by decide), h10,
    Cert.ReferenceIdeal.Hand.fin_arg m' c Cert.ReferenceIdeal.main_arg11 (by decide), h11,
    Cert.ReferenceIdeal.Hand.fin_arg m' c Cert.ReferenceIdeal.main_arg12 (by decide), h12,
    Cert.ReferenceIdeal.Hand.fin_arg m' c Cert.ReferenceIdeal.main_arg13 (by decide), h13,
    Cert.ReferenceIdeal.Hand.fin_arg m' c Cert.ReferenceIdeal.main_arg14 (by decide), h14,
    Cert.ReferenceIdeal.Hand.fin_arg m' c Cert.ReferenceIdeal.main_arg15 (by decide), h15,
    Cert.ReferenceIdeal.Hand.fin_arg m' c Cert.ReferenceIdeal.main_arg16 (by decide), h16,
    Cert.ReferenceIdeal.Hand.fin_arg m' c Cert.ReferenceIdeal.main_arg17 (by decide), h17]

/-- The reference's encoding is the kernel's. -/
theorem zeRow_eq (h : Agree m m' c) : Cert.ReferenceIdeal.Hand.zeRow m' c = Cert.KernelIdeal.Hand.zeRow m c := by
  funext r
  unfold Cert.ReferenceIdeal.Hand.zeRow Cert.KernelIdeal.Hand.zeRow
  rw [par_eq h]
  obtain ⟨h0, h1, h2, h3, h4, h5, h6, h7, h8, h9, h10, h11, h12, h13, h14, h15, h16, h17, h18⟩ := h
  rw [Cert.ReferenceIdeal.Hand.fin_arg m' c Cert.ReferenceIdeal.main_arg0 (by decide), h0,
    Cert.ReferenceIdeal.Hand.fin_arg m' c Cert.ReferenceIdeal.main_arg18 (by decide), h18]
  rfl

/-- The reference's nearest row is the kernel's. -/
theorem near_eq (h : Agree m m' c) : Cert.ReferenceIdeal.Hand.near m' c = Cert.KernelIdeal.Hand.near m c := by
  funext r
  unfold Cert.ReferenceIdeal.Hand.near Cert.KernelIdeal.Hand.near
  rw [par_eq h, zeRow_eq h]

end Agree

/-- The four row results of the two programs are equal at the extended reals. -/
theorem rows : algebraic_KernelIdeal_ReferenceIdeal_on_all_but_losses (hKernelIdeal := Cert.KernelIdeal.Gen.facts)
    (hReferenceIdeal := Cert.ReferenceIdeal.Gen.facts) (hOn_all_but_losses := maskFacts) := by
  intro m g m' g' _ hagree
  refine ⟨fun c => ofRows (Cert.KernelIdeal.Hand.zeRow m c),
    fun c => ofRows (fun r => (Cert.KernelIdeal.Hand.par m c).emb (Cert.KernelIdeal.Hand.near m c r)),
    fun c => ofRows (fun r (_ : Fin 1) => dec (Cert.KernelIdeal.Hand.par m c) (Cert.KernelIdeal.Hand.zeRow m c r)),
    fun c => ofRows (fun r (_ : Fin 1) => dec (Cert.KernelIdeal.Hand.par m c)
      ((Cert.KernelIdeal.Hand.par m c).emb (Cert.KernelIdeal.Hand.near m c r))),
    fun c => m ((c.tc : Thread Cert.KernelIdeal.nD Cert.KernelIdeal.τ).loc Cert.KernelIdeal.main_v12_4),
    fun c => m ((c.tc : Thread Cert.KernelIdeal.nD Cert.KernelIdeal.τ).loc Cert.KernelIdeal.main_v12_5), ?_, ?_⟩
  · refine (θ_run _ _ _).mono (fun r h c => ?_) (θ_run_and (Cert.KernelIdeal.Hand.results m g) (Cert.KernelIdeal.Hand.frame m g))
    obtain ⟨h0, h1, h2, h3⟩ := h.1 c
    exact ⟨fun i _ => congrFun h0 i, fun i _ => congrFun h1 i, fun i _ => congrFun h2 i, fun i _ => congrFun h3 i,
      fun i hi => absurd hi (by decide : ¬ (0#1 : BitVec 1) = 1#1), fun i hi => absurd hi (by decide : ¬ (0#1 : BitVec 1) = 1#1), h.2.1 c⟩
  · refine (θ_run _ _ _).mono (fun r h c => ?_) (θ_run_and (Cert.ReferenceIdeal.Hand.results m' g') (Cert.ReferenceIdeal.Hand.frame m' g'))
    obtain ⟨h0, h1, h2, h3⟩ := h.1 c
    have e0 := par_eq (hagree c)
    have e1 := zeRow_eq (hagree c)
    have e2 := near_eq (hagree c)
    rw [e1] at h0
    rw [e0, e2] at h1
    rw [e0, e1] at h2
    rw [e0, e2] at h3
    exact ⟨fun i _ => congrFun h0 i, fun i _ => congrFun h1 i, fun i _ => congrFun h2 i, fun i _ => congrFun h3 i,
      fun i hi => absurd hi (by decide : ¬ (0#1 : BitVec 1) = 1#1), fun i hi => absurd hi (by decide : ¬ (0#1 : BitVec 1) = 1#1), h.2.1 c⟩

/-- For finite inputs the six results of the two programs are equal at the extended reals. -/
theorem all_results : algebraic_KernelIdeal_ReferenceIdeal_pre_finite_inputs (hKernelIdeal := Cert.KernelIdeal.Gen.facts)
    (hReferenceIdeal := Cert.ReferenceIdeal.Gen.facts) (hPre_finite_inputs := Cert.KernelIdeal.Hand.preFacts) := by
  intro m g m' g' hpre hagree
  have hr := fun c => Cert.KernelIdeal.Hand.real_of_pre hpre c
  refine ⟨fun c => ofRows (Cert.KernelIdeal.Hand.zeRow m c),
    fun c => ofRows (fun r => (Cert.KernelIdeal.Hand.par m c).emb (Cert.KernelIdeal.Hand.near m c r)),
    fun c => ofRows (fun r (_ : Fin 1) => dec (Cert.KernelIdeal.Hand.par m c) (Cert.KernelIdeal.Hand.zeRow m c r)),
    fun c => ofRows (fun r (_ : Fin 1) => dec (Cert.KernelIdeal.Hand.par m c)
      ((Cert.KernelIdeal.Hand.par m c).emb (Cert.KernelIdeal.Hand.near m c r))),
    fun c => ofRows (N := 1) (n := 1) fun _ _ =>
      commit (Cert.KernelIdeal.Hand.par m c) (Cert.KernelIdeal.Hand.zeRow m c) (Cert.KernelIdeal.Hand.near m c),
    fun c => ofRows (N := 1) (n := 1) fun _ _ =>
      som (Cert.KernelIdeal.Hand.par m c) (Cert.KernelIdeal.Hand.zeRow m c) (Cert.KernelIdeal.Hand.near m c), ?_, ?_⟩
  · refine (θ_run _ _ _).mono (fun r h c => ?_) (θ_run_and (θ_run_and (Cert.KernelIdeal.Hand.results m g)
      (Cert.KernelIdeal.Hand.losses m g (fun c => (hr c).2) fun c => (hr c).1.emb)) (Cert.KernelIdeal.Hand.frame m g))
    obtain ⟨h0, h1, h2, h3⟩ := h.1.1 c
    obtain ⟨h4, h5⟩ := h.1.2 c
    exact ⟨h0, h1, h2, h3, h4, h5, h.2.1 c⟩
  · refine (θ_run _ _ _).mono (fun r h c => ?_) (θ_run_and (θ_run_and (Cert.ReferenceIdeal.Hand.results m' g')
      (Cert.ReferenceIdeal.Hand.losses m' g')) (Cert.ReferenceIdeal.Hand.frame m' g'))
    obtain ⟨h0, h1, h2, h3⟩ := h.1.1 c
    obtain ⟨h4, h5⟩ := h.1.2 c
    have e0 := par_eq (hagree c)
    have e1 := zeRow_eq (hagree c)
    have e2 := near_eq (hagree c)
    rw [e1] at h0
    rw [e0, e2] at h1
    rw [e0, e1] at h2
    rw [e0, e2] at h3
    rw [e0, e1, e2] at h4 h5
    exact ⟨h0, h1, h2, h3, h4, h5, h.2.1 c⟩

theorem claim : Cert.Claim :=
  ⟨Cert.Kernel.Gen.facts, Cert.KernelIdeal.Gen.facts, Cert.ReferenceIdeal.Gen.facts, Cert.KernelIdeal.Hand.preFacts, maskFacts,
    fun m ρ _ => Cert.Kernel.Hand.frame m ρ, fun m ρ _ => Cert.KernelIdeal.Hand.frame m ρ,
    fun m ρ _ => Cert.KernelIdeal.Hand.frame m ρ, fun m ρ _ => Cert.ReferenceIdeal.Hand.frame m ρ,
    fun m ρ _ => Cert.ReferenceIdeal.Hand.frame m ρ, trivial, rows, all_results⟩

end Cert.Proof
